-- ==== Defs.lean ====
def Pre_Dw13 (m : (ℓ : Loc Cert.Dw13.nD Cert.Dw13.τ Cert.Dw13.sig) → Buf (Elt Bits) ℓ) : Prop :=
  True

def Pre_Dw13Ideal (m : (ℓ : Loc Cert.Dw13Ideal.nD Cert.Dw13Ideal.τ Cert.Dw13Ideal.sig) → Buf (Elt Ideal) ℓ) : Prop :=
  True

def Pre_Dw13RefIdeal (m : (ℓ : Loc Cert.Dw13RefIdeal.nD Cert.Dw13RefIdeal.τ Cert.Dw13RefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_Dw13 [hDw13 : Cert.Dw13.Facts] : Prop :=
  ∀ (m : (ℓ : Loc Cert.Dw13.nD Cert.Dw13.τ Cert.Dw13.sig) → Buf (Elt Bits) ℓ) (g : Dev Cert.Dw13.nD → PrngReg), Pre_Dw13 m →
    θ_run (Cert.Dw13.defs (F := Bits)) (onTc (τ := Cert.Dw13.τ) (Cert.Dw13.main (F := Bits))) ⟨m, fun _ => 0, g⟩ (fun r => (∀ c : Dev Cert.Dw13.nD,
      r.2.mem ((c.tc : Thread Cert.Dw13.nD Cert.Dw13.τ).loc Cert.Dw13.main_arg0) = m ((c.tc : Thread Cert.Dw13.nD Cert.Dw13.τ).loc Cert.Dw13.main_arg0)
      ∧ r.2.mem ((c.tc : Thread Cert.Dw13.nD Cert.Dw13.τ).loc Cert.Dw13.main_arg1) = m ((c.tc : Thread Cert.Dw13.nD Cert.Dw13.τ).loc Cert.Dw13.main_arg1)
      ∧ r.2.mem ((c.tc : Thread Cert.Dw13.nD Cert.Dw13.τ).loc Cert.Dw13.main_arg2) = m ((c.tc : Thread Cert.Dw13.nD Cert.Dw13.τ).loc Cert.Dw13.main_arg2)
      ∧ r.2.mem ((c.tc : Thread Cert.Dw13.nD Cert.Dw13.τ).loc Cert.Dw13.main_arg3) = m ((c.tc : Thread Cert.Dw13.nD Cert.Dw13.τ).loc Cert.Dw13.main_arg3))
      ∧ r.2.sem = fun _ => 0)

def quiescent_Dw13Ideal [hDw13Ideal : Cert.Dw13Ideal.Facts] : Prop :=
  ∀ (m : (ℓ : Loc Cert.Dw13Ideal.nD Cert.Dw13Ideal.τ Cert.Dw13Ideal.sig) → Buf (Elt Ideal) ℓ) (g : Dev Cert.Dw13Ideal.nD → PrngReg), Pre_Dw13Ideal m →
    θ_run (Cert.Dw13Ideal.defs (F := Ideal)) (onTc (τ := Cert.Dw13Ideal.τ) (Cert.Dw13Ideal.main (F := Ideal))) ⟨m, fun _ => 0, g⟩ (fun r => (∀ c : Dev Cert.Dw13Ideal.nD,
      r.2.mem ((c.tc : Thread Cert.Dw13Ideal.nD Cert.Dw13Ideal.τ).loc Cert.Dw13Ideal.main_arg0) = m ((c.tc : Thread Cert.Dw13Ideal.nD Cert.Dw13Ideal.τ).loc Cert.Dw13Ideal.main_arg0)
      ∧ r.2.mem ((c.tc : Thread Cert.Dw13Ideal.nD Cert.Dw13Ideal.τ).loc Cert.Dw13Ideal.main_arg1) = m ((c.tc : Thread Cert.Dw13Ideal.nD Cert.Dw13Ideal.τ).loc Cert.Dw13Ideal.main_arg1)
      ∧ r.2.mem ((c.tc : Thread Cert.Dw13Ideal.nD Cert.Dw13Ideal.τ).loc Cert.Dw13Ideal.main_arg2) = m ((c.tc : Thread Cert.Dw13Ideal.nD Cert.Dw13Ideal.τ).loc Cert.Dw13Ideal.main_arg2)
      ∧ r.2.mem ((c.tc : Thread Cert.Dw13Ideal.nD Cert.Dw13Ideal.τ).loc Cert.Dw13Ideal.main_arg3) = m ((c.tc : Thread Cert.Dw13Ideal.nD Cert.Dw13Ideal.τ).loc Cert.Dw13Ideal.main_arg3))
      ∧ r.2.sem = fun _ => 0)

def quiescent_Dw13RefIdeal [hDw13RefIdeal : Cert.Dw13RefIdeal.Facts] : Prop :=
  ∀ (m : (ℓ : Loc Cert.Dw13RefIdeal.nD Cert.Dw13RefIdeal.τ Cert.Dw13RefIdeal.sig) → Buf (Elt Ideal) ℓ) (g : Dev Cert.Dw13RefIdeal.nD → PrngReg), Pre_Dw13RefIdeal m →
    θ_run (Cert.Dw13RefIdeal.defs (F := Ideal)) (onTc (τ := Cert.Dw13RefIdeal.τ) (Cert.Dw13RefIdeal.main (F := Ideal))) ⟨m, fun _ => 0, g⟩ (fun r => (∀ c : Dev Cert.Dw13RefIdeal.nD,
      r.2.mem ((c.tc : Thread Cert.Dw13RefIdeal.nD Cert.Dw13RefIdeal.τ).loc Cert.Dw13RefIdeal.main_arg0) = m ((c.tc : Thread Cert.Dw13RefIdeal.nD Cert.Dw13RefIdeal.τ).loc Cert.Dw13RefIdeal.main_arg0)
      ∧ r.2.mem ((c.tc : Thread Cert.Dw13RefIdeal.nD Cert.Dw13RefIdeal.τ).loc Cert.Dw13RefIdeal.main_arg1) = m ((c.tc : Thread Cert.Dw13RefIdeal.nD Cert.Dw13RefIdeal.τ).loc Cert.Dw13RefIdeal.main_arg1)
      ∧ r.2.mem ((c.tc : Thread Cert.Dw13RefIdeal.nD Cert.Dw13RefIdeal.τ).loc Cert.Dw13RefIdeal.main_arg2) = m ((c.tc : Thread Cert.Dw13RefIdeal.nD Cert.Dw13RefIdeal.τ).loc Cert.Dw13RefIdeal.main_arg2)
      ∧ r.2.mem ((c.tc : Thread Cert.Dw13RefIdeal.nD Cert.Dw13RefIdeal.τ).loc Cert.Dw13RefIdeal.main_arg3) = m ((c.tc : Thread Cert.Dw13RefIdeal.nD Cert.Dw13RefIdeal.τ).loc Cert.Dw13RefIdeal.main_arg3))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1)
      ∧ r.2.mem ((c.tc : Thread Cert.Dw2.nD Cert.Dw2.τ).loc Cert.Dw2.main_arg2) = m ((c.tc : Thread Cert.Dw2.nD Cert.Dw2.τ).loc Cert.Dw2.main_arg2)
      ∧ r.2.mem ((c.tc : Thread Cert.Dw2.nD Cert.Dw2.τ).loc Cert.Dw2.main_arg3) = m ((c.tc : Thread Cert.Dw2.nD Cert.Dw2.τ).loc Cert.Dw2.main_arg3))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
      ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
      ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1)
      ∧ r.2.mem ((c.tc : Thread Cert.Dw2RefIdeal.nD Cert.Dw2RefIdeal.τ).loc Cert.Dw2RefIdeal.main_arg2) = m ((c.tc : Thread Cert.Dw2RefIdeal.nD Cert.Dw2RefIdeal.τ).loc Cert.Dw2RefIdeal.main_arg2)
      ∧ r.2.mem ((c.tc : Thread Cert.Dw2RefIdeal.nD Cert.Dw2RefIdeal.τ).loc Cert.Dw2RefIdeal.main_arg3) = m ((c.tc : Thread Cert.Dw2RefIdeal.nD Cert.Dw2RefIdeal.τ).loc Cert.Dw2RefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def preserves_Dw13_Dw13Ideal : Prop :=
  True

def algebraic_Dw13Ideal_Dw13RefIdeal [hDw13Ideal : Cert.Dw13Ideal.Facts] [hDw13RefIdeal : Cert.Dw13RefIdeal.Facts] : Prop :=
  ∀ (m : (ℓ : Loc Cert.Dw13Ideal.nD Cert.Dw13Ideal.τ Cert.Dw13Ideal.sig) → Buf (Elt Ideal) ℓ) (g : Dev Cert.Dw13Ideal.nD → PrngReg)
    (m' : (ℓ : Loc Cert.Dw13RefIdeal.nD Cert.Dw13RefIdeal.τ Cert.Dw13RefIdeal.sig) → Buf (Elt Ideal) ℓ) (g' : Dev Cert.Dw13RefIdeal.nD → PrngReg), Pre_Dw13Ideal m →
    (∀ c : Dev Cert.Dw13Ideal.nD,
      m' ((c.tc : Thread Cert.Dw13RefIdeal.nD Cert.Dw13RefIdeal.τ).loc Cert.Dw13RefIdeal.main_arg0) = m ((c.tc : Thread Cert.Dw13Ideal.nD Cert.Dw13Ideal.τ).loc Cert.Dw13Ideal.main_arg0)
      ∧ m' ((c.tc : Thread Cert.Dw13RefIdeal.nD Cert.Dw13RefIdeal.τ).loc Cert.Dw13RefIdeal.main_arg1) = m ((c.tc : Thread Cert.Dw13Ideal.nD Cert.Dw13Ideal.τ).loc Cert.Dw13Ideal.main_arg1)
      ∧ m' ((c.tc : Thread Cert.Dw13RefIdeal.nD Cert.Dw13RefIdeal.τ).loc Cert.Dw13RefIdeal.main_arg2) = m ((c.tc : Thread Cert.Dw13Ideal.nD Cert.Dw13Ideal.τ).loc Cert.Dw13Ideal.main_arg2)
      ∧ m' ((c.tc : Thread Cert.Dw13RefIdeal.nD Cert.Dw13RefIdeal.τ).loc Cert.Dw13RefIdeal.main_arg3) = m ((c.tc : Thread Cert.Dw13Ideal.nD Cert.Dw13Ideal.τ).loc Cert.Dw13Ideal.main_arg3)) →
    ∃ (v0 : (c : Dev Cert.Dw13Ideal.nD) → Buf (Elt Ideal) ((c.tc : Thread Cert.Dw13Ideal.nD Cert.Dw13Ideal.τ).loc Cert.Dw13Ideal.main_v0)),
      θ_run (Cert.Dw13Ideal.defs (F := Ideal)) (onTc (τ := Cert.Dw13Ideal.τ) (Cert.Dw13Ideal.main (F := Ideal))) ⟨m, fun _ => 0, g⟩ (fun r => ∀ c : Dev Cert.Dw13Ideal.nD,
          r.2.mem ((c.tc : Thread Cert.Dw13Ideal.nD Cert.Dw13Ideal.τ).loc Cert.Dw13Ideal.main_v0) = v0 c
          ∧ r.2.mem ((c.tc : Thread Cert.Dw13Ideal.nD Cert.Dw13Ideal.τ).loc Cert.Dw13Ideal.main_arg0) = m ((c.tc : Thread Cert.Dw13Ideal.nD Cert.Dw13Ideal.τ).loc Cert.Dw13Ideal.main_arg0)
          ∧ r.2.mem ((c.tc : Thread Cert.Dw13Ideal.nD Cert.Dw13Ideal.τ).loc Cert.Dw13Ideal.main_arg1) = m ((c.tc : Thread Cert.Dw13Ideal.nD Cert.Dw13Ideal.τ).loc Cert.Dw13Ideal.main_arg1)
          ∧ r.2.mem ((c.tc : Thread Cert.Dw13Ideal.nD Cert.Dw13Ideal.τ).loc Cert.Dw13Ideal.main_arg2) = m ((c.tc : Thread Cert.Dw13Ideal.nD Cert.Dw13Ideal.τ).loc Cert.Dw13Ideal.main_arg2)
          ∧ r.2.mem ((c.tc : Thread Cert.Dw13Ideal.nD Cert.Dw13Ideal.τ).loc Cert.Dw13Ideal.main_arg3) = m ((c.tc : Thread Cert.Dw13Ideal.nD Cert.Dw13Ideal.τ).loc Cert.Dw13Ideal.main_arg3))
      ∧ θ_run (Cert.Dw13RefIdeal.defs (F := Ideal)) (onTc (τ := Cert.Dw13RefIdeal.τ) (Cert.Dw13RefIdeal.main (F := Ideal))) ⟨m', fun _ => 0, g'⟩ (fun r => ∀ c : Dev Cert.Dw13RefIdeal.nD,
          r.2.mem ((c.tc : Thread Cert.Dw13RefIdeal.nD Cert.Dw13RefIdeal.τ).loc Cert.Dw13RefIdeal.main_v2) = v0 c
          ∧ r.2.mem ((c.tc : Thread Cert.Dw13RefIdeal.nD Cert.Dw13RefIdeal.τ).loc Cert.Dw13RefIdeal.main_arg0) = m' ((c.tc : Thread Cert.Dw13RefIdeal.nD Cert.Dw13RefIdeal.τ).loc Cert.Dw13RefIdeal.main_arg0)
          ∧ r.2.mem ((c.tc : Thread Cert.Dw13RefIdeal.nD Cert.Dw13RefIdeal.τ).loc Cert.Dw13RefIdeal.main_arg1) = m' ((c.tc : Thread Cert.Dw13RefIdeal.nD Cert.Dw13RefIdeal.τ).loc Cert.Dw13RefIdeal.main_arg1)
          ∧ r.2.mem ((c.tc : Thread Cert.Dw13RefIdeal.nD Cert.Dw13RefIdeal.τ).loc Cert.Dw13RefIdeal.main_arg2) = m' ((c.tc : Thread Cert.Dw13RefIdeal.nD Cert.Dw13RefIdeal.τ).loc Cert.Dw13RefIdeal.main_arg2)
          ∧ r.2.mem ((c.tc : Thread Cert.Dw13RefIdeal.nD Cert.Dw13RefIdeal.τ).loc Cert.Dw13RefIdeal.main_arg3) = m' ((c.tc : Thread Cert.Dw13RefIdeal.nD Cert.Dw13RefIdeal.τ).loc Cert.Dw13RefIdeal.main_arg3))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)
      ∧ m' ((c.tc : Thread Cert.Dw2RefIdeal.nD Cert.Dw2RefIdeal.τ).loc Cert.Dw2RefIdeal.main_arg2) = m ((c.tc : Thread Cert.Dw2Ideal.nD Cert.Dw2Ideal.τ).loc Cert.Dw2Ideal.main_arg2)
      ∧ m' ((c.tc : Thread Cert.Dw2RefIdeal.nD Cert.Dw2RefIdeal.τ).loc Cert.Dw2RefIdeal.main_arg3) = m ((c.tc : Thread Cert.Dw2Ideal.nD Cert.Dw2Ideal.τ).loc Cert.Dw2Ideal.main_arg3)) →
    ∃ (v0 : (c : Dev Cert.Dw2Ideal.nD) → Buf (Elt Ideal) ((c.tc : Thread Cert.Dw2Ideal.nD Cert.Dw2Ideal.τ).loc Cert.Dw2Ideal.main_v0)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0) = v0 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1)
          ∧ r.2.mem ((c.tc : Thread Cert.Dw2Ideal.nD Cert.Dw2Ideal.τ).loc Cert.Dw2Ideal.main_arg2) = m ((c.tc : Thread Cert.Dw2Ideal.nD Cert.Dw2Ideal.τ).loc Cert.Dw2Ideal.main_arg2)
          ∧ r.2.mem ((c.tc : Thread Cert.Dw2Ideal.nD Cert.Dw2Ideal.τ).loc Cert.Dw2Ideal.main_arg3) = m ((c.tc : Thread Cert.Dw2Ideal.nD Cert.Dw2Ideal.τ).loc Cert.Dw2Ideal.main_arg3))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v2) = v0 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1)
          ∧ r.2.mem ((c.tc : Thread Cert.Dw2RefIdeal.nD Cert.Dw2RefIdeal.τ).loc Cert.Dw2RefIdeal.main_arg2) = m' ((c.tc : Thread Cert.Dw2RefIdeal.nD Cert.Dw2RefIdeal.τ).loc Cert.Dw2RefIdeal.main_arg2)
          ∧ r.2.mem ((c.tc : Thread Cert.Dw2RefIdeal.nD Cert.Dw2RefIdeal.τ).loc Cert.Dw2RefIdeal.main_arg3) = m' ((c.tc : Thread Cert.Dw2RefIdeal.nD Cert.Dw2RefIdeal.τ).loc Cert.Dw2RefIdeal.main_arg3))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v0_0)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v5) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def Claim : Prop :=
  ∃ (hDw13 : Cert.Dw13.Facts) (hDw13Ideal : Cert.Dw13Ideal.Facts) (hDw13RefIdeal : Cert.Dw13RefIdeal.Facts) (hDw2 : Cert.Dw2.Facts) (hDw2Ideal : Cert.Dw2Ideal.Facts) (hDw2RefIdeal : Cert.Dw2RefIdeal.Facts) (hFwd : Cert.Fwd.Facts) (hFwdIdeal : Cert.FwdIdeal.Facts) (hFwdRefIdeal : Cert.FwdRefIdeal.Facts),
    quiescent_Dw13 (hDw13 := hDw13)
    ∧ quiescent_Dw13Ideal (hDw13Ideal := hDw13Ideal)
    ∧ quiescent_Dw13RefIdeal (hDw13RefIdeal := hDw13RefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Fwd (hFwd := hFwd)
    ∧ quiescent_FwdIdeal (hFwdIdeal := hFwdIdeal)
    ∧ quiescent_FwdRefIdeal (hFwdRefIdeal := hFwdRefIdeal)
    ∧ preserves_Dw13_Dw13Ideal
    ∧ algebraic_Dw13Ideal_Dw13RefIdeal (hDw13Ideal := hDw13Ideal) (hDw13RefIdeal := hDw13RefIdeal)
    ∧ preserves_Dw2_Dw2Ideal
    ∧ algebraic_Dw2Ideal_Dw2RefIdeal (hDw2Ideal := hDw2Ideal) (hDw2RefIdeal := hDw2RefIdeal)
    ∧ preserves_Fwd_FwdIdeal
    ∧ algebraic_FwdIdeal_FwdRefIdeal (hFwdIdeal := hFwdIdeal) (hFwdRefIdeal := hFwdRefIdeal)
-- ==== Dw13.lean ====
abbrev S12288x4096 : Shape := ⟨2, ![12288, 4096]⟩
abbrev S24x4x4096 : Shape := ⟨3, ![24, 4, 4096]⟩
abbrev S24x2x512x1536 : Shape := ⟨4, ![24, 2, 512, 1536]⟩
abbrev S24x4x2x1536 : Shape := ⟨4, ![24, 4, 2, 1536]⟩
abbrev S4096x2x1536 : Shape := ⟨3, ![4096, 2, 1536]⟩
abbrev S1024x1024 : Shape := ⟨2, ![1024, 1024]⟩
abbrev S2x4x1024 : Shape := ⟨3, ![2, 4, 1024]⟩
abbrev S2x2x512x1536 : Shape := ⟨4, ![2, 2, 512, 1536]⟩
abbrev S2x4x2x1536 : Shape := ⟨4, ![2, 4, 2, 1536]⟩
abbrev S1024x2x1536 : Shape := ⟨3, ![1024, 2, 1536]⟩
abbrev S1024x3072 : Shape := ⟨2, ![1024, 3072]⟩
abbrev S128x128 : Shape := ⟨2, ![128, 128]⟩
abbrev S1x1x128 : Shape := ⟨3, ![1, 1, 128]⟩
abbrev S1x128 : Shape := ⟨2, ![1, 128]⟩
abbrev S1x1x128x512 : Shape := ⟨4, ![1, 1, 128, 512]⟩
abbrev S128x512 : Shape := ⟨2, ![128, 512]⟩
abbrev S1x1x1x512 : Shape := ⟨4, ![1, 1, 1, 512]⟩
abbrev S1x512 : Shape := ⟨2, ![1, 512]⟩
abbrev S1024x512 : Shape := ⟨2, ![1024, 512]⟩
abbrev S1024x1536 : Shape := ⟨2, ![1024, 1536]⟩
abbrev S1024x1x1536 : Shape := ⟨3, ![1024, 1, 1536]⟩

abbrev nBuf : Space → Nat
  | .hbm => 5
  | .vmem => 13
  | .smem => 0
  | _ => 0

abbrev bufTy : (tb : Table) → Fin (tcTables nBuf tb) → BufTy
  | .hbm, ⟨0, _⟩ => ⟨S12288x4096, .fp8e4m3⟩
  | .hbm, ⟨1, _⟩ => ⟨S24x4x4096, .f32⟩
  | .hbm, ⟨2, _⟩ => ⟨S24x2x512x1536, .fp8e4m3⟩
  | .hbm, ⟨3, _⟩ => ⟨S24x4x2x1536, .f32⟩
  | .hbm, ⟨4, _⟩ => ⟨S4096x2x1536, .f32⟩
  | .local _ .vmem, ⟨0, _⟩ => ⟨S1024x1024, .fp8e4m3⟩
  | .local _ .vmem, ⟨1, _⟩ => ⟨S1024x1024, .fp8e4m3⟩
  | .local _ .vmem, ⟨2, _⟩ => ⟨S2x4x1024, .f32⟩
  | .local _ .vmem, ⟨3, _⟩ => ⟨S2x4x1024, .f32⟩
  | .local _ .vmem, ⟨4, _⟩ => ⟨S2x2x512x1536, .fp8e4m3⟩
  | .local _ .vmem, ⟨5, _⟩ => ⟨S2x2x512x1536, .fp8e4m3⟩
  | .local _ .vmem, ⟨6, _⟩ => ⟨S2x4x2x1536, .f32⟩
  | .local _ .vmem, ⟨7, _⟩ => ⟨S2x4x2x1536, .f32⟩
  | .local _ .vmem, ⟨8, _⟩ => ⟨S1024x2x1536, .f32⟩
  | .local _ .vmem, ⟨9, _⟩ => ⟨S1024x2x1536, .f32⟩
  | .local _ .vmem, ⟨10, _⟩ => ⟨S1024x1024, .bf16⟩
  | .local _ .vmem, ⟨11, _⟩ => ⟨S1024x3072, .bf16⟩
  | .local _ .vmem, ⟨12, _⟩ => ⟨S1024x3072, .f32⟩
  | _, _ => ⟨S12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 12], ![false, false]⟩

def k0_cond2 (i : grid0.Coords) : BitVec 1 :=
  let arg1 : BitVec 32 := BitVec.ofNat 32 (i 1).val
  let c11_i32 : BitVec 32 := 11#32
  let v1395 : BitVec 1 := Scalar.cmpi .eq arg1 c11_i32
  let v1396 : BitVec 32 := Scalar.extui v1395
  let c0_i32_967 : BitVec 32 := 0#32
  let v1397 : BitVec 1 := Scalar.cmpi .ne v1396 c0_i32_967
  v1397

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2x512x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x4x2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Dw13RefIdeal.lean ====
abbrev S12288x4096 : Shape := ⟨2, ![12288, 4096]⟩
abbrev S24x4x4096 : Shape := ⟨3, ![24, 4, 4096]⟩
abbrev S24x2x512x1536 : Shape := ⟨4, ![24, 2, 512, 1536]⟩
abbrev S24x4x2x1536 : Shape := ⟨4, ![24, 4, 2, 1536]⟩
abbrev S24x512x4096 : Shape := ⟨3, ![24, 512, 4096]⟩
abbrev S24x512x2x1536 : Shape := ⟨4, ![24, 512, 2, 1536]⟩
abbrev S4096x2x1536 : Shape := ⟨3, ![4096, 2, 1536]⟩
abbrev S24x4x128x4096 : Shape := ⟨4, ![24, 4, 128, 4096]⟩
abbrev S24x4x1x4096 : Shape := ⟨4, ![24, 4, 1, 4096]⟩
abbrev S24x4x128x2x1536 : Shape := ⟨5, ![24, 4, 128, 2, 1536]⟩
abbrev S24x4x1x2x1536 : Shape := ⟨5, ![24, 4, 1, 2, 1536]⟩

abbrev nBuf : Space → Nat
  | .hbm => 7
  | .vmem => 5
  | .smem => 0
  | _ => 0

abbrev bufTy : (tb : Table) → Fin (tcTables nBuf tb) → BufTy
  | .hbm, ⟨0, _⟩ => ⟨S12288x4096, .fp8e4m3⟩
  | .hbm, ⟨1, _⟩ => ⟨S24x4x4096, .f32⟩
  | .hbm, ⟨2, _⟩ => ⟨S24x2x512x1536, .fp8e4m3⟩
  | .hbm, ⟨3, _⟩ => ⟨S24x4x2x1536, .f32⟩
  | .hbm, ⟨4, _⟩ => ⟨S24x512x4096, .fp8e4m3⟩
  | .hbm, ⟨5, _⟩ => ⟨S24x512x2x1536, .fp8e4m3⟩
  | .hbm, ⟨6, _⟩ => ⟨S4096x2x1536, .f32⟩
  | .local _ .vmem, ⟨0, _⟩ => ⟨S24x512x4096, .fp8e4m3⟩
  | .local _ .vmem, ⟨1, _⟩ => ⟨S24x4x4096, .f32⟩
  | .local _ .vmem, ⟨2, _⟩ => ⟨S24x512x2x1536, .fp8e4m3⟩
  | .local _ .vmem, ⟨3, _⟩ => ⟨S24x4x2x1536, .f32⟩
  | .local _ .vmem, ⟨4, _⟩ => ⟨S4096x2x1536, .f32⟩
  | _, _ => ⟨S12288x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x512x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512x2x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x4x2x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Dw2.lean ====
abbrev S12288x1536 : Shape := ⟨2, ![12288, 1536]⟩
abbrev S24x4x1536 : Shape := ⟨3, ![24, 4, 1536]⟩
abbrev S12288x4096 : Shape := ⟨2, ![12288, 4096]⟩
abbrev S24x4x4096 : Shape := ⟨3, ![24, 4, 4096]⟩
abbrev S1536x4096 : Shape := ⟨2, ![1536, 4096]⟩
abbrev S1024x1536 : Shape := ⟨2, ![1024, 1536]⟩
abbrev S2x4x1536 : Shape := ⟨3, ![2, 4, 1536]⟩
abbrev S1024x2048 : Shape := ⟨2, ![1024, 2048]⟩
abbrev S2x4x2048 : Shape := ⟨3, ![2, 4, 2048]⟩
abbrev S1536x2048 : Shape := ⟨2, ![1536, 2048]⟩
abbrev S1536x1024 : Shape := ⟨2, ![1536, 1024]⟩
abbrev S128x128 : Shape := ⟨2, ![128, 128]⟩
abbrev S1x1x128 : Shape := ⟨3, ![1, 1, 128]⟩
abbrev S1x128 : Shape := ⟨2, ![1, 128]⟩
abbrev S128x512 : Shape := ⟨2, ![128, 512]⟩
abbrev S1x1x512 : Shape := ⟨3, ![1, 1, 512]⟩
abbrev S1x512 : Shape := ⟨2, ![1, 512]⟩
abbrev S1536x512 : Shape := ⟨2, ![1536, 512]⟩
abbrev S1024x512 : Shape := ⟨2, ![1024, 512]⟩

abbrev nBuf : Space → Nat
  | .hbm => 5
  | .vmem => 12
  | .smem => 0
  | _ => 0

abbrev bufTy : (tb : Table) → Fin (tcTables nBuf tb) → BufTy
  | .hbm, ⟨0, _⟩ => ⟨S12288x1536, .fp8e4m3⟩
  | .hbm, ⟨1, _⟩ => ⟨S24x4x1536, .f32⟩
  | .hbm, ⟨2, _⟩ => ⟨S12288x4096, .fp8e4m3⟩
  | .hbm, ⟨3, _⟩ => ⟨S24x4x4096, .f32⟩
  | .hbm, ⟨4, _⟩ => ⟨S1536x4096, .f32⟩
  | .local _ .vmem, ⟨0, _⟩ => ⟨S1024x1536, .fp8e4m3⟩
  | .local _ .vmem, ⟨1, _⟩ => ⟨S1024x1536, .fp8e4m3⟩
  | .local _ .vmem, ⟨2, _⟩ => ⟨S2x4x1536, .f32⟩
  | .local _ .vmem, ⟨3, _⟩ => ⟨S2x4x1536, .f32⟩
  | .local _ .vmem, ⟨4, _⟩ => ⟨S1024x2048, .fp8e4m3⟩
  | .local _ .vmem, ⟨5, _⟩ => ⟨S1024x2048, .fp8e4m3⟩
  | .local _ .vmem, ⟨6, _⟩ => ⟨S2x4x2048, .f32⟩
  | .local _ .vmem, ⟨7, _⟩ => ⟨S2x4x2048, .f32⟩
  | .local _ .vmem, ⟨8, _⟩ => ⟨S1536x2048, .f32⟩
  | .local _ .vmem, ⟨9, _⟩ => ⟨S1536x2048, .f32⟩
  | .local _ .vmem, ⟨10, _⟩ => ⟨S1536x1024, .bf16⟩
  | .local _ .vmem, ⟨11, _⟩ => ⟨S1024x2048, .bf16⟩
  | _, _ => ⟨S12288x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1536 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x4x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x4x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Dw2RefIdeal.lean ====
abbrev S12288x1536 : Shape := ⟨2, ![12288, 1536]⟩
abbrev S24x4x1536 : Shape := ⟨3, ![24, 4, 1536]⟩
abbrev S12288x4096 : Shape := ⟨2, ![12288, 4096]⟩
abbrev S24x4x4096 : Shape := ⟨3, ![24, 4, 4096]⟩
abbrev S24x512x1536 : Shape := ⟨3, ![24, 512, 1536]⟩
abbrev S24x512x4096 : Shape := ⟨3, ![24, 512, 4096]⟩
abbrev S1536x4096 : Shape := ⟨2, ![1536, 4096]⟩
abbrev S24x4x128x1536 : Shape := ⟨4, ![24, 4, 128, 1536]⟩
abbrev S24x4x1x1536 : Shape := ⟨4, ![24, 4, 1, 1536]⟩
abbrev S24x4x128x4096 : Shape := ⟨4, ![24, 4, 128, 4096]⟩
abbrev S24x4x1x4096 : Shape := ⟨4, ![24, 4, 1, 4096]⟩

abbrev nBuf : Space → Nat
  | .hbm => 7
  | .vmem => 5
  | .smem => 0
  | _ => 0

abbrev bufTy : (tb : Table) → Fin (tcTables nBuf tb) → BufTy
  | .hbm, ⟨0, _⟩ => ⟨S12288x1536, .fp8e4m3⟩
  | .hbm, ⟨1, _⟩ => ⟨S24x4x1536, .f32⟩
  | .hbm, ⟨2, _⟩ => ⟨S12288x4096, .fp8e4m3⟩
  | .hbm, ⟨3, _⟩ => ⟨S24x4x4096, .f32⟩
  | .hbm, ⟨4, _⟩ => ⟨S24x512x1536, .fp8e4m3⟩
  | .hbm, ⟨5, _⟩ => ⟨S24x512x4096, .fp8e4m3⟩
  | .hbm, ⟨6, _⟩ => ⟨S1536x4096, .f32⟩
  | .local _ .vmem, ⟨0, _⟩ => ⟨S24x512x1536, .fp8e4m3⟩
  | .local _ .vmem, ⟨1, _⟩ => ⟨S24x4x1536, .f32⟩
  | .local _ .vmem, ⟨2, _⟩ => ⟨S24x512x4096, .fp8e4m3⟩
  | .local _ .vmem, ⟨3, _⟩ => ⟨S24x4x4096, .f32⟩
  | .local _ .vmem, ⟨4, _⟩ => ⟨S1536x4096, .f32⟩
  | _, _ => ⟨S12288x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x512x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x4x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x512x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Fwd.lean ====
abbrev S12288x4096 : Shape := ⟨2, ![12288, 4096]⟩
abbrev S2x4096x1536 : Shape := ⟨3, ![2, 4096, 1536]⟩
abbrev S768 : Shape := ⟨1, ![768]⟩
abbrev S1536x4096 : Shape := ⟨2, ![1536, 4096]⟩
abbrev S384 : Shape := ⟨1, ![384]⟩
abbrev S12288x3072 : Shape := ⟨2, ![12288, 3072]⟩
abbrev S24x32x512 : Shape := ⟨3, ![24, 32, 512]⟩
abbrev S24x4x4096 : Shape := ⟨3, ![24, 4, 4096]⟩
abbrev S12288x1536 : Shape := ⟨2, ![12288, 1536]⟩
abbrev S12x24x512 : Shape := ⟨3, ![12, 24, 512]⟩
abbrev S24x4x1536 : Shape := ⟨3, ![24, 4, 1536]⟩
abbrev S256x4096 : Shape := ⟨2, ![256, 4096]⟩
abbrev S2x128x1536 : Shape := ⟨3, ![2, 128, 1536]⟩
abbrev S128x4096 : Shape := ⟨2, ![128, 4096]⟩
abbrev S256x3072 : Shape := ⟨2, ![256, 3072]⟩
abbrev S1x32x256 : Shape := ⟨3, ![1, 32, 256]⟩
abbrev S1x4x4096 : Shape := ⟨3, ![1, 4, 4096]⟩
abbrev S256x1536 : Shape := ⟨2, ![256, 1536]⟩
abbrev S1x4x1536 : Shape := ⟨3, ![1, 4, 1536]⟩
abbrev S4096x3072 : Shape := ⟨2, ![4096, 3072]⟩
abbrev S256x128 : Shape := ⟨2, ![256, 128]⟩
abbrev S4x4096 : Shape := ⟨2, ![4, 4096]⟩
abbrev S4x1536 : Shape := ⟨2, ![4, 1536]⟩
abbrev S1 : Shape := ⟨1, ![1]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S128x256 : Shape := ⟨2, ![128, 256]⟩
abbrev S32x256 : Shape := ⟨2, ![32, 256]⟩
abbrev S4096x512 : Shape := ⟨2, ![4096, 512]⟩
abbrev S256x512 : Shape := ⟨2, ![256, 512]⟩
abbrev S1536x512 : Shape := ⟨2, ![1536, 512]⟩
abbrev S8x256 : Shape := ⟨2, ![8, 256]⟩
abbrev S1x256 : Shape := ⟨2, ![1, 256]⟩
abbrev S1x8x256 : Shape := ⟨3, ![1, 8, 256]⟩

abbrev nBuf : Space → Nat
  | .hbm => 15
  | .vmem => 35
  | .smem => 2
  | _ => 0

abbrev bufTy : (tb : Table) → Fin (tcTables nBuf tb) → BufTy
  | .hbm, ⟨0, _⟩ => ⟨S12288x4096, .bf16⟩
  | .hbm, ⟨1, _⟩ => ⟨S2x4096x1536, .fp8e4m3⟩
  | .hbm, ⟨2, _⟩ => ⟨S768, .f32⟩
  | .hbm, ⟨3, _⟩ => ⟨S1536x4096, .fp8e4m3⟩
  | .hbm, ⟨4, _⟩ => ⟨S384, .f32⟩
  | .hbm, ⟨5, _⟩ => ⟨S12288x4096, .bf16⟩
  | .hbm, ⟨6, _⟩ => ⟨S12288x3072, .f32⟩
  | .hbm, ⟨7, _⟩ => ⟨S12288x4096, .fp8e4m3⟩
  | .hbm, ⟨8, _⟩ => ⟨S24x32x512, .f32⟩
  | .hbm, ⟨9, _⟩ => ⟨S12288x4096, .fp8e4m3⟩
  | .hbm, ⟨10, _⟩ => ⟨S24x4x4096, .f32⟩
  | .hbm, ⟨11, _⟩ => ⟨S12288x1536, .fp8e4m3⟩
  | .hbm, ⟨12, _⟩ => ⟨S12x24x512, .f32⟩
  | .hbm, ⟨13, _⟩ => ⟨S12288x1536, .fp8e4m3⟩
  | .hbm, ⟨14, _⟩ => ⟨S24x4x1536, .f32⟩
  | .local _ .vmem, ⟨0, _⟩ => ⟨S256x4096, .bf16⟩
  | .local _ .vmem, ⟨1, _⟩ => ⟨S256x4096, .bf16⟩
  | .local _ .vmem, ⟨2, _⟩ => ⟨S2x128x1536, .fp8e4m3⟩
  | .local _ .vmem, ⟨3, _⟩ => ⟨S2x128x1536, .fp8e4m3⟩
  | .local _ .vmem, ⟨4, _⟩ => ⟨S128x4096, .fp8e4m3⟩
  | .local _ .vmem, ⟨5, _⟩ => ⟨S128x4096, .fp8e4m3⟩
  | .local _ .vmem, ⟨6, _⟩ => ⟨S256x4096, .bf16⟩
  | .local _ .vmem, ⟨7, _⟩ => ⟨S256x4096, .bf16⟩
  | .local _ .vmem, ⟨8, _⟩ => ⟨S256x3072, .f32⟩
  | .local _ .vmem, ⟨9, _⟩ => ⟨S256x3072, .f32⟩
  | .local _ .vmem, ⟨10, _⟩ => ⟨S256x4096, .fp8e4m3⟩
  | .local _ .vmem, ⟨11, _⟩ => ⟨S256x4096, .fp8e4m3⟩
  | .local _ .vmem, ⟨12, _⟩ => ⟨S1x32x256, .f32⟩
  | .local _ .vmem, ⟨13, _⟩ => ⟨S1x32x256, .f32⟩
  | .local _ .vmem, ⟨14, _⟩ => ⟨S256x4096, .fp8e4m3⟩
  | .local _ .vmem, ⟨15, _⟩ => ⟨S256x4096, .fp8e4m3⟩
  | .local _ .vmem, ⟨16, _⟩ => ⟨S1x4x4096, .f32⟩
  | .local _ .vmem, ⟨17, _⟩ => ⟨S1x4x4096, .f32⟩
  | .local _ .vmem, ⟨18, _⟩ => ⟨S256x1536, .fp8e4m3⟩
  | .local _ .vmem, ⟨19, _⟩ => ⟨S256x1536, .fp8e4m3⟩
  | .local _ .vmem, ⟨20, _⟩ => ⟨S12x24x512, .f32⟩
  | .local _ .vmem, ⟨21, _⟩ => ⟨S256x1536, .fp8e4m3⟩
  | .local _ .vmem, ⟨22, _⟩ => ⟨S256x1536, .fp8e4m3⟩
  | .local _ .vmem, ⟨23, _⟩ => ⟨S1x4x1536, .f32⟩
  | .local _ .vmem, ⟨24, _⟩ => ⟨S1x4x1536, .f32⟩
  | .local _ .vmem, ⟨25, _⟩ => ⟨S4096x3072, .bf16⟩
  | .local _ .vmem, ⟨26, _⟩ => ⟨S1536x4096, .bf16⟩
  | .local _ .vmem, ⟨27, _⟩ => ⟨S256x4096, .bf16⟩
  | .local _ .vmem, ⟨28, _⟩ => ⟨S256x1536, .bf16⟩
  | .local _ .vmem, ⟨29, _⟩ => ⟨S256x128, .f32⟩
  | .local _ .vmem, ⟨30, _⟩ => ⟨S256x128, .f32⟩
  | .local _ .vmem, ⟨31, _⟩ => ⟨S4x4096, .f32⟩
  | .local _ .vmem, ⟨32, _⟩ => ⟨S4x4096, .f32⟩
  | .local _ .vmem, ⟨33, _⟩ => ⟨S4x1536, .f32⟩
  | .local _ .vmem, ⟨34, _⟩ => ⟨S4x1536, .f32⟩
  | .local _ .smem, ⟨0, _⟩ => ⟨S768, .f32⟩
  | .local _ .smem, ⟨1, _⟩ => ⟨S384, .f32⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev main_v0_6 : Ref sig .tc := ⟨.hbm, 11, rfl⟩
abbrev main_v0_7 : Ref sig .tc := ⟨.hbm, 12, rfl⟩
abbrev main_v0_8 : Ref sig .tc := ⟨.hbm, 13, rfl⟩
abbrev main_v0_9 : Ref sig .tc := ⟨.hbm, 14, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![81], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_off1 (i : grid0.Coords) (c0_i32_12 : BitVec 32) : Fin 1 → Nat :=
  let arg0 : BitVec 32 := BitVec.ofNat 32 (i 0).val
  let c1_i32_11 : BitVec 32 := 1#32
  let v21 : BitVec 32 := Scalar.muli arg0 c1_i32_11
  let v22 : BitVec 32 := Scalar.addi c0_i32_12 v21
  let c0_i32_13 : BitVec 32 := 0#32
  let v23 : BitVec 32 := Scalar.addi v22 c0_i32_13
  let v24 : Index := Scalar.indexCast v23
  ![v24.toNat]
def k0_off2 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v32 : Index := Scalar.indexCast v20
  let c0_16 : Index := 0#32
  ![v32.toNat, 0]
def k0_off3 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v47 : Index := Scalar.indexCast v20
  let c128_21 : Index := 128#32
  ![v47.toNat, 128]
def k0_off4 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v62 : Index := Scalar.indexCast v20
  let c512 : Index := 512#32
  ![v62.toNat, 512]
def k0_off5 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v77 : Index := Scalar.indexCast v20
  let c640 : Index := 640#32
  ![v77.toNat, 640]
def k0_off6 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v92 : Index := Scalar.indexCast v20
  let c1024 : Index := 1024#32
  ![v92.toNat, 1024]
def k0_off7 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v107 : Index := Scalar.indexCast v20
  let c1152 : Index := 1152#32
  ![v107.toNat, 1152]
def k0_off8 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v122 : Index := Scalar.indexCast v20
  let c1536 : Index := 1536#32
  ![v122.toNat, 1536]
def k0_off9 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v137 : Index := Scalar.indexCast v20
  let c1664 : Index := 1664#32
  ![v137.toNat, 1664]
def k0_off10 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v152 : Index := Scalar.indexCast v20
  let c2048 : Index := 2048#32
  ![v152.toNat, 2048]
def k0_off11 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v167 : Index := Scalar.indexCast v20
  let c2176 : Index := 2176#32
  ![v167.toNat, 2176]
def k0_off12 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v182 : Index := Scalar.indexCast v20
  let c2560 : Index := 2560#32
  ![v182.toNat, 2560]
def k0_off13 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v197 : Index := Scalar.indexCast v20
  let c2688 : Index := 2688#32
  ![v197.toNat, 2688]
def k0_off14 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v212 : Index := Scalar.indexCast v20
  let c256_72 : Index := 256#32
  ![v212.toNat, 256]
def k0_off15 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v227 : Index := Scalar.indexCast v20
  let c384_78 : Index := 384#32
  ![v227.toNat, 384]
def k0_off16 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v242 : Index := Scalar.indexCast v20
  let c768_84 : Index := 768#32
  ![v242.toNat, 768]
def k0_off17 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v257 : Index := Scalar.indexCast v20
  let c896_90 : Index := 896#32
  ![v257.toNat, 896]
def k0_off18 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v272 : Index := Scalar.indexCast v20
  let c1280_96 : Index := 1280#32
  ![v272.toNat, 1280]
def k0_off19 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v287 : Index := Scalar.indexCast v20
  let c1408_102 : Index := 1408#32
  ![v287.toNat, 1408]
def k0_off20 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v302 : Index := Scalar.indexCast v20
  let c1792 : Index := 1792#32
  ![v302.toNat, 1792]
def k0_off21 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v317 : Index := Scalar.indexCast v20
  let c1920 : Index := 1920#32
  ![v317.toNat, 1920]
def k0_off22 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v332 : Index := Scalar.indexCast v20
  let c2304 : Index := 2304#32
  ![v332.toNat, 2304]
def k0_off23 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v347 : Index := Scalar.indexCast v20
  let c2432 : Index := 2432#32
  ![v347.toNat, 2432]
def k0_off24 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v362 : Index := Scalar.indexCast v20
  let c2816 : Index := 2816#32
  ![v362.toNat, 2816]
def k0_off25 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v377 : Index := Scalar.indexCast v20
  let c2944 : Index := 2944#32
  ![v377.toNat, 2944]
def k0_cond2 (i : grid0.Coords) : BitVec 1 :=
  let arg0 : BitVec 32 := BitVec.ofNat 32 (i 0).val
  let c12_i32 : BitVec 32 := 12#32
  let v3 : BitVec 1 := Scalar.cmpi .slt arg0 c12_i32
  let v4 : BitVec 32 := Scalar.extui v3
  let c0_i32_0 : BitVec 32 := 0#32
  let v5 : BitVec 1 := Scalar.cmpi .ne v4 c0_i32_0
  v5

def k0_off26 (i : grid0.Coords) (c0_i32_14 : BitVec 32) : Fin 1 → Nat :=
  let arg0 : BitVec 32 := BitVec.ofNat 32 (i 0).val
  let c1_i32_11 : BitVec 32 := 1#32
  let v21 : BitVec 32 := Scalar.muli arg0 c1_i32_11
  let c0_i32_12 : BitVec 32 := 0#32
  let v22 : BitVec 32 := Scalar.addi v21 c0_i32_12
  let c32_i32_13 : BitVec 32 := 32#32
  let v23 : BitVec 32 := Scalar.muli v22 c32_i32_13
  let v24 : BitVec 32 := Scalar.addi v23 c0_i32_14
  let v25 : Index := Scalar.indexCast v24
  ![v25.toNat]
def k0_off27 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v32 : Index := Scalar.indexCast v20
  let c0_16 : Index := 0#32
  ![v32.toNat, 0]
def k0_off28 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v47 : Index := Scalar.indexCast v20
  let c128_22 : Index := 128#32
  ![v47.toNat, 128]
def k0_off29 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v62 : Index := Scalar.indexCast v20
  let c256_27 : Index := 256#32
  ![v62.toNat, 256]
def k0_off30 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v77 : Index := Scalar.indexCast v20
  let c384_32 : Index := 384#32
  ![v77.toNat, 384]
def k0_off31 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v92 : Index := Scalar.indexCast v20
  let c512_37 : Index := 512#32
  ![v92.toNat, 512]
def k0_off32 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v107 : Index := Scalar.indexCast v20
  let c640_42 : Index := 640#32
  ![v107.toNat, 640]
def k0_off33 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v122 : Index := Scalar.indexCast v20
  let c768_47 : Index := 768#32
  ![v122.toNat, 768]
def k0_off34 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v137 : Index := Scalar.indexCast v20
  let c896_52 : Index := 896#32
  ![v137.toNat, 896]
def k0_off35 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v152 : Index := Scalar.indexCast v20
  let c1024_57 : Index := 1024#32
  ![v152.toNat, 1024]
def k0_off36 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v167 : Index := Scalar.indexCast v20
  let c1152_62 : Index := 1152#32
  ![v167.toNat, 1152]
def k0_off37 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v182 : Index := Scalar.indexCast v20
  let c1280_67 : Index := 1280#32
  ![v182.toNat, 1280]
def k0_off38 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v197 : Index := Scalar.indexCast v20
  let c1408_72 : Index := 1408#32
  ![v197.toNat, 1408]
def k0_off39 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v212 : Index := Scalar.indexCast v20
  let c1536_78 : Index := 1536#32
  ![v212.toNat, 1536]
def k0_off40 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v227 : Index := Scalar.indexCast v20
  let c1664_83 : Index := 1664#32
  ![v227.toNat, 1664]
def k0_off41 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v242 : Index := Scalar.indexCast v20
  let c1792_88 : Index := 1792#32
  ![v242.toNat, 1792]
def k0_off42 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v257 : Index := Scalar.indexCast v20
  let c1920_93 : Index := 1920#32
  ![v257.toNat, 1920]
def k0_off43 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v272 : Index := Scalar.indexCast v20
  let c2048_98 : Index := 2048#32
  ![v272.toNat, 2048]
def k0_off44 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v287 : Index := Scalar.indexCast v20
  let c2176_103 : Index := 2176#32
  ![v287.toNat, 2176]
def k0_off45 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v302 : Index := Scalar.indexCast v20
  let c2304_108 : Index := 2304#32
  ![v302.toNat, 2304]
def k0_off46 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v317 : Index := Scalar.indexCast v20
  let c2432_113 : Index := 2432#32
  ![v317.toNat, 2432]
def k0_off47 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v332 : Index := Scalar.indexCast v20
  let c2560_118 : Index := 2560#32
  ![v332.toNat, 2560]
def k0_off48 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v347 : Index := Scalar.indexCast v20
  let c2688_123 : Index := 2688#32
  ![v347.toNat, 2688]
def k0_off49 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v362 : Index := Scalar.indexCast v20
  let c2816_128 : Index := 2816#32
  ![v362.toNat, 2816]
def k0_off50 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v377 : Index := Scalar.indexCast v20
  let c2944_133 : Index := 2944#32
  ![v377.toNat, 2944]
def k0_off51 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v392 : Index := Scalar.indexCast v20
  let c3072_138 : Index := 3072#32
  ![v392.toNat, 3072]
def k0_off52 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v407 : Index := Scalar.indexCast v20
  let c3200_143 : Index := 3200#32
  ![v407.toNat, 3200]
def k0_off53 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v422 : Index := Scalar.indexCast v20
  let c3328_148 : Index := 3328#32
  ![v422.toNat, 3328]
def k0_off54 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v437 : Index := Scalar.indexCast v20
  let c3456_153 : Index := 3456#32
  ![v437.toNat, 3456]
def k0_off55 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v452 : Index := Scalar.indexCast v20
  let c3584_158 : Index := 3584#32
  ![v452.toNat, 3584]
def k0_off56 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v467 : Index := Scalar.indexCast v20
  let c3712_163 : Index := 3712#32
  ![v467.toNat, 3712]
def k0_off57 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v482 : Index := Scalar.indexCast v20
  let c3840_168 : Index := 3840#32
  ![v482.toNat, 3840]
def k0_off58 (i : grid0.Coords) : Fin 2 → Nat :=
  let arg0 : BitVec 32 := BitVec.ofNat 32 (i 0).val
  let c128_i32 : BitVec 32 := 128#32
  let v19 : BitVec 32 := Scalar.muli arg0 c128_i32
  let c0_i32_10 : BitVec 32 := 0#32
  let v20 : BitVec 32 := Scalar.addi v19 c0_i32_10
  let v497 : Index := Scalar.indexCast v20
  let c3968_173 : Index := 3968#32
  ![v497.toNat, 3968]
def k0_cond4 (i : grid0.Coords) : BitVec 1 :=
  let arg0 : BitVec 32 := BitVec.ofNat 32 (i 0).val
  let c32_i32_8 : BitVec 32 := 32#32
  let v16 : BitVec 1 := Scalar.cmpi .sgt arg0 c32_i32_8
  let v17 : BitVec 32 := Scalar.extui v16
  let c0_i32_9 : BitVec 32 := 0#32
  let v18 : BitVec 1 := Scalar.cmpi .ne v17 c0_i32_9
  v18

def k0_mult1 (i : grid0.Coords) : BitVec 32 :=
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  v7615
def k0_mult2 (i : grid0.Coords) : BitVec 32 :=
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  v7617
def k0_off59 (i : grid0.Coords) : Fin 3 → Nat :=
  let c0_2972 : Index := 0#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7633 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7634 : Index := Scalar.indexCast v7618
  ![0, v7633.toNat, v7634.toNat]
def k0_off60 (i : grid0.Coords) : Fin 3 → Nat :=
  let c1_2974 : Index := 1#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7646 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7647 : Index := Scalar.indexCast v7618
  ![1, v7646.toNat, v7647.toNat]
def k0_off61 (i : grid0.Coords) : Fin 3 → Nat :=
  let c2_2976 : Index := 2#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7659 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7660 : Index := Scalar.indexCast v7618
  ![2, v7659.toNat, v7660.toNat]
def k0_off62 (i : grid0.Coords) : Fin 3 → Nat :=
  let c3_2978 : Index := 3#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7672 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7673 : Index := Scalar.indexCast v7618
  ![3, v7672.toNat, v7673.toNat]
def k0_off63 (i : grid0.Coords) : Fin 3 → Nat :=
  let c4_2980 : Index := 4#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7685 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7686 : Index := Scalar.indexCast v7618
  ![4, v7685.toNat, v7686.toNat]
def k0_off64 (i : grid0.Coords) : Fin 3 → Nat :=
  let c5_2982 : Index := 5#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7698 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7699 : Index := Scalar.indexCast v7618
  ![5, v7698.toNat, v7699.toNat]
def k0_off65 (i : grid0.Coords) : Fin 3 → Nat :=
  let c6_2984 : Index := 6#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7711 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7712 : Index := Scalar.indexCast v7618
  ![6, v7711.toNat, v7712.toNat]
def k0_off66 (i : grid0.Coords) : Fin 3 → Nat :=
  let c7_2986 : Index := 7#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7724 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7725 : Index := Scalar.indexCast v7618
  ![7, v7724.toNat, v7725.toNat]
def k0_off67 (i : grid0.Coords) : Fin 3 → Nat :=
  let c8_2988 : Index := 8#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7737 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7738 : Index := Scalar.indexCast v7618
  ![8, v7737.toNat, v7738.toNat]
def k0_off68 (i : grid0.Coords) : Fin 3 → Nat :=
  let c9_2990 : Index := 9#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7750 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7751 : Index := Scalar.indexCast v7618
  ![9, v7750.toNat, v7751.toNat]
def k0_off69 (i : grid0.Coords) : Fin 3 → Nat :=
  let c10_2992 : Index := 10#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7763 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7764 : Index := Scalar.indexCast v7618
  ![10, v7763.toNat, v7764.toNat]
def k0_off70 (i : grid0.Coords) : Fin 3 → Nat :=
  let c11_2994 : Index := 11#32
  let c47_i32_5 : BitVec 32 := 47#32
  let c0_i32_4 : BitVec 32 := 0#32
  let arg0 : BitVec 32 := BitVec.ofNat 32 (i 0).val
  let c32_i32_3 : BitVec 32 := 32#32
  let v9 : BitVec 32 := Scalar.subi arg0 c32_i32_3
  let c1_i32 : BitVec 32 := 1#32
  let v10 : BitVec 32 := Scalar.subi v9 c1_i32
  let v11 : BitVec 32 := Scalar.maxsi c0_i32_4 v10
  let v12 : BitVec 32 := Scalar.minsi c47_i32_5 v11
  let c0_i32_2932 : BitVec 32 := 0#32
  let v7555 : BitVec 1 := Scalar.cmpi .sgt v12 c0_i32_2932
  let v7556 : BitVec 32 := Scalar.extui v7555
  let c0_i32_2933 : BitVec 32 := 0#32
  let v7557 : BitVec 1 := Scalar.cmpi .slt v12 c0_i32_2933
  let v7558 : BitVec 32 := Scalar.extui v7557
  let v7559 : BitVec 32 := Scalar.subi v7556 v7558
  let c2_i32_2931 : BitVec 32 := 2#32
  let c0_i32_2934 : BitVec 32 := 0#32
  let v7560 : BitVec 1 := Scalar.cmpi .sgt c2_i32_2931 c0_i32_2934
  let v7561 : BitVec 32 := Scalar.extui v7560
  let c0_i32_2935 : BitVec 32 := 0#32
  let v7562 : BitVec 1 := Scalar.cmpi .slt c2_i32_2931 c0_i32_2935
  let v7563 : BitVec 32 := Scalar.extui v7562
  let v7564 : BitVec 32 := Scalar.subi v7561 v7563
  let v7565 : BitVec 1 := Scalar.cmpi .ne v7559 v7564
  let v7566 : BitVec 32 := Scalar.remsi v12 c2_i32_2931
  let c0_i32_2936 : BitVec 32 := 0#32
  let v7567 : BitVec 1 := Scalar.cmpi .ne v7566 c0_i32_2936
  let v7568 : BitVec 1 := Scalar.andi v7565 v7567
  let v7554 : BitVec 32 := Scalar.divsi v12 c2_i32_2931
  let c1_i32_2937 : BitVec 32 := 1#32
  let v7569 : BitVec 32 := Scalar.subi v7554 c1_i32_2937
  let v7570 : BitVec 32 := Scalar.select v7568 v7569 v7554
  let c0_i32_2959 : BitVec 32 := 0#32
  let v7599 : BitVec 1 := Scalar.cmpi .sgt v7570 c0_i32_2959
  let v7600 : BitVec 32 := Scalar.extui v7599
  let c0_i32_2960 : BitVec 32 := 0#32
  let v7601 : BitVec 1 := Scalar.cmpi .slt v7570 c0_i32_2960
  let v7602 : BitVec 32 := Scalar.extui v7601
  let v7603 : BitVec 32 := Scalar.subi v7600 v7602
  let c8_i32 : BitVec 32 := 8#32
  let c0_i32_2961 : BitVec 32 := 0#32
  let v7604 : BitVec 1 := Scalar.cmpi .sgt c8_i32 c0_i32_2961
  let v7605 : BitVec 32 := Scalar.extui v7604
  let c0_i32_2962 : BitVec 32 := 0#32
  let v7606 : BitVec 1 := Scalar.cmpi .slt c8_i32 c0_i32_2962
  let v7607 : BitVec 32 := Scalar.extui v7606
  let v7608 : BitVec 32 := Scalar.subi v7605 v7607
  let v7609 : BitVec 1 := Scalar.cmpi .ne v7603 v7608
  let v7610 : BitVec 32 := Scalar.remsi v7570 c8_i32
  let c0_i32_2963 : BitVec 32 := 0#32
  let v7611 : BitVec 1 := Scalar.cmpi .ne v7610 c0_i32_2963
  let v7612 : BitVec 1 := Scalar.andi v7609 v7611
  let v7598 : BitVec 32 := Scalar.divsi v7570 c8_i32
  let c1_i32_2964 : BitVec 32 := 1#32
  let v7613 : BitVec 32 := Scalar.subi v7598 c1_i32_2964
  let v7614 : BitVec 32 := Scalar.select v7612 v7613 v7598
  let c8_i32_2965 : BitVec 32 := 8#32
  let v7615 : BitVec 32 := Scalar.muli v7614 c8_i32_2965
  let v7616 : BitVec 32 := v7615
  let v7776 : Index := Scalar.indexCast v7616
  let c2_i32_2938 : BitVec 32 := 2#32
  let c0_i32_2939 : BitVec 32 := 0#32
  let v7571 : BitVec 1 := Scalar.cmpi .eq c2_i32_2938 c0_i32_2939
  let c1_i32_2940 : BitVec 32 := 1#32
  let v7572 : BitVec 32 := Scalar.select v7571 c1_i32_2940 c2_i32_2938
  let v7573 : BitVec 32 := Scalar.remsi v12 v7572
  let c0_i32_2942 : BitVec 32 := 0#32
  let v7575 : BitVec 1 := Scalar.cmpi .slt v7573 c0_i32_2942
  let c0_i32_2943 : BitVec 32 := 0#32
  let v7576 : BitVec 1 := Scalar.cmpi .slt v7572 c0_i32_2943
  let v7577 : BitVec 1 := Scalar.xori v7575 v7576
  let c0_i32_2941 : BitVec 32 := 0#32
  let v7574 : BitVec 1 := Scalar.cmpi .ne v7573 c0_i32_2941
  let v7578 : BitVec 1 := Scalar.andi v7577 v7574
  let v7579 : BitVec 32 := Scalar.addi v7573 v7572
  let v7580 : BitVec 32 := Scalar.select v7578 v7579 v7573
  let c256_i32 : BitVec 32 := 256#32
  let v7617 : BitVec 32 := Scalar.muli v7580 c256_i32
  let v7618 : BitVec 32 := v7617
  let v7777 : Index := Scalar.indexCast v7618
  ![11, v7776.toNat, v7777.toNat]
def k0_cond3 (i : grid0.Coords) : BitVec 1 :=
  let arg0 : BitVec 32 := BitVec.ofNat 32 (i 0).val
  let c32_i32_6 : BitVec 32 := 32#32
  let v13 : BitVec 1 := Scalar.cmpi .eq arg0 c32_i32_6
  let v14 : BitVec 32 := Scalar.extui v13
  let c0_i32_7 : BitVec 32 := 0#32
  let v15 : BitVec 1 := Scalar.cmpi .ne v14 c0_i32_7
  v15

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_8 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c47_i32 : BitVec 32 := 47#32
  let v1 : BitVec 32 := Scalar.maxsi c0_i32 v0
  let v2 : BitVec 32 := Scalar.minsi c47_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c32_i32_5 : BitVec 32 := 32#32
  let v20 : BitVec 32 := Scalar.subi arg0 c32_i32_5
  let c0_i32_6 : BitVec 32 := 0#32
  let c47_i32_7 : BitVec 32 := 47#32
  let v21 : BitVec 32 := Scalar.maxsi c0_i32_6 v20
  let v22 : BitVec 32 := Scalar.minsi c47_i32_7 v21
  let c2_i32_8 : BitVec 32 := 2#32
  let c0_i32_9 : BitVec 32 := 0#32
  let v23 : BitVec 1 := Scalar.cmpi .eq c2_i32_8 c0_i32_9
  let c1_i32_10 : BitVec 32 := 1#32
  let v24 : BitVec 32 := Scalar.select v23 c1_i32_10 c2_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, c0_i32_14.toNat, v32.toNat]

def cc0_transform_9 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c47_i32 : BitVec 32 := 47#32
  let v1 : BitVec 32 := Scalar.maxsi c0_i32 v0
  let v2 : BitVec 32 := Scalar.minsi c47_i32 v1
  let c0_i32_0 : BitVec 32 := 0#32
  let c0_i32_1 : BitVec 32 := 0#32
  ![v2.toNat, c0_i32_0.toNat]

def cc0_transform_10 (i : grid0.Coords) : Fin 3 → Nat :=
  let arg0 : BitVec 32 := BitVec.ofNat 32 (i 0).val
  let c32_i32 : BitVec 32 := 32#32
  let v0 : BitVec 32 := Scalar.subi arg0 c32_i32
  let c0_i32 : BitVec 32 := 0#32
  let c47_i32 : BitVec 32 := 47#32
  let v1 : BitVec 32 := Scalar.maxsi c0_i32 v0
  let v2 : BitVec 32 := Scalar.minsi c47_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_11 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c0_i32_0 : BitVec 32 := 0#32
  let c0_i32_1 : BitVec 32 := 0#32
  ![v3.toNat, c0_i32_0.toNat]

def cc0_transform_14 (i : grid0.Coords) : Fin 3 → Nat :=
  let arg0 : BitVec 32 := BitVec.ofNat 32 (i 0).val
  let c32_i32 : BitVec 32 := 32#32
  let v0 : BitVec 32 := Scalar.subi arg0 c32_i32
  let c1_i32 : BitVec 32 := 1#32
  let v1 : BitVec 32 := Scalar.subi v0 c1_i32
  let c0_i32 : BitVec 32 := 0#32
  let c47_i32 : BitVec 32 := 47#32
  let v2 : BitVec 32 := Scalar.maxsi c0_i32 v1
  let v3 : BitVec 32 := Scalar.minsi c47_i32 v2
  let c2_i32 : BitVec 32 := 2#32
  let v4 : BitVec 32 := Scalar.divsi v3 c2_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c2_i32 c0_i32_2
  let v11 : BitVec 32 := Scalar.extui v10
  let c0_i32_3 : BitVec 32 := 0#32
  let v12 : BitVec 1 := Scalar.cmpi .slt c2_i32 c0_i32_3
  let v13 : BitVec 32 := Scalar.extui v12
  let v14 : BitVec 32 := Scalar.subi v11 v13
  let v15 : BitVec 1 := Scalar.cmpi .ne v9 v14
  let v16 : BitVec 32 := Scalar.remsi v3 c2_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c0_i32_6 : BitVec 32 := 0#32
  let c0_i32_7 : BitVec 32 := 0#32
  let c0_i32_8 : BitVec 32 := 0#32
  ![v20.toNat, c0_i32_6.toNat, c0_i32_7.toNat]

abbrev stage0_0 : Fin 1 → Memref sig .tc .smem S768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x1536 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S12x24x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1536 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FwdRefIdeal.lean ====
abbrev S12288x4096 : Shape := ⟨2, ![12288, 4096]⟩
abbrev S2x4096x1536 : Shape := ⟨3, ![2, 4096, 1536]⟩
abbrev S768 : Shape := ⟨1, ![768]⟩
abbrev S1536x4096 : Shape := ⟨2, ![1536, 4096]⟩
abbrev S384 : Shape := ⟨1, ![384]⟩
abbrev S24x512x4096 : Shape := ⟨3, ![24, 512, 4096]⟩
abbrev S4096x2x1536 : Shape := ⟨3, ![4096, 2, 1536]⟩
abbrev S12x2x32 : Shape := ⟨3, ![12, 2, 32]⟩
abbrev S32x2x12 : Shape := ⟨3, ![32, 2, 12]⟩
abbrev S12x32 : Shape := ⟨2, ![12, 32]⟩
abbrev S32x128x2x12x128 : Shape := ⟨5, ![32, 128, 2, 12, 128]⟩
abbrev S32x1x2x12x1 : Shape := ⟨5, ![32, 1, 2, 12, 1]⟩
abbrev S12x128x32x128 : Shape := ⟨4, ![12, 128, 32, 128]⟩
abbrev S12x1x32x1 : Shape := ⟨4, ![12, 1, 32, 1]⟩
abbrev S24x512x32x128 : Shape := ⟨4, ![24, 512, 32, 128]⟩
abbrev S24x512x32 : Shape := ⟨3, ![24, 512, 32]⟩
abbrev S24x512x32x1 : Shape := ⟨4, ![24, 512, 32, 1]⟩
abbrev S24x512x2x1536 : Shape := ⟨4, ![24, 512, 2, 1536]⟩
abbrev S24x512x1x1536 : Shape := ⟨4, ![24, 512, 1, 1536]⟩
abbrev S24x512x1536 : Shape := ⟨3, ![24, 512, 1536]⟩
abbrev S24x512x12x128 : Shape := ⟨4, ![24, 512, 12, 128]⟩
abbrev S24x512x12 : Shape := ⟨3, ![24, 512, 12]⟩
abbrev S24x512x12x1 : Shape := ⟨4, ![24, 512, 12, 1]⟩

abbrev nBuf : Space → Nat
  | .hbm => 11
  | .vmem => 6
  | .smem => 0
  | _ => 0

abbrev bufTy : (tb : Table) → Fin (tcTables nBuf tb) → BufTy
  | .hbm, ⟨0, _⟩ => ⟨S12288x4096, .bf16⟩
  | .hbm, ⟨1, _⟩ => ⟨S2x4096x1536, .fp8e4m3⟩
  | .hbm, ⟨2, _⟩ => ⟨S768, .f32⟩
  | .hbm, ⟨3, _⟩ => ⟨S1536x4096, .fp8e4m3⟩
  | .hbm, ⟨4, _⟩ => ⟨S384, .f32⟩
  | .hbm, ⟨5, _⟩ => ⟨S24x512x4096, .bf16⟩
  | .hbm, ⟨6, _⟩ => ⟨S4096x2x1536, .fp8e4m3⟩
  | .hbm, ⟨7, _⟩ => ⟨S12x2x32, .f32⟩
  | .hbm, ⟨8, _⟩ => ⟨S32x2x12, .f32⟩
  | .hbm, ⟨9, _⟩ => ⟨S12x32, .f32⟩
  | .hbm, ⟨10, _⟩ => ⟨S12288x4096, .bf16⟩
  | .local _ .vmem, ⟨0, _⟩ => ⟨S24x512x4096, .bf16⟩
  | .local _ .vmem, ⟨1, _⟩ => ⟨S4096x2x1536, .fp8e4m3⟩
  | .local _ .vmem, ⟨2, _⟩ => ⟨S32x2x12, .f32⟩
  | .local _ .vmem, ⟨3, _⟩ => ⟨S1536x4096, .fp8e4m3⟩
  | .local _ .vmem, ⟨4, _⟩ => ⟨S12x32, .f32⟩
  | .local _ .vmem, ⟨5, _⟩ => ⟨S12288x4096, .bf16⟩
  | _, _ => ⟨S12288x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Dw13Piece.lean ====
module

public import proofs.«01_k».proof.Proof.Gen.Dw13Ideal.Value
public import Idealize.ShloMosaic.Lib.Pipeline.ValueKit
public import Idealize.ShloMosaic.Lib.Pipeline.ReadBack

@[expose] public section
set_option maxRecDepth 16384
set_option maxHeartbeats 4000000
noncomputable section
namespace Cert.Dw13Hand
open Cert.Dw13Ideal Cert.Dw13Ideal.Gen Idealize.ShloMosaic Idealize.ShloMosaic.TcCoe Idealize.SL.Sem

/-- The block of `xᵀ` one point works with: codes times scales, rows and columns exchanged. -/
def XT (x0 : Vec Ideal S1024x1024 .fp8e4m3) (x1 : Vec Ideal S2x4x1024 .f32) : Vec Ideal S1024x1024 .bf16 := fun y =>
  HMul.hMul (α := EReal) (β := EReal) (x0 (ix2 (y 1) (y 0)))
    (x1 (ix3 (⟨(y 1).val / 512, by have := (y 1).isLt; simp at this; omega⟩ : Fin 2) (⟨(y 1).val % 512 / 128, by omega⟩ : Fin 4) (y 0)))

/-- The block of `dg` one point works with: codes times scales, the two halves side by side. -/
def DG (x2 : Vec Ideal S2x2x512x1536 .fp8e4m3) (x3 : Vec Ideal S2x4x2x1536 .f32) : Vec Ideal S1024x3072 .bf16 := fun y =>
  HMul.hMul (α := EReal) (β := EReal)
    (x2 (ix4 (⟨(y 0).val / 512, by have := (y 0).isLt; simp at this; omega⟩ : Fin 2) (⟨(y 1).val / 1536, by have := (y 1).isLt; simp at this; omega⟩ : Fin 2)
      (⟨(y 0).val % 512, by omega⟩ : Fin 512) (⟨(y 1).val % 1536, by omega⟩ : Fin 1536)))
    (x3 (ix4 (⟨(y 0).val / 512, by have := (y 0).isLt; simp at this; omega⟩ : Fin 2) (⟨(y 0).val % 512 / 128, by omega⟩ : Fin 4)
      (⟨(y 1).val / 1536, by have := (y 1).isLt; simp at this; omega⟩ : Fin 2) (⟨(y 1).val % 1536, by omega⟩ : Fin 1536)))

/-- What one point adds to the accumulator. -/
def STEP (x0 : Vec Ideal S1024x1024 .fp8e4m3) (x1 : Vec Ideal S2x4x1024 .f32) (x2 : Vec Ideal S2x2x512x1536 .fp8e4m3) (x3 : Vec Ideal S2x4x2x1536 .f32)
    (y : S1024x3072.Idx) : EReal :=
  ∑ k : Fin 1024, HMul.hMul (α := EReal) (β := EReal) (XT x0 x1 (ix2 (y 0) k)) (DG x2 x3 (ix2 k (y 1)))

theorem xpay_apply (A : Vec Ideal S128x128 .fp8e4m3) (B : Vec Ideal S1x1x128 .f32) (x : S128x128.Idx) :
    k0_pay101 (F := Ideal) A B x = HMul.hMul (α := EReal) (β := EReal) (A (ix2 (x 1) (x 0))) (B (ix3 0 0 (x 0))) := by
  unfold k0_pay101
  pointwise

theorem dpay_apply (A : Vec Ideal S1x1x128x512 .fp8e4m3) (B : Vec Ideal S1x1x1x512 .f32) (x : S128x512.Idx) :
    k0_pay126 (F := Ideal) A B x = HMul.hMul (α := EReal) (β := EReal) (A (ix4 0 0 (x 0) (x 1))) (B (ix4 0 0 0 (x 1))) := by
  unfold k0_pay126
  pointwise

theorem apay_apply (A : Vec Ideal S1024x512 .f32) (B : Vec Ideal S1024x1024 .bf16) (C : Vec Ideal S1024x512 .bf16) (x : S1024x512.Idx) :
    k0_pay169 (F := Ideal) A B C x = HAdd.hAdd (α := EReal) (β := EReal) (A x)
      (∑ k : Fin 1024, HMul.hMul (α := EReal) (β := EReal) (B (ix2 (x 0) k)) (C (ix2 k (x 1)))) := by
  unfold k0_pay169
  pointwise

theorem piece_xt (x0 : Vec Ideal S1024x1024 .fp8e4m3) (x1 : Vec Ideal S2x4x1024 .f32) (r c p q : ℕ)
    (inb : ∀ a : Fin S1024x1024.rank, (![c, r] : Fin 2 → ℕ) a + (![128, 128] : Fin 2 → ℕ) a ≤ S1024x1024.size a)
    (inb' : ∀ a : Fin S2x4x1024.rank, (![p, q, r] : Fin 3 → ℕ) a + (![1, 1, 128] : Fin 3 → ℕ) a ≤ S2x4x1024.size a)
    (x : S128x128.Idx) (y : S1024x1024.Idx) (h0 : (y 0 : ℕ) = r + x 0) (h1 : (y 1 : ℕ) = c + x 1)
    (hc : 512 * p + 128 * q = c) (hq : q < 4) :
    k0_pay101 (F := Ideal) (View.ld (Val := Elt Ideal) (S := S1024x1024) (e' := .fp8e4m3) x0 (Rect.unit ![c, r] ![128, 128] inb))
      (View.ld (Val := Elt Ideal) (S := S2x4x1024) (e' := .f32) x1 (Rect.unit ![p, q, r] ![1, 1, 128] inb')) x = XT x0 x1 y := by
  rw [xpay_apply]
  unfold XT View.ld
  have l1 : (x 1 : ℕ) < 128 := (x 1).isLt
  congr 2
  · funext a
    fin_cases a <;> apply Fin.ext
    · show c + 1 * (x 1 : ℕ) = y 1
      omega
    · show r + 1 * (x 0 : ℕ) = y 0
      omega
  · funext a
    fin_cases a <;> apply Fin.ext
    · show p + 1 * 0 = (y 1 : ℕ) / 512
      omega
    · show q + 1 * 0 = (y 1 : ℕ) % 512 / 128
      omega
    · show r + 1 * (x 0 : ℕ) = y 0
      omega

theorem piece_dg (x2 : Vec Ideal S2x2x512x1536 .fp8e4m3) (x3 : Vec Ideal S2x4x2x1536 .f32) (r o b s p g f : ℕ)
    (inb : ∀ a : Fin S2x2x512x1536.rank, (![b, g, s, f] : Fin 4 → ℕ) a + (![1, 1, 128, 512] : Fin 4 → ℕ) a ≤ S2x2x512x1536.size a)
    (inb' : ∀ a : Fin S2x4x2x1536.rank, (![b, p, g, f] : Fin 4 → ℕ) a + (![1, 1, 1, 512] : Fin 4 → ℕ) a ≤ S2x4x2x1536.size a)
    (x : S128x512.Idx) (y : S1024x3072.Idx) (h0 : (y 0 : ℕ) = r + x 0) (h1 : (y 1 : ℕ) = o + x 1)
    (hr : 512 * b + s = r) (hs : 128 * p = s) (hp : p < 4) (ho : 1536 * g + f = o) (hf : f + 512 ≤ 1536) :
    k0_pay126 (F := Ideal) (View.ld (Val := Elt Ideal) (S := S2x2x512x1536) (e' := .fp8e4m3) x2 (Rect.unit ![b, g, s, f] ![1, 1, 128, 512] inb))
      (View.ld (Val := Elt Ideal) (S := S2x4x2x1536) (e' := .f32) x3 (Rect.unit ![b, p, g, f] ![1, 1, 1, 512] inb')) x = DG x2 x3 y := by
  rw [dpay_apply]
  unfold DG View.ld
  have l0 : (x 0 : ℕ) < 128 := (x 0).isLt
  have l1 : (x 1 : ℕ) < 512 := (x 1).isLt
  congr 2
  · funext a
    fin_cases a <;> apply Fin.ext
    · show b + 1 * 0 = (y 0 : ℕ) / 512
      omega
    · show g + 1 * 0 = (y 1 : ℕ) / 1536
      omega
    · show s + 1 * (x 0 : ℕ) = (y 0 : ℕ) % 512
      omega
    · show f + 1 * (x 1 : ℕ) = (y 1 : ℕ) % 1536
      omega
  · funext a
    fin_cases a <;> apply Fin.ext
    · show b + 1 * 0 = (y 0 : ℕ) / 512
      omega
    · show p + 1 * 0 = (y 0 : ℕ) % 512 / 128
      omega
    · show g + 1 * 0 = (y 1 : ℕ) / 1536
      omega
    · show f + 1 * (x 1 : ℕ) = (y 1 : ℕ) % 1536
      omega

/-- One piece on top of others: where it holds the index its value counts, elsewhere the others'. -/
theorem canon_peel {S : Shape} {e : EltTy} (off size : Fin S.rank → ℕ) (inb : ∀ a, off a + size a ≤ S.size a)
    (w : (Rect.unit off size inb).shape.Idx → Elt Ideal e) (L : List (View.Piece (Elt Ideal) S e)) (y : S.Idx) (v : Elt Ideal e)
    (h : View.TileAt (Val := Elt Ideal) y off size w v) (hL : (¬ ∀ a, off a ≤ y a ∧ (y a : ℕ) < off a + size a) → View.canon L y = v) :
    View.canon (⟨Rect.unit off size inb, w⟩ :: L) y = v := by
  by_cases hm : y ∈ (Rect.unit off size inb).set
  · obtain ⟨x, hx⟩ := (Rect.unit off size inb).exists_idx_of_mem hm
    rw [← hx]
    rw [show (Rect.unit off size inb).idx x = (Rect.unit off size inb).emb x from rfl, View.canon_cons_emb]
    refine h x fun a => ?_
    rw [← hx]
    show off a + 1 * (x a : ℕ) = _
    omega
  · rw [View.canon_cons_of_not_mem _ _ hm]
    exact hL fun hh => hm (Rect.mem_set_unit.mpr hh)

theorem not_tile {n : ℕ} {r o s : ℕ} {y : Fin 2 → ℕ} (h : ¬ ∀ a : Fin 2, (![r, o] : Fin 2 → ℕ) a ≤ y a ∧ y a < (![r, o] : Fin 2 → ℕ) a + (![n, s] : Fin 2 → ℕ) a)
    (h1 : o ≤ y 1) (h1' : y 1 < o + s) : y 0 < r ∨ r + n ≤ y 0 := by
  by_contra hc
  apply h
  intro a
  fin_cases a
  · exact ⟨by show r ≤ y 0; omega, by show y 0 < r + n; omega⟩
  · exact ⟨h1, h1'⟩

/-- Eight pieces of 128 rows cover the columns `o .. o + 511`; whatever was stored before them does not matter there. -/
theorem canon_rows8 (o : ℕ) (i7 i6 i5 i4 i3 i2 i1 i0) (w7 w6 w5 w4 w3 w2 w1 w0 : S128x512.Idx → Elt Ideal .bf16)
    (L : List (View.Piece (Elt Ideal) S1024x3072 .bf16)) (y : S1024x3072.Idx) (v : Elt Ideal .bf16)
    (hy : o ≤ (y 1 : ℕ)) (hy' : (y 1 : ℕ) < o + 512)
    (h7 : ∀ u : S128x512.Idx, (y 0 : ℕ) = 896 + (u 0 : ℕ) → (y 1 : ℕ) = o + (u 1 : ℕ) → w7 u = v)
    (h6 : ∀ u : S128x512.Idx, (y 0 : ℕ) = 768 + (u 0 : ℕ) → (y 1 : ℕ) = o + (u 1 : ℕ) → w6 u = v)
    (h5 : ∀ u : S128x512.Idx, (y 0 : ℕ) = 640 + (u 0 : ℕ) → (y 1 : ℕ) = o + (u 1 : ℕ) → w5 u = v)
    (h4 : ∀ u : S128x512.Idx, (y 0 : ℕ) = 512 + (u 0 : ℕ) → (y 1 : ℕ) = o + (u 1 : ℕ) → w4 u = v)
    (h3 : ∀ u : S128x512.Idx, (y 0 : ℕ) = 384 + (u 0 : ℕ) → (y 1 : ℕ) = o + (u 1 : ℕ) → w3 u = v)
    (h2 : ∀ u : S128x512.Idx, (y 0 : ℕ) = 256 + (u 0 : ℕ) → (y 1 : ℕ) = o + (u 1 : ℕ) → w2 u = v)
    (h1 : ∀ u : S128x512.Idx, (y 0 : ℕ) = 128 + (u 0 : ℕ) → (y 1 : ℕ) = o + (u 1 : ℕ) → w1 u = v)
    (h0 : ∀ u : S128x512.Idx, (y 0 : ℕ) = 0 + (u 0 : ℕ) → (y 1 : ℕ) = o + (u 1 : ℕ) → w0 u = v) :
    View.canon (Val := Elt Ideal) (s := S1024x3072) (e := .bf16)
      (⟨Rect.unit ![896, o] ![128, 512] i7, w7⟩ :: ⟨Rect.unit ![768, o] ![128, 512] i6, w6⟩ ::
        ⟨Rect.unit ![640, o] ![128, 512] i5, w5⟩ :: ⟨Rect.unit ![512, o] ![128, 512] i4, w4⟩ ::
        ⟨Rect.unit ![384, o] ![128, 512] i3, w3⟩ :: ⟨Rect.unit ![256, o] ![128, 512] i2, w2⟩ ::
        ⟨Rect.unit ![128, o] ![128, 512] i1, w1⟩ :: ⟨Rect.unit ![0, o] ![128, 512] i0, w0⟩ :: L) y = v := by
  have ly : (y 0 : ℕ) < 1024 := (y 0).isLt
  refine canon_peel _ _ _ _ _ _ _ (fun u hu => h7 u (hu 0) (hu 1)) fun n7 => ?_
  refine canon_peel _ _ _ _ _ _ _ (fun u hu => h6 u (hu 0) (hu 1)) fun n6 => ?_
  refine canon_peel _ _ _ _ _ _ _ (fun u hu => h5 u (hu 0) (hu 1)) fun n5 => ?_
  refine canon_peel _ _ _ _ _ _ _ (fun u hu => h4 u (hu 0) (hu 1)) fun n4 => ?_
  refine canon_peel _ _ _ _ _ _ _ (fun u hu => h3 u (hu 0) (hu 1)) fun n3 => ?_
  refine canon_peel _ _ _ _ _ _ _ (fun u hu => h2 u (hu 0) (hu 1)) fun n2 => ?_
  refine canon_peel _ _ _ _ _ _ _ (fun u hu => h1 u (hu 0) (hu 1)) fun n1 => ?_
  refine canon_peel _ _ _ _ _ _ _ (fun u hu => h0 u (hu 0) (hu 1)) fun n0 => ?_
  exfalso
  have e7 := not_tile (y := fun a => (y a : ℕ)) n7 hy hy'
  have e6 := not_tile (y := fun a => (y a : ℕ)) n6 hy hy'
  have e5 := not_tile (y := fun a => (y a : ℕ)) n5 hy hy'
  have e4 := not_tile (y := fun a => (y a : ℕ)) n4 hy hy'
  have e3 := not_tile (y := fun a => (y a : ℕ)) n3 hy hy'
  have e2 := not_tile (y := fun a => (y a : ℕ)) n2 hy hy'
  have e1 := not_tile (y := fun a => (y a : ℕ)) n1 hy hy'
  have e0 := not_tile (y := fun a => (y a : ℕ)) n0 hy hy'
  dsimp only at e7 e6 e5 e4 e3 e2 e1 e0
  omega

/-- The rows of `dg` a group of columns is multiplied with, read back. -/
theorem piece_acc (x0 : Vec Ideal S1024x1024 .fp8e4m3) (x1 : Vec Ideal S2x4x1024 .f32) (x2 : Vec Ideal S2x2x512x1536 .fp8e4m3) (x3 : Vec Ideal S2x4x2x1536 .f32)
    (A : Vec Ideal S1024x512 .f32) (a : EReal) (o : ℕ) (inb : ∀ a : Fin S1024x1024.rank, (![0, 0] : Fin 2 → ℕ) a + (![1024, 1024] : Fin 2 → ℕ) a ≤ S1024x1024.size a)
    (inb' : ∀ a : Fin S1024x3072.rank, (![0, o] : Fin 2 → ℕ) a + (![1024, 512] : Fin 2 → ℕ) a ≤ S1024x3072.size a)
    (C : Vec Ideal S1024x3072 .bf16) (x : S1024x512.Idx) (y : S1024x3072.Idx) (h0 : (y 0 : ℕ) = x 0) (h1 : (y 1 : ℕ) = o + x 1)
    (hA : A x = a) (hC : ∀ z : S1024x3072.Idx, o ≤ (z 1 : ℕ) → (z 1 : ℕ) < o + 512 → C z = DG x2 x3 z) :
    k0_pay169 (F := Ideal) A (fun j => XT x0 x1 ((Rect.unit (s := S1024x1024) ![0, 0] ![1024, 1024] inb).idx j))
      (fun j => C ((Rect.unit (s := S1024x3072) ![0, o] ![1024, 512] inb').idx j)) x
      = a + STEP x0 x1 x2 x3 y := by
  rw [apay_apply, hA]
  have l1 : (x 1 : ℕ) < 512 := (x 1).isLt
  unfold STEP
  congr 1
  refine Finset.sum_congr rfl fun k _ => ?_
  rw [hC _ (by show o ≤ o + 1 * (x 1 : ℕ); omega) (by show o + 1 * (x 1 : ℕ) < o + 512; omega)]
  congr 2
  · funext a
    fin_cases a <;> apply Fin.ext
    · show 0 + 1 * (x 0 : ℕ) = y 0
      omega
    · show 0 + 1 * (k : ℕ) = k
      omega
  · funext a
    fin_cases a <;> apply Fin.ext
    · show 0 + 1 * (k : ℕ) = k
      omega
    · show o + 1 * (x 1 : ℕ) = y 1
      omega

/-- Columns `o .. o + 511` of the accumulator, read at their place. -/
theorem ld_cols (xs2 : Vec Ideal S1024x3072 .f32) (o : ℕ)
    (inb' : ∀ a : Fin S1024x3072.rank, (![0, o] : Fin 2 → ℕ) a + (![1024, 512] : Fin 2 → ℕ) a ≤ S1024x3072.size a)
    (x : S1024x512.Idx) (y : S1024x3072.Idx) (h0 : (y 0 : ℕ) = x 0) (h1 : (y 1 : ℕ) = o + x 1) :
    View.ld (Val := Elt Ideal) (S := S1024x3072) (e' := .f32) xs2 (Rect.unit (s := S1024x3072) ![0, o] ![1024, 512] inb') x = xs2 y := by
  show xs2 _ = xs2 _
  congr 1
  funext a
  fin_cases a <;> apply Fin.ext
  · show 0 + 1 * (x 0 : ℕ) = y 0
    omega
  · show o + 1 * (x 1 : ℕ) = y 1
    omega

theorem not_tile' {o : ℕ} {y : Fin 2 → ℕ} (h : ¬ ∀ a : Fin 2, (![0, o] : Fin 2 → ℕ) a ≤ y a ∧ y a < (![0, o] : Fin 2 → ℕ) a + (![1024, 512] : Fin 2 → ℕ) a)
    (h0 : y 0 < 1024) : y 1 < o ∨ o + 512 ≤ y 1 := by
  by_contra hc
  apply h
  intro a
  fin_cases a
  · exact ⟨Nat.zero_le _, by show y 0 < 0 + 1024; omega⟩
  · exact ⟨by show o ≤ y 1; omega, by show y 1 < o + 512; omega⟩

/-- Six pieces of 512 columns cover the accumulator; whatever was stored before them does not matter. -/
theorem canon_cols6 (i5 i4 i3 i2 i1 i0) (w5 w4 w3 w2 w1 w0 : S1024x512.Idx → Elt Ideal .f32)
    (L : List (View.Piece (Elt Ideal) S1024x3072 .f32)) (y : S1024x3072.Idx) (v : Elt Ideal .f32)
    (h5 : ∀ x : S1024x512.Idx, (y 0 : ℕ) = x 0 → (y 1 : ℕ) = 2560 + x 1 → w5 x = v)
    (h4 : ∀ x : S1024x512.Idx, (y 0 : ℕ) = x 0 → (y 1 : ℕ) = 2048 + x 1 → w4 x = v)
    (h3 : ∀ x : S1024x512.Idx, (y 0 : ℕ) = x 0 → (y 1 : ℕ) = 1536 + x 1 → w3 x = v)
    (h2 : ∀ x : S1024x512.Idx, (y 0 : ℕ) = x 0 → (y 1 : ℕ) = 1024 + x 1 → w2 x = v)
    (h1 : ∀ x : S1024x512.Idx, (y 0 : ℕ) = x 0 → (y 1 : ℕ) = 512 + x 1 → w1 x = v)
    (h0 : ∀ x : S1024x512.Idx, (y 0 : ℕ) = x 0 → (y 1 : ℕ) = 0 + x 1 → w0 x = v) :
    View.canon (Val := Elt Ideal) (s := S1024x3072) (e := .f32)
      (⟨Rect.unit ![0, 2560] ![1024, 512] i5, w5⟩ :: ⟨Rect.unit ![0, 2048] ![1024, 512] i4, w4⟩ ::
        ⟨Rect.unit ![0, 1536] ![1024, 512] i3, w3⟩ :: ⟨Rect.unit ![0, 1024] ![1024, 512] i2, w2⟩ ::
        ⟨Rect.unit ![0, 512] ![1024, 512] i1, w1⟩ :: ⟨Rect.unit ![0, 0] ![1024, 512] i0, w0⟩ :: L) y = v := by
  have ly : (y 0 : ℕ) < 1024 := (y 0).isLt
  have ly1 : (y 1 : ℕ) < 3072 := (y 1).isLt
  refine canon_peel _ _ _ _ _ _ _ (fun u hu => h5 u ((hu 0).trans (Nat.zero_add _)) (hu 1)) fun n5 => ?_
  refine canon_peel _ _ _ _ _ _ _ (fun u hu => h4 u ((hu 0).trans (Nat.zero_add _)) (hu 1)) fun n4 => ?_
  refine canon_peel _ _ _ _ _ _ _ (fun u hu => h3 u ((hu 0).trans (Nat.zero_add _)) (hu 1)) fun n3 => ?_
  refine canon_peel _ _ _ _ _ _ _ (fun u hu => h2 u ((hu 0).trans (Nat.zero_add _)) (hu 1)) fun n2 => ?_
  refine canon_peel _ _ _ _ _ _ _ (fun u hu => h1 u ((hu 0).trans (Nat.zero_add _)) (hu 1)) fun n1 => ?_
  refine canon_peel _ _ _ _ _ _ _ (fun u hu => h0 u ((hu 0).trans (Nat.zero_add _)) (hu 1)) fun n0 => ?_
  exfalso
  have e5 := not_tile' (y := fun a => (y a : ℕ)) n5 ly
  have e4 := not_tile' (y := fun a => (y a : ℕ)) n4 ly
  have e3 := not_tile' (y := fun a => (y a : ℕ)) n3 ly
  have e2 := not_tile' (y := fun a => (y a : ℕ)) n2 ly
  have e1 := not_tile' (y := fun a => (y a : ℕ)) n1 ly
  have e0 := not_tile' (y := fun a => (y a : ℕ)) n0 ly
  dsimp only at e5 e4 e3 e2 e1 e0
  omega

theorem zero_apply (y : S1024x3072.Idx) : k0_pay5 (F := Ideal) y = (0 : EReal) := by
  unfold k0_pay5
  pointwise

theorem opay3_apply (A : Vec Ideal S1024x1536 .f32) (x : S1024x1x1536.Idx) : k0_pay3 (F := Ideal) A x = A (ix2 (x 0) (x 2)) := by
  unfold k0_pay3
  pointwise

theorem opay4_apply (A : Vec Ideal S1024x1536 .f32) (x : S1024x1x1536.Idx) : k0_pay4 (F := Ideal) A x = A (ix2 (x 0) (x 2)) := by
  unfold k0_pay4
  pointwise

end Cert.Dw13Hand
end
-- ==== Proof.Dw13Point.lean ====
module

public import proofs.«01_k».proof.Proof.Dw13Piece

@[expose] public section
set_option maxRecDepth 16384
set_option maxHeartbeats 4000000
noncomputable section
namespace Cert.Dw13Hand
open Cert.Dw13Ideal Cert.Dw13Ideal.Gen Idealize.ShloMosaic Idealize.ShloMosaic.TcCoe Idealize.SL.Sem

/-- The first point of a run leaves its own products in the accumulator. -/
theorem stepA (c : Dev nD) (t : Fin cfg0.N) (h0 :  cond0_0 (grid0.coords t)) (h1 : ¬ cond0_1 (grid0.coords t))
    (x0 : Vec Ideal S1024x1024 .fp8e4m3) (x1 : Vec Ideal S2x4x1024 .f32) (x2 : Vec Ideal S2x2x512x1536 .fp8e4m3) (x3 : Vec Ideal S2x4x2x1536 .f32)
    (y : S1024x3072.Idx) :
    sout0_A_2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) h0 h1 x0 x1 x2 x3 y
      = (0 : EReal) + STEP x0 x1 x2 x3 y := by
  frame_open
  simp (disch := decide) only [↓ View.readCov_skip, ↓ View.readCov_fill]
  simp only [View.read_writes_junk_eq_canon, View.readAt_eq_ld, Memref.IsWhole.read_unread, read_unread_whole, View.readCov_eq_canon']
  generalize hX : View.canon (Val := Elt Ideal) (s := S1024x1024) (e := .bf16) _ = X
  obtain rfl : X = XT x0 x1 := by
    rw [← hX]
    clear hX
    funext y
    canon_tiles x h
    all_goals (refine piece_xt x0 x1 _ _ _ _ _ _ _ _ ?_ ?_ ?_ ?_ <;> omega)
  clear hX
  refine canon_cols6 _ _ _ _ _ _ _ _ _ _ _ _ _ _ _ ?_ ?_ ?_ ?_ ?_ ?_
  all_goals
    intro x e0 e1
    refine piece_acc x0 x1 x2 x3 _ _ _ _ _ _ x y e0 e1 ?_ ?_
  all_goals first
    | exact zero_apply _
    | (intro z hz hz'
       refine canon_rows8 _ _ _ _ _ _ _ _ _ _ _ _ _ _ _ _ _ _ z _ hz hz' ?_ ?_ ?_ ?_ ?_ ?_ ?_ ?_
       all_goals
         intro u u0 u1
         refine piece_dg x2 x3 _ _ _ _ _ _ _ _ _ u z u0 u1 ?_ ?_ ?_ ?_ ?_ <;> omega)

/-- A middle point adds its products to what the accumulator held. -/
theorem stepB (c : Dev nD) (t : Fin cfg0.N) (h0 : ¬ cond0_0 (grid0.coords t)) (h1 : ¬ cond0_1 (grid0.coords t))
    (x0 : Vec Ideal S1024x1024 .fp8e4m3) (x1 : Vec Ideal S2x4x1024 .f32) (x2 : Vec Ideal S2x2x512x1536 .fp8e4m3) (x3 : Vec Ideal S2x4x2x1536 .f32)
    (xs2 : Vec Ideal S1024x3072 .f32) (y : S1024x3072.Idx) :
    sout0_B_2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) h0 h1 x0 x1 x2 x3 xs2 y
      = HAdd.hAdd (α := EReal) (β := EReal) (xs2 y) (STEP x0 x1 x2 x3 y) := by
  frame_open
  simp only [View.read_writes_junk_eq_canon, View.readAt_eq_ld, Memref.IsWhole.read_unread, read_unread_whole, View.readCov_eq_canon']
  generalize hX : View.canon (Val := Elt Ideal) (s := S1024x1024) (e := .bf16) _ = X
  obtain rfl : X = XT x0 x1 := by
    rw [← hX]
    clear hX
    funext y
    canon_tiles x h
    all_goals (refine piece_xt x0 x1 _ _ _ _ _ _ _ _ ?_ ?_ ?_ ?_ <;> omega)
  clear hX
  refine canon_cols6 _ _ _ _ _ _ _ _ _ _ _ _ _ _ _ ?_ ?_ ?_ ?_ ?_ ?_
  all_goals
    intro x e0 e1
    refine piece_acc x0 x1 x2 x3 _ _ _ _ _ _ x y e0 e1 ?_ ?_
  all_goals first
    | exact ld_cols xs2 _ _ x y e0 e1
    | (intro z hz hz'
       refine canon_rows8 _ _ _ _ _ _ _ _ _ _ _ _ _ _ _ _ _ _ z _ hz hz' ?_ ?_ ?_ ?_ ?_ ?_ ?_ ?_
       all_goals
         intro u u0 u1
         refine piece_dg x2 x3 _ _ _ _ _ _ _ _ _ u z u0 u1 ?_ ?_ ?_ ?_ ?_ <;> omega)

/-- So does the last point of a run. -/
theorem stepC (c : Dev nD) (t : Fin cfg0.N) (h0 : ¬ cond0_0 (grid0.coords t)) (h1 :  cond0_1 (grid0.coords t))
    (x0 : Vec Ideal S1024x1024 .fp8e4m3) (x1 : Vec Ideal S2x4x1024 .f32) (x2 : Vec Ideal S2x2x512x1536 .fp8e4m3) (x3 : Vec Ideal S2x4x2x1536 .f32)
    (xs2 : Vec Ideal S1024x3072 .f32) (y : S1024x3072.Idx) :
    sout0_C_2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) h0 h1 x0 x1 x2 x3 xs2 y
      = HAdd.hAdd (α := EReal) (β := EReal) (xs2 y) (STEP x0 x1 x2 x3 y) := by
  frame_open
  simp only [View.read_writes_junk_eq_canon, View.readAt_eq_ld, Memref.IsWhole.read_unread, read_unread_whole, View.readCov_eq_canon']
  generalize hX : View.canon (Val := Elt Ideal) (s := S1024x1024) (e := .bf16) _ = X
  obtain rfl : X = XT x0 x1 := by
    rw [← hX]
    clear hX
    funext y
    canon_tiles x h
    all_goals (refine piece_xt x0 x1 _ _ _ _ _ _ _ _ ?_ ?_ ?_ ?_ <;> omega)
  clear hX
  refine canon_cols6 _ _ _ _ _ _ _ _ _ _ _ _ _ _ _ ?_ ?_ ?_ ?_ ?_ ?_
  all_goals
    intro x e0 e1
    refine piece_acc x0 x1 x2 x3 _ _ _ _ _ _ x y e0 e1 ?_ ?_
  all_goals first
    | exact ld_cols xs2 _ _ x y e0 e1
    | (intro z hz hz'
       refine canon_rows8 _ _ _ _ _ _ _ _ _ _ _ _ _ _ _ _ _ _ z _ hz hz' ?_ ?_ ?_ ?_ ?_ ?_ ?_ ?_
       all_goals
         intro u u0 u1
         refine piece_dg x2 x3 _ _ _ _ _ _ _ _ _ u z u0 u1 ?_ ?_ ?_ ?_ ?_ <;> omega)

/-- The last point of a run writes the accumulator out, its column `g * 1536 + f` at place `g, f`. -/
theorem outC (c : Dev nD) (t : Fin cfg0.N) (h0 : ¬ cond0_0 (grid0.coords t)) (h1 :  cond0_1 (grid0.coords t))
    (x0 : Vec Ideal S1024x1024 .fp8e4m3) (x1 : Vec Ideal S2x4x1024 .f32) (x2 : Vec Ideal S2x2x512x1536 .fp8e4m3) (x3 : Vec Ideal S2x4x2x1536 .f32)
    (xs2 : Vec Ideal S1024x3072 .f32) (y : S1024x2x1536.Idx) :
    out0_C_4 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) h0 h1 x0 x1 x2 x3 xs2 y
      = sout0_C_2 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) scM0_2 (Memref.isWhole_whole _) h0 h1 x0 x1 x2 x3 xs2
      (ix2 (y 0) (⟨(y 1).val * 1536 + (y 2).val, by have h1 := (y 1).isLt; have h2 := (y 2).isLt; simp at h1 h2; omega⟩ : Fin 3072)) := by
  frame_open
  simp only [View.read_writes_junk_eq_canon, View.readAt_eq_ld, Memref.IsWhole.read_unread, read_unread_whole, View.readCov_eq_canon']
  generalize hX : View.canon (Val := Elt Ideal) (s := S1024x3072) (e := .f32) _ = X
  clear hX
  canon_tiles x h
  · rw [opay4_apply]
    show X _ = X _
    congr 1
    funext a
    fin_cases a <;> apply Fin.ext
    · show 0 + 1 * (x 0 : ℕ) = y 0
      omega
    · show 1536 + 1 * (x 2 : ℕ) = y 1 * 1536 + y 2
      omega
  · rw [opay3_apply]
    show X _ = X _
    congr 1
    funext a
    fin_cases a <;> apply Fin.ext
    · show 0 + 1 * (x 0 : ℕ) = y 0
      omega
    · show 0 + 1 * (x 2 : ℕ) = y 1 * 1536 + y 2
      omega

end Cert.Dw13Hand
end
-- ==== Proof.Dw13Sum.lean ====
module

public import proofs.«01_k».proof.Proof.Dw13Point
public import Idealize.ShloMosaic.Lib.Pipeline.ValueKit

@[expose] public section
set_option maxRecDepth 16384
set_option maxHeartbeats 1000000
noncomputable section
namespace Cert.Dw13Hand
open Cert.Dw13Ideal Cert.Dw13Ideal.Gen Idealize.ShloMosaic Idealize.ShloMosaic.TcCoe Idealize.SL.Sem

variable (m : (ℓ : Loc nD τ sig) → Buf (Elt Ideal) ℓ)

/-- What one row `s` of batch row `b` adds to the gradient's element `i`: the dequantised activation times the dequantised gradient. -/
def TERM (a0 : S12288x4096.Idx → EReal) (a1 : S24x4x4096.Idx → EReal) (a2 : S24x2x512x1536.Idx → EReal) (a3 : S24x4x2x1536.Idx → EReal)
    (i : S4096x2x1536.Idx) (b : Fin 24) (s : Fin 512) : EReal :=
  (a0 (ix2 (⟨b.val * 512 + s.val, by omega⟩ : Fin 12288) (i 0)) * a1 (ix3 b (⟨s.val / 128, by omega⟩ : Fin 4) (i 0)))
    * (a2 (ix4 b (i 1) s (i 2)) * a3 (ix4 b (⟨s.val / 128, by omega⟩ : Fin 4) (i 1) (i 2)))

/-- The weight gradient: the sum over all rows. -/
def GRAD (a0 : S12288x4096.Idx → EReal) (a1 : S24x4x4096.Idx → EReal) (a2 : S24x2x512x1536.Idx → EReal) (a3 : S24x4x2x1536.Idx → EReal)
    (i : S4096x2x1536.Idx) : EReal := ∑ b : Fin 24, ∑ s : Fin 512, TERM a0 a1 a2 a3 i b s

/-- What a run's last point leaves in the accumulator, named. -/
theorem last_snd (c : Dev nD) (t : Fin cfg0.N) (h : ¬t.val % 12 = 0) (h1 : t.val % 12 = 11) (h0' : ¬ cond0_0 (grid0.coords t)) (h1' : cond0_1 (grid0.coords t)) :
    (outsAt0 m c t.val t.isLt).2 = sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) h0' h1' (iblk m c 0 t) (iblk m c 1 t) (iblk m c 2 t) (iblk m c 3 t)
      (outsAt0 m c (t.val - 1) (Nat.lt_of_le_of_lt (Nat.sub_le _ _) t.isLt)).2 := by
  rw [outsAt0_C m c t h h1]

/-- What a run's last point leaves in the output block, named. -/
theorem last_fst (c : Dev nD) (t : Fin cfg0.N) (h : ¬t.val % 12 = 0) (h1 : t.val % 12 = 11) (h0' : ¬ cond0_0 (grid0.coords t)) (h1' : cond0_1 (grid0.coords t)) :
    (outsAt0 m c t.val t.isLt).1 = out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) h0' h1' (iblk m c 0 t) (iblk m c 1 t) (iblk m c 2 t) (iblk m c 3 t)
      (outsAt0 m c (t.val - 1) (Nat.lt_of_le_of_lt (Nat.sub_le _ _) t.isLt)).2 := by
  rw [outsAt0_C m c t h h1]

/-- What a middle point leaves in the accumulator, named. -/
theorem mid_snd (c : Dev nD) (t : Fin cfg0.N) (h : ¬t.val % 12 = 0) (h1 : ¬t.val % 12 = 11) (h0' : ¬ cond0_0 (grid0.coords t)) (h1' : ¬ cond0_1 (grid0.coords t)) :
    (outsAt0 m c t.val t.isLt).2 = sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) h0' h1' (iblk m c 0 t) (iblk m c 1 t) (iblk m c 2 t) (iblk m c 3 t)
      (outsAt0 m c (t.val - 1) (Nat.lt_of_le_of_lt (Nat.sub_le _ _) t.isLt)).2 := by
  rw [outsAt0_B m c t h h1]

/-- At the last point of a run the accumulator holds the sum of the run's twelve products. -/
theorem acc_flush (c : Dev nD) (t : Fin cfg0.N) (hr : t.val % 12 = 11) (y : S1024x3072.Idx) :
    (outsAt0 m c t.val t.isLt).2 y = (0 : EReal) + ∑ s : Fin 12,
      STEP (iblk m c 0 ⟨12 * (t.val / 12) + s.val, Pipeline.run_point_lt_of_flush t hr s⟩) (iblk m c 1 ⟨12 * (t.val / 12) + s.val, Pipeline.run_point_lt_of_flush t hr s⟩)
        (iblk m c 2 ⟨12 * (t.val / 12) + s.val, Pipeline.run_point_lt_of_flush t hr s⟩) (iblk m c 3 ⟨12 * (t.val / 12) + s.val, Pipeline.run_point_lt_of_flush t hr s⟩) y := by
  rw [Pipeline.eq_sum_fin_of_reset_step_apply_of_flush (M := EReal) (fun n h => (outsAt0 m c n h).2) 12 (fun _ => (0 : EReal))
    (fun t y => STEP (iblk m c 0 t) (iblk m c 1 t) (iblk m c 2 t) (iblk m c 3 t) y)
    (fun t h y => by
      rw [outsAt0_A m c t h (by omega)]
      exact stepA c t ((hcond0_0 t).mpr h) (fun h' => absurd ((hcond0_1 t).mp h') (by omega)) (iblk m c 0 t) (iblk m c 1 t) (iblk m c 2 t) (iblk m c 3 t) y)
    (fun t h y => by
      by_cases h1 : t.val % 12 = 11
      · rw [last_snd m c t h h1 (fun h' => h ((hcond0_0 t).mp h')) ((hcond0_1 t).mpr h1), stepC]
      · rw [mid_snd m c t h h1 (fun h' => h ((hcond0_0 t).mp h')) (fun h' => h1 ((hcond0_1 t).mp h')), stepB]) t hr y]

theorem idxs : ∀ t : Fin cfg0.N, win0_0.index t = ![t.val % 12, t.val / 12] ∧ win0_1.index t = ![t.val % 12, 0, t.val / 12]
    ∧ win0_2.index t = ![t.val % 12, 0, 0, 0] ∧ win0_3.index t = ![t.val % 12, 0, 0, 0] ∧ win0_4.index t = ![t.val / 12, 0, 0] :=
  (by decide +kernel : ∀ t : Fin grid0.N, _)

/-- A row of a point's product is a row of the whole sum. -/
theorem step_term (c : Dev nD) (p : Fin cfg0.N) (k : Fin 1024) (y : S1024x3072.Idx) (i : S4096x2x1536.Idx) (b : Fin 24) (s : Fin 512)
    (hb : b.val = 2 * (p.val % 12) + k.val / 512) (hs : s.val = k.val % 512) (h0 : (i 0).val = 1024 * (p.val / 12) + (y 0).val)
    (h1 : (y 1).val = (i 1).val * 1536 + (i 2).val) :
    XT (iblk m c 0 p) (iblk m c 1 p) (ix2 (y 0) k) * DG (iblk m c 2 p) (iblk m c 3 p) (ix2 k (y 1))
      = TERM (m ((c : Thread nD τ).loc main_arg0)) (m ((c : Thread nD τ).loc main_arg1)) (m ((c : Thread nD τ).loc main_arg2)) (m ((c : Thread nD τ).loc main_arg3)) i b s := by
  obtain ⟨e0, e1, e2, e3, -⟩ := idxs p
  have i1 : (i 1).val < 2 := (i 1).isLt
  have i2 : (i 2).val < 1536 := (i 2).isLt
  unfold XT DG TERM
  congr 1 <;> congr 1
  · blk_ext [iblk, V, e0]
  · blk_ext [iblk, V, e1]
  · blk_ext [iblk, V, e2]
  · blk_ext [iblk, V, e3]

/-- What a run's last point writes back is its accumulator. -/
theorem out_acc (c : Dev nD) (t : Fin cfg0.N) (h0 : ¬t.val % 12 = 0) (hr : t.val % 12 = 11) (y : S1024x2x1536.Idx) :
    (outsAt0 m c t.val t.isLt).1 y = (outsAt0 m c t.val t.isLt).2
      (ix2 (y 0) (⟨(y 1).val * 1536 + (y 2).val, by have h1 := (y 1).isLt; have h2 := (y 2).isLt; simp at h1 h2; omega⟩ : Fin 3072)) := by
  rw [last_fst m c t h0 hr (fun h' => h0 ((hcond0_0 t).mp h')) ((hcond0_1 t).mpr hr), outC, last_snd m c t h0 hr (fun h' => h0 ((hcond0_0 t).mp h')) ((hcond0_1 t).mpr hr)]

/-- The array the kernel leaves, element by element. -/
theorem kernel_value (c : Dev nD) :
    (dats m 0 c).arrAt 4 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr : t.val % 12 = 11 := (flush0_4 t).mp hf
  obtain ⟨-, -, -, -, e4⟩ := idxs t
  have key : (dats m 0 c).after 4 t y = _ := (congrFun (after0_4 m c t) y).trans (out_acc m c t (by omega) hr y)
  rw [acc_flush m c t hr, zero_add] at key
  blk_simp
  refine key.trans ?_
  clear key
  have hi : ((win0_4.blk t).view.emb y 0).val = 1024 * (t.val / 12) + (y 0).val ∧ ((win0_4.blk t).view.emb y 1).val = (y 1).val
      ∧ ((win0_4.blk t).view.emb y 2).val = (y 2).val := by
    refine ⟨?_, ?_, ?_⟩ <;> blk_simp [e4] <;> omega
  generalize (win0_4.blk t).view.emb y = i at hi ⊢
  unfold GRAD STEP
  refine (Fin.sum_mul_add_congr (L := 12288) (f := fun r => TERM (m ((c : Thread nD τ).loc main_arg0)) (m ((c : Thread nD τ).loc main_arg1)) (m ((c : Thread nD τ).loc main_arg2))
    (m ((c : Thread nD τ).loc main_arg3)) i ⟨r.val / 512, by omega⟩ ⟨r.val % 512, by omega⟩) (fun s k hl => ?_)).trans (Fin.sum_divmod_congr (fun r ha hs => rfl))
  have hs := s.isLt
  have hk := k.isLt
  refine step_term m c _ k _ i _ _ ?_ ?_ ?_ ?_
  · show (s.val * 1024 + k.val) / 512 = 2 * ((12 * (t.val / 12) + s.val) % 12) + k.val / 512
    omega
  · show (s.val * 1024 + k.val) % 512 = k.val % 512
    omega
  · show (i 0).val = 1024 * ((12 * (t.val / 12) + s.val) / 12) + (y 0).val
    omega
  · show (y 1).val * 1536 + (y 2).val = (i 1).val * 1536 + (i 2).val
    omega

end Cert.Dw13Hand
end
-- ==== Proof.Dw13Ref.lean ====
module

public import proofs.«01_k».proof.Proof.Gen.Dw13RefIdeal.Value
public import Idealize.ShloMosaic.Lib.Pipeline.ValueKit

@[expose] public section
set_option maxRecDepth 16384
set_option maxHeartbeats 1000000
noncomputable section
namespace Cert.Dw13RefHand
open Cert.Dw13RefIdeal Cert.Dw13RefIdeal.Gen Idealize.ShloMosaic Idealize.ShloMosaic.TcCoe Idealize.SL.Sem

variable (m : (ℓ : Loc nD τ sig) → Buf (Elt Ideal) ℓ)

/-- The reference's body at an index: the sum over all rows of dequantised activation times dequantised gradient. -/
theorem pay_apply (v0 : Vec Ideal S24x512x4096 .fp8e4m3) (v2 : Vec Ideal S24x4x4096 .f32) (v10 : Vec Ideal S24x512x2x1536 .fp8e4m3)
    (v12 : Vec Ideal S24x4x2x1536 .f32) (y : S4096x2x1536.Idx) :
    k0_pay1 (F := Ideal) v0 v2 v10 v12 y = ∑ b : Fin 24, ∑ s : Fin 512,
      HMul.hMul (α := EReal) (β := EReal)
        (HMul.hMul (α := EReal) (β := EReal) (v0 (ix3 b s (y 0))) (v2 (ix3 b (⟨s.val / 128, by omega⟩ : Fin 4) (y 0))))
        (HMul.hMul (α := EReal) (β := EReal) (v10 (ix4 b s (y 1) (y 2))) (v12 (ix4 b (⟨s.val / 128, by omega⟩ : Fin 4) (y 1) (y 2)))) := by
  unfold k0_pay1
  pointwise

/-- The array the reference leaves, element by element. -/
theorem ref_value (c : Dev nD) (i : S4096x2x1536.Idx) :
    (dats m 0 c).arrAt 4 cfg0.N i = k0_pay1 (F := Ideal) (iblk m c 0 t0_0) (iblk m c 1 t0_0) (iblk m c 2 t0_0) (iblk m c 3 t0_0) i := by
  refine congrFun ((dats m 0 c).arrAt_eq_of_after_last 4 t0_0 (by decide +kernel) _ fun j => ?_) i
  blk_simp
  rw [after0_4]
  frame_out

theorem idxs : win0_0.index t0_0 = ![0, 0, 0] ∧ win0_1.index t0_0 = ![0, 0, 0] ∧ win0_2.index t0_0 = ![0, 0, 0, 0] ∧ win0_3.index t0_0 = ![0, 0, 0, 0] := by
  decide +kernel

theorem in0 (c : Dev nD) (b : Fin 24) (s : Fin 512) (d : Fin 4096) (h : b.val * 512 + s.val < 12288) :
    iblk m c 0 t0_0 (ix3 b s d) = m ((c : Thread nD τ).loc main_arg0) (ix2 ⟨b.val * 512 + s.val, h⟩ d) := by
  have e := idxs.1
  have h1 : iblk m c 0 t0_0 (ix3 b s d) = V m c main_v0 (ix3 b s d) := by
    unfold iblk
    blk_ext [e]
  rw [h1]
  entry_read
  pointwise

theorem in1 (c : Dev nD) (y : S24x4x4096.Idx) : iblk m c 1 t0_0 y = m ((c : Thread nD τ).loc main_arg1) y := by
  have e := idxs.2.1
  blk_ext [iblk, e]

theorem in2 (c : Dev nD) (b : Fin 24) (s : Fin 512) (g : Fin 2) (f : Fin 1536) :
    iblk m c 2 t0_0 (ix4 b s g f) = m ((c : Thread nD τ).loc main_arg2) (ix4 b g s f) := by
  have e := idxs.2.2.1
  have h1 : iblk m c 2 t0_0 (ix4 b s g f) = V m c main_v1 (ix4 b s g f) := by
    unfold iblk
    blk_ext [e]
  rw [h1]
  entry_read
  pointwise

theorem in3 (c : Dev nD) (y : S24x4x2x1536.Idx) : iblk m c 3 t0_0 y = m ((c : Thread nD τ).loc main_arg3) y := by
  have e := idxs.2.2.2
  blk_ext [iblk, e]

end Cert.Dw13RefHand
end
-- ==== Proof.Dw13Tie.lean ====
module

public import proofs.«01_k».proof.Defs
public import proofs.«01_k».proof.Proof.Dw13Sum
public import proofs.«01_k».proof.Proof.Dw13Ref

@[expose] public section
set_option maxRecDepth 16384
set_option maxHeartbeats 1000000
noncomputable section
namespace Cert.Dw13Tie
open Idealize.ShloMosaic Idealize.ShloMosaic.TcCoe Idealize.SL.Sem

/-- From memories that agree on the arguments, the reference leaves the kernel's array. -/
theorem tie (m : (ℓ : Loc Dw13Ideal.nD Dw13Ideal.τ Dw13Ideal.sig) → Buf (Elt Ideal) ℓ)
    (m' : (ℓ : Loc Dw13RefIdeal.nD Dw13RefIdeal.τ Dw13RefIdeal.sig) → Buf (Elt Ideal) ℓ) (c : Dev Dw13Ideal.nD)
    (h0 : m' ((c.tc : Thread Dw13RefIdeal.nD Dw13RefIdeal.τ).loc Dw13RefIdeal.main_arg0) = m ((c.tc : Thread Dw13Ideal.nD Dw13Ideal.τ).loc Dw13Ideal.main_arg0))
    (h1 : m' ((c.tc : Thread Dw13RefIdeal.nD Dw13RefIdeal.τ).loc Dw13RefIdeal.main_arg1) = m ((c.tc : Thread Dw13Ideal.nD Dw13Ideal.τ).loc Dw13Ideal.main_arg1))
    (h2 : m' ((c.tc : Thread Dw13RefIdeal.nD Dw13RefIdeal.τ).loc Dw13RefIdeal.main_arg2) = m ((c.tc : Thread Dw13Ideal.nD Dw13Ideal.τ).loc Dw13Ideal.main_arg2))
    (h3 : m' ((c.tc : Thread Dw13RefIdeal.nD Dw13RefIdeal.τ).loc Dw13RefIdeal.main_arg3) = m ((c.tc : Thread Dw13Ideal.nD Dw13Ideal.τ).loc Dw13Ideal.main_arg3)) :
    (Dw13RefIdeal.Gen.dats m' 0 c).arrAt 4 Dw13RefIdeal.cfg0.N = (Dw13Ideal.Gen.dats m 0 c).arrAt 4 Dw13Ideal.cfg0.N := by
  rw [Dw13Hand.kernel_value]
  funext i
  rw [Dw13RefHand.ref_value, Dw13RefHand.pay_apply, ← h0, ← h1, ← h2, ← h3]
  unfold Dw13Hand.GRAD Dw13Hand.TERM
  refine Fin.sum_fin_congr fun b => Fin.sum_fin_congr fun s => ?_
  congr 1 <;> congr 1
  · exact Dw13RefHand.in0 m' c b s (i 0) _
  · exact Dw13RefHand.in1 m' c _
  · exact Dw13RefHand.in2 m' c b s (i 1) (i 2)
  · exact Dw13RefHand.in3 m' c _

end Cert.Dw13Tie
end
-- ==== Proof.Dw2Piece.lean ====
module

public import proofs.«01_k».proof.Proof.Gen.Dw2Ideal.Value
public import Idealize.ShloMosaic.Lib.Pipeline.ValueKit
public import Idealize.ShloMosaic.Lib.Pipeline.ReadBack

@[expose] public section
set_option maxRecDepth 16384
set_option maxHeartbeats 1000000
noncomputable section
namespace Cert.Dw2Hand
open Cert.Dw2Ideal Cert.Dw2Ideal.Gen Idealize.ShloMosaic Idealize.ShloMosaic.TcCoe Idealize.SL.Sem

/-- The block of `hᵀ` one point works with: codes times scales, rows and columns exchanged. -/
def HT (x0 : Vec Ideal S1024x1536 .fp8e4m3) (x1 : Vec Ideal S2x4x1536 .f32) : Vec Ideal S1536x1024 .bf16 := fun y =>
  HMul.hMul (α := EReal) (β := EReal) (x0 (ix2 (y 1) (y 0)))
    (x1 (ix3 (⟨(y 1).val / 512, by have := (y 1).isLt; simp at this; omega⟩ : Fin 2) (⟨(y 1).val % 512 / 128, by omega⟩ : Fin 4) (y 0)))

/-- The block of `dy` one point works with: codes times scales. -/
def DY (x2 : Vec Ideal S1024x2048 .fp8e4m3) (x3 : Vec Ideal S2x4x2048 .f32) : Vec Ideal S1024x2048 .bf16 := fun y =>
  HMul.hMul (α := EReal) (β := EReal) (x2 y)
    (x3 (ix3 (⟨(y 0).val / 512, by have := (y 0).isLt; simp at this; omega⟩ : Fin 2) (⟨(y 0).val % 512 / 128, by omega⟩ : Fin 4) (y 1)))

/-- What one point adds to the output block. -/
def STEP (x0 : Vec Ideal S1024x1536 .fp8e4m3) (x1 : Vec Ideal S2x4x1536 .f32) (x2 : Vec Ideal S1024x2048 .fp8e4m3) (x3 : Vec Ideal S2x4x2048 .f32)
    (y : S1536x2048.Idx) : EReal :=
  ∑ k : Fin 1024, HMul.hMul (α := EReal) (β := EReal) (HT x0 x1 (ix2 (y 0) k)) (DY x2 x3 (ix2 k (y 1)))

theorem xpay_apply (A : Vec Ideal S128x128 .fp8e4m3) (B : Vec Ideal S1x1x128 .f32) (x : S128x128.Idx) :
    k0_pay3 (F := Ideal) A B x = HMul.hMul (α := EReal) (β := EReal) (A (ix2 (x 1) (x 0))) (B (ix3 0 0 (x 0))) := by
  unfold k0_pay3
  pointwise

theorem dpay_apply (A : Vec Ideal S128x512 .fp8e4m3) (B : Vec Ideal S1x1x512 .f32) (x : S128x512.Idx) :
    k0_pay203 (F := Ideal) A B x = HMul.hMul (α := EReal) (β := EReal) (A x) (B (ix3 0 0 (x 1))) := by
  unfold k0_pay203
  pointwise

theorem apay_apply (A : Vec Ideal S1536x512 .f32) (B : Vec Ideal S1536x1024 .bf16) (C : Vec Ideal S1024x512 .bf16) (x : S1536x512.Idx) :
    k0_pay173 (F := Ideal) A B C x = HAdd.hAdd (α := EReal) (β := EReal) (A x)
      (∑ k : Fin 1024, HMul.hMul (α := EReal) (β := EReal) (B (ix2 (x 0) k)) (C (ix2 k (x 1)))) := by
  unfold k0_pay173
  pointwise

theorem piece_ht (x0 : Vec Ideal S1024x1536 .fp8e4m3) (x1 : Vec Ideal S2x4x1536 .f32) (r c p q : ℕ)
    (inb : ∀ a : Fin S1024x1536.rank, (![c, r] : Fin 2 → ℕ) a + (![128, 128] : Fin 2 → ℕ) a ≤ S1024x1536.size a)
    (inb' : ∀ a : Fin S2x4x1536.rank, (![p, q, r] : Fin 3 → ℕ) a + (![1, 1, 128] : Fin 3 → ℕ) a ≤ S2x4x1536.size a)
    (x : S128x128.Idx) (y : S1536x1024.Idx) (h0 : (y 0 : ℕ) = r + x 0) (h1 : (y 1 : ℕ) = c + x 1)
    (hc : 512 * p + 128 * q = c) (hq : q < 4) :
    k0_pay3 (F := Ideal) (View.ld (Val := Elt Ideal) (S := S1024x1536) (e' := .fp8e4m3) x0 (Rect.unit ![c, r] ![128, 128] inb))
      (View.ld (Val := Elt Ideal) (S := S2x4x1536) (e' := .f32) x1 (Rect.unit ![p, q, r] ![1, 1, 128] inb')) x = HT x0 x1 y := by
  rw [xpay_apply]
  unfold HT View.ld
  have l1 : (x 1 : ℕ) < 128 := (x 1).isLt
  congr 2
  · funext a
    fin_cases a <;> apply Fin.ext
    · show c + 1 * (x 1 : ℕ) = y 1
      omega
    · show r + 1 * (x 0 : ℕ) = y 0
      omega
  · funext a
    fin_cases a <;> apply Fin.ext
    · show p + 1 * 0 = (y 1 : ℕ) / 512
      omega
    · show q + 1 * 0 = (y 1 : ℕ) % 512 / 128
      omega
    · show r + 1 * (x 0 : ℕ) = y 0
      omega

theorem piece_dy (x2 : Vec Ideal S1024x2048 .fp8e4m3) (x3 : Vec Ideal S2x4x2048 .f32) (r o b p : ℕ)
    (inb : ∀ a : Fin S1024x2048.rank, (![r, o] : Fin 2 → ℕ) a + (![128, 512] : Fin 2 → ℕ) a ≤ S1024x2048.size a)
    (inb' : ∀ a : Fin S2x4x2048.rank, (![b, p, o] : Fin 3 → ℕ) a + (![1, 1, 512] : Fin 3 → ℕ) a ≤ S2x4x2048.size a)
    (x : S128x512.Idx) (y : S1024x2048.Idx) (h0 : (y 0 : ℕ) = r + x 0) (h1 : (y 1 : ℕ) = o + x 1)
    (hr : 512 * b + 128 * p = r) (hp : p < 4) :
    k0_pay203 (F := Ideal) (View.ld (Val := Elt Ideal) (S := S1024x2048) (e' := .fp8e4m3) x2 (Rect.unit ![r, o] ![128, 512] inb))
      (View.ld (Val := Elt Ideal) (S := S2x4x2048) (e' := .f32) x3 (Rect.unit ![b, p, o] ![1, 1, 512] inb')) x = DY x2 x3 y := by
  rw [dpay_apply]
  unfold DY View.ld
  have l0 : (x 0 : ℕ) < 128 := (x 0).isLt
  congr 2
  · funext a
    fin_cases a <;> apply Fin.ext
    · show r + 1 * (x 0 : ℕ) = y 0
      omega
    · show o + 1 * (x 1 : ℕ) = y 1
      omega
  · funext a
    fin_cases a <;> apply Fin.ext
    · show b + 1 * 0 = (y 0 : ℕ) / 512
      omega
    · show p + 1 * 0 = (y 0 : ℕ) % 512 / 128
      omega
    · show o + 1 * (x 1 : ℕ) = y 1
      omega

/-- One piece on top of others: where it holds the index its value counts, elsewhere the others'. -/
theorem canon_peel {S : Shape} {e : EltTy} (off size : Fin S.rank → ℕ) (inb : ∀ a, off a + size a ≤ S.size a)
    (w : (Rect.unit off size inb).shape.Idx → Elt Ideal e) (L : List (View.Piece (Elt Ideal) S e)) (y : S.Idx) (v : Elt Ideal e)
    (h : View.TileAt (Val := Elt Ideal) y off size w v) (hL : (¬ ∀ a, off a ≤ y a ∧ (y a : ℕ) < off a + size a) → View.canon L y = v) :
    View.canon (⟨Rect.unit off size inb, w⟩ :: L) y = v := by
  by_cases hm : y ∈ (Rect.unit off size inb).set
  · obtain ⟨x, hx⟩ := (Rect.unit off size inb).exists_idx_of_mem hm
    rw [← hx]
    rw [show (Rect.unit off size inb).idx x = (Rect.unit off size inb).emb x from rfl, View.canon_cons_emb]
    refine h x fun a => ?_
    rw [← hx]
    show off a + 1 * (x a : ℕ) = _
    omega
  · rw [View.canon_cons_of_not_mem _ _ hm]
    exact hL fun hh => hm (Rect.mem_set_unit.mpr hh)

theorem not_tile {n : ℕ} {r o s : ℕ} {y : Fin 2 → ℕ} (h : ¬ ∀ a : Fin 2, (![r, o] : Fin 2 → ℕ) a ≤ y a ∧ y a < (![r, o] : Fin 2 → ℕ) a + (![n, s] : Fin 2 → ℕ) a)
    (h1 : o ≤ y 1) (h1' : y 1 < o + s) : y 0 < r ∨ r + n ≤ y 0 := by
  by_contra hc
  apply h
  intro a
  fin_cases a
  · exact ⟨by show r ≤ y 0; omega, by show y 0 < r + n; omega⟩
  · exact ⟨h1, h1'⟩

/-- Eight pieces of 128 rows cover the columns `o .. o + 511`; whatever was stored before them does not matter there. -/
theorem canon_rows8 (o : ℕ) (i7 i6 i5 i4 i3 i2 i1 i0) (w7 w6 w5 w4 w3 w2 w1 w0 : S128x512.Idx → Elt Ideal .bf16)
    (L : List (View.Piece (Elt Ideal) S1024x2048 .bf16)) (y : S1024x2048.Idx) (v : Elt Ideal .bf16)
    (hy : o ≤ (y 1 : ℕ)) (hy' : (y 1 : ℕ) < o + 512)
    (h7 : ∀ u : S128x512.Idx, (y 0 : ℕ) = 896 + (u 0 : ℕ) → (y 1 : ℕ) = o + (u 1 : ℕ) → w7 u = v)
    (h6 : ∀ u : S128x512.Idx, (y 0 : ℕ) = 768 + (u 0 : ℕ) → (y 1 : ℕ) = o + (u 1 : ℕ) → w6 u = v)
    (h5 : ∀ u : S128x512.Idx, (y 0 : ℕ) = 640 + (u 0 : ℕ) → (y 1 : ℕ) = o + (u 1 : ℕ) → w5 u = v)
    (h4 : ∀ u : S128x512.Idx, (y 0 : ℕ) = 512 + (u 0 : ℕ) → (y 1 : ℕ) = o + (u 1 : ℕ) → w4 u = v)
    (h3 : ∀ u : S128x512.Idx, (y 0 : ℕ) = 384 + (u 0 : ℕ) → (y 1 : ℕ) = o + (u 1 : ℕ) → w3 u = v)
    (h2 : ∀ u : S128x512.Idx, (y 0 : ℕ) = 256 + (u 0 : ℕ) → (y 1 : ℕ) = o + (u 1 : ℕ) → w2 u = v)
    (h1 : ∀ u : S128x512.Idx, (y 0 : ℕ) = 128 + (u 0 : ℕ) → (y 1 : ℕ) = o + (u 1 : ℕ) → w1 u = v)
    (h0 : ∀ u : S128x512.Idx, (y 0 : ℕ) = 0 + (u 0 : ℕ) → (y 1 : ℕ) = o + (u 1 : ℕ) → w0 u = v) :
    View.canon (Val := Elt Ideal) (s := S1024x2048) (e := .bf16)
      (⟨Rect.unit ![896, o] ![128, 512] i7, w7⟩ :: ⟨Rect.unit ![768, o] ![128, 512] i6, w6⟩ ::
        ⟨Rect.unit ![640, o] ![128, 512] i5, w5⟩ :: ⟨Rect.unit ![512, o] ![128, 512] i4, w4⟩ ::
        ⟨Rect.unit ![384, o] ![128, 512] i3, w3⟩ :: ⟨Rect.unit ![256, o] ![128, 512] i2, w2⟩ ::
        ⟨Rect.unit ![128, o] ![128, 512] i1, w1⟩ :: ⟨Rect.unit ![0, o] ![128, 512] i0, w0⟩ :: L) y = v := by
  have ly : (y 0 : ℕ) < 1024 := (y 0).isLt
  refine canon_peel _ _ _ _ _ _ _ (fun u hu => h7 u (hu 0) (hu 1)) fun n7 => ?_
  refine canon_peel _ _ _ _ _ _ _ (fun u hu => h6 u (hu 0) (hu 1)) fun n6 => ?_
  refine canon_peel _ _ _ _ _ _ _ (fun u hu => h5 u (hu 0) (hu 1)) fun n5 => ?_
  refine canon_peel _ _ _ _ _ _ _ (fun u hu => h4 u (hu 0) (hu 1)) fun n4 => ?_
  refine canon_peel _ _ _ _ _ _ _ (fun u hu => h3 u (hu 0) (hu 1)) fun n3 => ?_
  refine canon_peel _ _ _ _ _ _ _ (fun u hu => h2 u (hu 0) (hu 1)) fun n2 => ?_
  refine canon_peel _ _ _ _ _ _ _ (fun u hu => h1 u (hu 0) (hu 1)) fun n1 => ?_
  refine canon_peel _ _ _ _ _ _ _ (fun u hu => h0 u (hu 0) (hu 1)) fun n0 => ?_
  exfalso
  have e7 := not_tile (y := fun a => (y a : ℕ)) n7 hy hy'
  have e6 := not_tile (y := fun a => (y a : ℕ)) n6 hy hy'
  have e5 := not_tile (y := fun a => (y a : ℕ)) n5 hy hy'
  have e4 := not_tile (y := fun a => (y a : ℕ)) n4 hy hy'
  have e3 := not_tile (y := fun a => (y a : ℕ)) n3 hy hy'
  have e2 := not_tile (y := fun a => (y a : ℕ)) n2 hy hy'
  have e1 := not_tile (y := fun a => (y a : ℕ)) n1 hy hy'
  have e0 := not_tile (y := fun a => (y a : ℕ)) n0 hy hy'
  dsimp only at e7 e6 e5 e4 e3 e2 e1 e0
  omega

/-- One group of 512 columns: what was there plus the group's columns of the point's product. -/
theorem piece_acc (x0 : Vec Ideal S1024x1536 .fp8e4m3) (x1 : Vec Ideal S2x4x1536 .f32) (x2 : Vec Ideal S1024x2048 .fp8e4m3) (x3 : Vec Ideal S2x4x2048 .f32)
    (A : Vec Ideal S1536x512 .f32) (a : EReal) (o : ℕ) (inb : ∀ a : Fin S1536x1024.rank, (![0, 0] : Fin 2 → ℕ) a + (![1536, 1024] : Fin 2 → ℕ) a ≤ S1536x1024.size a)
    (inb' : ∀ a : Fin S1024x2048.rank, (![0, o] : Fin 2 → ℕ) a + (![1024, 512] : Fin 2 → ℕ) a ≤ S1024x2048.size a)
    (C : Vec Ideal S1024x2048 .bf16) (x : S1536x512.Idx) (y : S1536x2048.Idx) (h0 : (y 0 : ℕ) = x 0) (h1 : (y 1 : ℕ) = o + x 1)
    (hA : A x = a) (hC : ∀ z : S1024x2048.Idx, o ≤ (z 1 : ℕ) → (z 1 : ℕ) < o + 512 → C z = DY x2 x3 z) :
    k0_pay173 (F := Ideal) A (fun j => HT x0 x1 ((Rect.unit (s := S1536x1024) ![0, 0] ![1536, 1024] inb).idx j))
      (fun j => C ((Rect.unit (s := S1024x2048) ![0, o] ![1024, 512] inb').idx j)) x
      = a + STEP x0 x1 x2 x3 y := by
  rw [apay_apply, hA]
  have l1 : (x 1 : ℕ) < 512 := (x 1).isLt
  unfold STEP
  congr 1
  refine Finset.sum_congr rfl fun k _ => ?_
  rw [hC _ (by show o ≤ o + 1 * (x 1 : ℕ); omega) (by show o + 1 * (x 1 : ℕ) < o + 512; omega)]
  congr 2
  · funext a
    fin_cases a <;> apply Fin.ext
    · show 0 + 1 * (x 0 : ℕ) = y 0
      omega
    · show 0 + 1 * (k : ℕ) = k
      omega
  · funext a
    fin_cases a <;> apply Fin.ext
    · show 0 + 1 * (k : ℕ) = k
      omega
    · show o + 1 * (x 1 : ℕ) = y 1
      omega

/-- Columns `o .. o + 511` of the accumulator, read at their place. -/
theorem ld_cols (xs2 : Vec Ideal S1536x2048 .f32) (o : ℕ)
    (inb' : ∀ a : Fin S1536x2048.rank, (![0, o] : Fin 2 → ℕ) a + (![1536, 512] : Fin 2 → ℕ) a ≤ S1536x2048.size a)
    (x : S1536x512.Idx) (y : S1536x2048.Idx) (h0 : (y 0 : ℕ) = x 0) (h1 : (y 1 : ℕ) = o + x 1) :
    View.ld (Val := Elt Ideal) (S := S1536x2048) (e' := .f32) xs2 (Rect.unit (s := S1536x2048) ![0, o] ![1536, 512] inb') x = xs2 y := by
  show xs2 _ = xs2 _
  congr 1
  funext a
  fin_cases a <;> apply Fin.ext
  · show 0 + 1 * (x 0 : ℕ) = y 0
    omega
  · show o + 1 * (x 1 : ℕ) = y 1
    omega

theorem not_tile' {o : ℕ} {y : Fin 2 → ℕ} (h : ¬ ∀ a : Fin 2, (![0, o] : Fin 2 → ℕ) a ≤ y a ∧ y a < (![0, o] : Fin 2 → ℕ) a + (![1536, 512] : Fin 2 → ℕ) a)
    (h0 : y 0 < 1536) : y 1 < o ∨ o + 512 ≤ y 1 := by
  by_contra hc
  apply h
  intro a
  fin_cases a
  · exact ⟨Nat.zero_le _, by show y 0 < 0 + 1536; omega⟩
  · exact ⟨by show o ≤ y 1; omega, by show y 1 < o + 512; omega⟩

/-- Four pieces of 512 columns cover the accumulator; whatever was stored before them does not matter. -/
theorem canon_cols4 (i3 i2 i1 i0) (w3 w2 w1 w0 : S1536x512.Idx → Elt Ideal .f32)
    (L : List (View.Piece (Elt Ideal) S1536x2048 .f32)) (y : S1536x2048.Idx) (v : Elt Ideal .f32)
    (h3 : ∀ x : S1536x512.Idx, (y 0 : ℕ) = x 0 → (y 1 : ℕ) = 1536 + x 1 → w3 x = v)
    (h2 : ∀ x : S1536x512.Idx, (y 0 : ℕ) = x 0 → (y 1 : ℕ) = 1024 + x 1 → w2 x = v)
    (h1 : ∀ x : S1536x512.Idx, (y 0 : ℕ) = x 0 → (y 1 : ℕ) = 512 + x 1 → w1 x = v)
    (h0 : ∀ x : S1536x512.Idx, (y 0 : ℕ) = x 0 → (y 1 : ℕ) = 0 + x 1 → w0 x = v) :
    View.canon (Val := Elt Ideal) (s := S1536x2048) (e := .f32)
      (⟨Rect.unit ![0, 1536] ![1536, 512] i3, w3⟩ :: ⟨Rect.unit ![0, 1024] ![1536, 512] i2, w2⟩ ::
        ⟨Rect.unit ![0, 512] ![1536, 512] i1, w1⟩ :: ⟨Rect.unit ![0, 0] ![1536, 512] i0, w0⟩ :: L) y = v := by
  have ly : (y 0 : ℕ) < 1536 := (y 0).isLt
  have ly1 : (y 1 : ℕ) < 2048 := (y 1).isLt
  refine canon_peel _ _ _ _ _ _ _ (fun u hu => h3 u ((hu 0).trans (Nat.zero_add _)) (hu 1)) fun n3 => ?_
  refine canon_peel _ _ _ _ _ _ _ (fun u hu => h2 u ((hu 0).trans (Nat.zero_add _)) (hu 1)) fun n2 => ?_
  refine canon_peel _ _ _ _ _ _ _ (fun u hu => h1 u ((hu 0).trans (Nat.zero_add _)) (hu 1)) fun n1 => ?_
  refine canon_peel _ _ _ _ _ _ _ (fun u hu => h0 u ((hu 0).trans (Nat.zero_add _)) (hu 1)) fun n0 => ?_
  exfalso
  have e3 := not_tile' (y := fun a => (y a : ℕ)) n3 ly
  have e2 := not_tile' (y := fun a => (y a : ℕ)) n2 ly
  have e1 := not_tile' (y := fun a => (y a : ℕ)) n1 ly
  have e0 := not_tile' (y := fun a => (y a : ℕ)) n0 ly
  dsimp only at e3 e2 e1 e0
  omega

theorem zero_apply (y : S1536x2048.Idx) : k0_pay2 (F := Ideal) y = (0 : EReal) := by
  unfold k0_pay2
  pointwise

end Cert.Dw2Hand
end
-- ==== Proof.Dw2Point.lean ====
module

public import proofs.«01_k».proof.Proof.Dw2Piece

@[expose] public section
set_option maxRecDepth 16384
set_option maxHeartbeats 1000000
noncomputable section
namespace Cert.Dw2Hand
open Cert.Dw2Ideal Cert.Dw2Ideal.Gen Idealize.ShloMosaic Idealize.ShloMosaic.TcCoe Idealize.SL.Sem

/-- The first point of a run leaves its own products in the output block. -/
theorem stepA (c : Dev nD) (t : Fin cfg0.N) (h0 :  cond0_0 (grid0.coords t))
    (x0 : Vec Ideal S1024x1536 .fp8e4m3) (x1 : Vec Ideal S2x4x1536 .f32) (x2 : Vec Ideal S1024x2048 .fp8e4m3) (x3 : Vec Ideal S2x4x2048 .f32)
    (y : S1536x2048.Idx) :
    out0_A_4 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) h0 x0 x1 x2 x3 y
      = (0 : EReal) + STEP x0 x1 x2 x3 y := by
  frame_open
  simp (disch := decide) only [↓ View.readCov_skip, ↓ View.readCov_fill]
  simp only [View.read_writes_junk_eq_canon, View.readAt_eq_ld, Memref.IsWhole.read_unread, read_unread_whole, View.readCov_eq_canon']
  generalize hX : View.canon (Val := Elt Ideal) (s := S1536x1024) (e := .bf16) _ = X
  obtain rfl : X = HT x0 x1 := by
    rw [← hX]
    clear hX
    funext y
    canon_tiles x h
    all_goals (refine piece_ht x0 x1 _ _ _ _ _ _ _ _ ?_ ?_ ?_ ?_ <;> omega)
  clear hX
  refine canon_cols4 _ _ _ _ _ _ _ _ _ _ _ ?_ ?_ ?_ ?_
  all_goals
    intro x e0 e1
    refine piece_acc x0 x1 x2 x3 _ _ _ _ _ _ x y e0 e1 ?_ ?_
  all_goals first
    | exact zero_apply _
    | (intro z hz hz'
       refine canon_rows8 _ _ _ _ _ _ _ _ _ _ _ _ _ _ _ _ _ _ z _ hz hz' ?_ ?_ ?_ ?_ ?_ ?_ ?_ ?_
       all_goals
         intro u u0 u1
         refine piece_dy x2 x3 _ _ _ _ _ _ u z u0 u1 ?_ ?_ <;> omega)

/-- A later point adds its products to what the block held. -/
theorem stepB (c : Dev nD) (t : Fin cfg0.N) (h0 : ¬ cond0_0 (grid0.coords t))
    (x0 : Vec Ideal S1024x1536 .fp8e4m3) (x1 : Vec Ideal S2x4x1536 .f32) (x2 : Vec Ideal S1024x2048 .fp8e4m3) (x3 : Vec Ideal S2x4x2048 .f32)
    (xs2 : Vec Ideal S1536x2048 .f32) (y : S1536x2048.Idx) :
    out0_B_4 (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) scM0_1 (Memref.isWhole_whole _) h0 x0 x1 x2 x3 xs2 y
      = HAdd.hAdd (α := EReal) (β := EReal) (xs2 y) (STEP x0 x1 x2 x3 y) := by
  frame_open
  simp only [View.read_writes_junk_eq_canon, View.readAt_eq_ld, Memref.IsWhole.read_unread, read_unread_whole, View.readCov_eq_canon']
  generalize hX : View.canon (Val := Elt Ideal) (s := S1536x1024) (e := .bf16) _ = X
  obtain rfl : X = HT x0 x1 := by
    rw [← hX]
    clear hX
    funext y
    canon_tiles x h
    all_goals (refine piece_ht x0 x1 _ _ _ _ _ _ _ _ ?_ ?_ ?_ ?_ <;> omega)
  clear hX
  refine canon_cols4 _ _ _ _ _ _ _ _ _ _ _ ?_ ?_ ?_ ?_
  all_goals
    intro x e0 e1
    refine piece_acc x0 x1 x2 x3 _ _ _ _ _ _ x y e0 e1 ?_ ?_
  all_goals first
    | exact ld_cols xs2 _ _ x y e0 e1
    | (intro z hz hz'
       refine canon_rows8 _ _ _ _ _ _ _ _ _ _ _ _ _ _ _ _ _ _ z _ hz hz' ?_ ?_ ?_ ?_ ?_ ?_ ?_ ?_
       all_goals
         intro u u0 u1
         refine piece_dy x2 x3 _ _ _ _ _ _ u z u0 u1 ?_ ?_ <;> omega)

end Cert.Dw2Hand
end
-- ==== Proof.Dw2Sum.lean ====
module

public import proofs.«01_k».proof.Proof.Dw2Point
public import Idealize.ShloMosaic.Lib.Pipeline.ValueKit

@[expose] public section
set_option maxRecDepth 16384
set_option maxHeartbeats 1000000
noncomputable section
namespace Cert.Dw2Hand
open Cert.Dw2Ideal Cert.Dw2Ideal.Gen Idealize.ShloMosaic Idealize.ShloMosaic.TcCoe Idealize.SL.Sem

variable (m : (ℓ : Loc nD τ sig) → Buf (Elt Ideal) ℓ)

/-- What one row `s` of batch row `b` adds to the gradient's element `i`: the dequantised hidden value times the dequantised gradient. -/
def TERM (a0 : S12288x1536.Idx → EReal) (a1 : S24x4x1536.Idx → EReal) (a2 : S12288x4096.Idx → EReal) (a3 : S24x4x4096.Idx → EReal)
    (i : S1536x4096.Idx) (b : Fin 24) (s : Fin 512) : EReal :=
  (a0 (ix2 (⟨b.val * 512 + s.val, by omega⟩ : Fin 12288) (i 0)) * a1 (ix3 b (⟨s.val / 128, by omega⟩ : Fin 4) (i 0)))
    * (a2 (ix2 (⟨b.val * 512 + s.val, by omega⟩ : Fin 12288) (i 1)) * a3 (ix3 b (⟨s.val / 128, by omega⟩ : Fin 4) (i 1)))

/-- The weight gradient: the sum over all rows. -/
def GRAD (a0 : S12288x1536.Idx → EReal) (a1 : S24x4x1536.Idx → EReal) (a2 : S12288x4096.Idx → EReal) (a3 : S24x4x4096.Idx → EReal)
    (i : S1536x4096.Idx) : EReal := ∑ b : Fin 24, ∑ s : Fin 512, TERM a0 a1 a2 a3 i b s

/-- At the last point of a run the output block holds the sum of the run's twelve products. -/
theorem acc_flush (c : Dev nD) (t : Fin cfg0.N) (hr : t.val % 12 = 11) (y : S1536x2048.Idx) :
    outsAt0 m c t.val t.isLt y = (0 : EReal) + ∑ s : Fin 12,
      STEP (iblk m c 0 ⟨12 * (t.val / 12) + s.val, Pipeline.run_point_lt_of_flush t hr s⟩) (iblk m c 1 ⟨12 * (t.val / 12) + s.val, Pipeline.run_point_lt_of_flush t hr s⟩)
        (iblk m c 2 ⟨12 * (t.val / 12) + s.val, Pipeline.run_point_lt_of_flush t hr s⟩) (iblk m c 3 ⟨12 * (t.val / 12) + s.val, Pipeline.run_point_lt_of_flush t hr s⟩) y := by
  rw [Pipeline.eq_sum_fin_of_reset_step_apply_of_flush (M := EReal) (fun n h => outsAt0 m c n h) 12 (fun _ => (0 : EReal))
    (fun t y => STEP (iblk m c 0 t) (iblk m c 1 t) (iblk m c 2 t) (iblk m c 3 t) y)
    (fun t h y => by rw [outsAt0_A m c t h, stepA])
    (fun t h y => by rw [outsAt0_B m c t h, stepB]) t hr y]

theorem idxs : ∀ t : Fin cfg0.N, win0_0.index t = ![t.val % 12, 0] ∧ win0_1.index t = ![t.val % 12, 0, 0]
    ∧ win0_2.index t = ![t.val % 12, t.val / 12] ∧ win0_3.index t = ![t.val % 12, 0, t.val / 12] ∧ win0_4.index t = ![0, t.val / 12] :=
  (by decide +kernel : ∀ t : Fin grid0.N, _)

/-- A row of a point's product is a row of the whole sum. -/
theorem step_term (c : Dev nD) (p : Fin cfg0.N) (k : Fin 1024) (y : S1536x2048.Idx) (i : S1536x4096.Idx) (b : Fin 24) (s : Fin 512)
    (hb : b.val = 2 * (p.val % 12) + k.val / 512) (hs : s.val = k.val % 512) (h0 : (i 0).val = (y 0).val)
    (h1 : (i 1).val = 2048 * (p.val / 12) + (y 1).val) :
    HT (iblk m c 0 p) (iblk m c 1 p) (ix2 (y 0) k) * DY (iblk m c 2 p) (iblk m c 3 p) (ix2 k (y 1))
      = TERM (m ((c : Thread nD τ).loc main_arg0)) (m ((c : Thread nD τ).loc main_arg1)) (m ((c : Thread nD τ).loc main_arg2)) (m ((c : Thread nD τ).loc main_arg3)) i b s := by
  obtain ⟨e0, e1, e2, e3, -⟩ := idxs p
  unfold HT DY TERM
  congr 1 <;> congr 1
  · blk_ext [iblk, V, e0]
  · blk_ext [iblk, V, e1]
  · blk_ext [iblk, V, e2]
  · blk_ext [iblk, V, e3]

/-- The array the kernel leaves, element by element. -/
theorem kernel_value (c : Dev nD) :
    (dats m 0 c).arrAt 4 cfg0.N = GRAD (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hr : t.val % 12 = 11 := (flush0_4 t).mp hf
  obtain ⟨-, -, -, -, e4⟩ := idxs t
  have key : (dats m 0 c).after 4 t y = _ := congrFun (after0_4 m c t) y
  rw [acc_flush m c t hr, zero_add] at key
  blk_simp
  refine key.trans ?_
  clear key
  have hi : ((win0_4.blk t).view.emb y 0).val = (y 0).val ∧ ((win0_4.blk t).view.emb y 1).val = 2048 * (t.val / 12) + (y 1).val := by
    refine ⟨?_, ?_⟩ <;> blk_simp [e4] <;> omega
  generalize (win0_4.blk t).view.emb y = i at hi ⊢
  unfold GRAD STEP
  refine (Fin.sum_mul_add_congr (L := 12288) (f := fun r => TERM (m ((c : Thread nD τ).loc main_arg0)) (m ((c : Thread nD τ).loc main_arg1)) (m ((c : Thread nD τ).loc main_arg2))
    (m ((c : Thread nD τ).loc main_arg3)) i ⟨r.val / 512, by omega⟩ ⟨r.val % 512, by omega⟩) (fun s k hl => ?_)).trans (Fin.sum_divmod_congr (fun r ha hs => rfl))
  have hs := s.isLt
  have hk := k.isLt
  refine step_term m c _ k y i _ _ ?_ ?_ hi.1 ?_
  · show (s.val * 1024 + k.val) / 512 = 2 * ((12 * (t.val / 12) + s.val) % 12) + k.val / 512
    omega
  · show (s.val * 1024 + k.val) % 512 = k.val % 512
    omega
  · show (i 1).val = 2048 * ((12 * (t.val / 12) + s.val) / 12) + (y 1).val
    omega

end Cert.Dw2Hand
end
-- ==== Proof.Dw2Ref.lean ====
module

public import proofs.«01_k».proof.Proof.Gen.Dw2RefIdeal.Value
public import Idealize.ShloMosaic.Lib.Pipeline.ValueKit

@[expose] public section
set_option maxRecDepth 16384
set_option maxHeartbeats 1000000
noncomputable section
namespace Cert.Dw2RefHand
open Cert.Dw2RefIdeal Cert.Dw2RefIdeal.Gen Idealize.ShloMosaic Idealize.ShloMosaic.TcCoe Idealize.SL.Sem

variable (m : (ℓ : Loc nD τ sig) → Buf (Elt Ideal) ℓ)

/-- The reference's body at an index: the sum over all rows of dequantised activation times dequantised gradient. -/
theorem pay_apply (v0 : Vec Ideal S24x512x1536 .fp8e4m3) (v2 : Vec Ideal S24x4x1536 .f32) (v10 : Vec Ideal S24x512x4096 .fp8e4m3)
    (v12 : Vec Ideal S24x4x4096 .f32) (y : S1536x4096.Idx) :
    k0_pay1 (F := Ideal) v0 v2 v10 v12 y = ∑ b : Fin 24, ∑ s : Fin 512,
      HMul.hMul (α := EReal) (β := EReal)
        (HMul.hMul (α := EReal) (β := EReal) (v0 (ix3 b s (y 0))) (v2 (ix3 b (⟨s.val / 128, by omega⟩ : Fin 4) (y 0))))
        (HMul.hMul (α := EReal) (β := EReal) (v10 (ix3 b s (y 1))) (v12 (ix3 b (⟨s.val / 128, by omega⟩ : Fin 4) (y 1)))) := by
  unfold k0_pay1
  pointwise

/-- The array the reference leaves, element by element. -/
theorem ref_value (c : Dev nD) (i : S1536x4096.Idx) :
    (dats m 0 c).arrAt 4 cfg0.N i = k0_pay1 (F := Ideal) (iblk m c 0 t0_0) (iblk m c 1 t0_0) (iblk m c 2 t0_0) (iblk m c 3 t0_0) i := by
  refine congrFun ((dats m 0 c).arrAt_eq_of_after_last 4 t0_0 (by decide +kernel) _ fun j => ?_) i
  blk_simp
  rw [after0_4]
  frame_out

theorem idxs : win0_0.index t0_0 = ![0, 0, 0] ∧ win0_1.index t0_0 = ![0, 0, 0] ∧ win0_2.index t0_0 = ![0, 0, 0] ∧ win0_3.index t0_0 = ![0, 0, 0] := by
  decide +kernel

theorem in0 (c : Dev nD) (b : Fin 24) (s : Fin 512) (d : Fin 1536) (h : b.val * 512 + s.val < 12288) :
    iblk m c 0 t0_0 (ix3 b s d) = m ((c : Thread nD τ).loc main_arg0) (ix2 ⟨b.val * 512 + s.val, h⟩ d) := by
  have e := idxs.1
  have h1 : iblk m c 0 t0_0 (ix3 b s d) = V m c main_v0 (ix3 b s d) := by
    unfold iblk
    blk_ext [e]
  rw [h1]
  entry_read
  pointwise

theorem in1 (c : Dev nD) (y : S24x4x1536.Idx) : iblk m c 1 t0_0 y = m ((c : Thread nD τ).loc main_arg1) y := by
  have e := idxs.2.1
  blk_ext [iblk, e]

theorem in2 (c : Dev nD) (b : Fin 24) (s : Fin 512) (d : Fin 4096) (h : b.val * 512 + s.val < 12288) :
    iblk m c 2 t0_0 (ix3 b s d) = m ((c : Thread nD τ).loc main_arg2) (ix2 ⟨b.val * 512 + s.val, h⟩ d) := by
  have e := idxs.2.2.1
  have h1 : iblk m c 2 t0_0 (ix3 b s d) = V m c main_v1 (ix3 b s d) := by
    unfold iblk
    blk_ext [e]
  rw [h1]
  entry_read
  pointwise

theorem in3 (c : Dev nD) (y : S24x4x4096.Idx) : iblk m c 3 t0_0 y = m ((c : Thread nD τ).loc main_arg3) y := by
  have e := idxs.2.2.2
  blk_ext [iblk, e]

end Cert.Dw2RefHand
end
-- ==== Proof.Dw2Tie.lean ====
module

public import proofs.«01_k».proof.Defs
public import proofs.«01_k».proof.Proof.Dw2Sum
public import proofs.«01_k».proof.Proof.Dw2Ref

@[expose] public section
set_option maxRecDepth 16384
set_option maxHeartbeats 1000000
noncomputable section
namespace Cert.Dw2Tie
open Idealize.ShloMosaic Idealize.ShloMosaic.TcCoe Idealize.SL.Sem

/-- From memories that agree on the arguments, the reference leaves the kernel's array. -/
theorem tie (m : (ℓ : Loc Dw2Ideal.nD Dw2Ideal.τ Dw2Ideal.sig) → Buf (Elt Ideal) ℓ)
    (m' : (ℓ : Loc Dw2RefIdeal.nD Dw2RefIdeal.τ Dw2RefIdeal.sig) → Buf (Elt Ideal) ℓ) (c : Dev Dw2Ideal.nD)
    (h0 : m' ((c.tc : Thread Dw2RefIdeal.nD Dw2RefIdeal.τ).loc Dw2RefIdeal.main_arg0) = m ((c.tc : Thread Dw2Ideal.nD Dw2Ideal.τ).loc Dw2Ideal.main_arg0))
    (h1 : m' ((c.tc : Thread Dw2RefIdeal.nD Dw2RefIdeal.τ).loc Dw2RefIdeal.main_arg1) = m ((c.tc : Thread Dw2Ideal.nD Dw2Ideal.τ).loc Dw2Ideal.main_arg1))
    (h2 : m' ((c.tc : Thread Dw2RefIdeal.nD Dw2RefIdeal.τ).loc Dw2RefIdeal.main_arg2) = m ((c.tc : Thread Dw2Ideal.nD Dw2Ideal.τ).loc Dw2Ideal.main_arg2))
    (h3 : m' ((c.tc : Thread Dw2RefIdeal.nD Dw2RefIdeal.τ).loc Dw2RefIdeal.main_arg3) = m ((c.tc : Thread Dw2Ideal.nD Dw2Ideal.τ).loc Dw2Ideal.main_arg3)) :
    (Dw2RefIdeal.Gen.dats m' 0 c).arrAt 4 Dw2RefIdeal.cfg0.N = (Dw2Ideal.Gen.dats m 0 c).arrAt 4 Dw2Ideal.cfg0.N := by
  rw [Dw2Hand.kernel_value]
  funext i
  rw [Dw2RefHand.ref_value, Dw2RefHand.pay_apply, ← h0, ← h1, ← h2, ← h3]
  unfold Dw2Hand.GRAD Dw2Hand.TERM
  refine Fin.sum_fin_congr fun b => Fin.sum_fin_congr fun s => ?_
  congr 1 <;> congr 1
  · exact Dw2RefHand.in0 m' c b s (i 0) _
  · exact Dw2RefHand.in1 m' c _
  · exact Dw2RefHand.in2 m' c b s (i 1) _
  · exact Dw2RefHand.in3 m' c _

end Cert.Dw2Tie
end
-- ==== Proof.FwdBitsRunA.lean ====
module

public import proofs.«01_k».proof.Proof.Gen.Fwd.Skeleton
public import proofs.«01_k».proof.Proof.Gen.Fwd.Frame

@[expose] public section

set_option maxRecDepth 16384

noncomputable section

namespace Cert.FwdBitsHand

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that loads one block of rows of each weight: what its stores leave in each buffer it writes, as pieces (last first) over what the
    buffer held. -/
noncomputable def runA (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : k0_cond1 i = 1#1) (hc2 : k0_cond2 i = 1#1) (hc3 : ¬ k0_cond3 i = 1#1) (hc4 : ¬ k0_cond4 i = 1#1)
    (x1 : Vec F S768 .f32) (x2 : Vec F S384 .f32) (x4 : Vec F S2x128x1536 .fp8e4m3) (x5 : Vec F S128x4096 .fp8e4m3) (x16 : Vec F S4096x3072 .bf16) (x17 : Vec F S1536x4096 .bf16) :
    Σ' (L16 : List (View.Piece (Elt F) S4096x3072 .bf16)), { L17 : List (View.Piece (Elt F) S1536x4096 .bf16) //
      ∀ (E : Set ℕ) (K : PUnit → sProp 𝕄),
        iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg16 fullShare x16 ∗ owns (c : Thread nD τ) arg17 fullShare x17 ∗ (iprop(owns (c : Thread nD τ) arg1 fullShare x1 ∗ owns (c : Thread nD τ) arg2 fullShare x2 ∗ owns (c : Thread nD τ) arg4 fullShare x4 ∗ owns (c : Thread nD τ) arg5 fullShare x5 ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_forward_eq_skeleton]; unfold cc0_forward_skel
    simp only [dif_pos hc1]
    simp only [dif_pos hc2]
    simp only [dif_neg hc3]
    simp only [dif_neg hc4]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f4, %hf4, H4⟩, ⟨%f5, %hf5, H5⟩, ⟨%f16, %hf16, H16⟩, ⟨%f17, %hf17, H17⟩, Hk⟩
    obtain rfl := harg1.eq_unread hf1
    obtain rfl := harg2.eq_unread hf2
    obtain rfl := harg4.eq_unread hf4
    obtain rfl := harg5.eq_unread hf5
    obtain rfl := harg16.eq_unread hf16
    obtain rfl := harg17.eq_unread hf17
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H16]; · iexact H16
    iexact H17

end Cert.FwdBitsHand

end
-- ==== Proof.FwdBitsRunB.lean ====
module

public import proofs.«01_k».proof.Proof.Gen.Fwd.Skeleton
public import proofs.«01_k».proof.Proof.Gen.Fwd.Frame

@[expose] public section

set_option maxRecDepth 16384

noncomputable section

namespace Cert.FwdBitsHand

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that loads one block of rows of the first weight: what its stores leave in each buffer it writes, as pieces (last first) over what the
    buffer held. -/
noncomputable def runB (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : k0_cond1 i = 1#1) (hc2 : ¬ k0_cond2 i = 1#1) (hc3 : ¬ k0_cond3 i = 1#1) (hc4 : ¬ k0_cond4 i = 1#1)
    (x1 : Vec F S768 .f32) (x4 : Vec F S2x128x1536 .fp8e4m3) (x16 : Vec F S4096x3072 .bf16) :
    { L16 : List (View.Piece (Elt F) S4096x3072 .bf16) //
      ∀ (E : Set ℕ) (K : PUnit → sProp 𝕄),
        iprop(owns (c : Thread nD τ) arg1 fullShare x1 ∗ owns (c : Thread nD τ) arg4 fullShare x4 ∗ owns (c : Thread nD τ) arg16 fullShare x16 ∗ (iprop(owns (c : Thread nD τ) arg1 fullShare x1 ∗ owns (c : Thread nD τ) arg4 fullShare x4 ∗ (arg16.view.loc (c : Thread nD τ) ↦[arg16.view.set]{fullShare} arg16.view.writes (Elt F) (harg16.unread x16) L16)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_forward_eq_skeleton]; unfold cc0_forward_skel
    simp only [dif_pos hc1]
    simp only [dif_neg hc2]
    simp only [dif_neg hc3]
    simp only [dif_neg hc4]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f4, %hf4, H4⟩, ⟨%f16, %hf16, H16⟩, Hk⟩
    obtain rfl := harg1.eq_unread hf1
    obtain rfl := harg4.eq_unread hf4
    obtain rfl := harg16.eq_unread hf16
    sl_exec (disch := first | sl_exact hc1 | sl_exact hc2 | sl_exact hc3 | sl_exact hc4)
    sl_step
    iapply Hk
    isplitl [H1]
    · iexists _; isplitr; · ipureintro; exact harg1.read_unread _
      iexact H1
    isplitl [H4]
    · iexists _; isplitr; · ipureintro; exact harg4.read_unread _
      iexact H4
    iexact H16

end Cert.FwdBitsHand

end
-- ==== Proof.FwdBitsRunC.lean ====
module

public import proofs.«01_k».proof.Proof.Gen.Fwd.Skeleton
public import proofs.«01_k».proof.Proof.Gen.Fwd.Frame

@[expose] public section

set_option maxRecDepth 16384

noncomputable section

namespace Cert.FwdBitsHand

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that quantizes the first tile: what its stores leave in each buffer it writes, as pieces (last first) over what the
    buffer held. -/
noncomputable def runC (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : ¬ k0_cond1 i = 1#1) (hc2 : ¬ k0_cond2 i = 1#1) (hc3 : k0_cond3 i = 1#1) (hc4 : ¬ k0_cond4 i = 1#1)
    (x3 : Vec F S256x4096 .bf16) (x18 : Vec F S256x4096 .bf16) (x8 : Vec F S256x4096 .fp8e4m3) (x9 : Vec F S1x32x256 .f32) (x10 : Vec F S256x4096 .fp8e4m3) (x11 : Vec F S1x4x4096 .f32) (x13 : Vec F S12x24x512 .f32) (x20 : Vec F S256x128 .f32) (x21 : Vec F S256x128 .f32) (x22 : Vec F S4x4096 .f32) (x23 : Vec F S4x4096 .f32) (x25 : Vec F S4x1536 .f32) :
    Σ' (L18 : List (View.Piece (Elt F) S256x4096 .bf16)), Σ' (L8 : List (View.Piece (Elt F) S256x4096 .fp8e4m3)), Σ' (L9 : List (View.Piece (Elt F) S1x32x256 .f32)), Σ' (L10 : List (View.Piece (Elt F) S256x4096 .fp8e4m3)), Σ' (L11 : List (View.Piece (Elt F) S1x4x4096 .f32)), Σ' (L13 : List (View.Piece (Elt F) S12x24x512 .f32)), Σ' (L20 : List (View.Piece (Elt F) S256x128 .f32)), Σ' (L21 : List (View.Piece (Elt F) S256x128 .f32)), Σ' (L22 : List (View.Piece (Elt F) S4x4096 .f32)), Σ' (L23 : List (View.Piece (Elt F) S4x4096 .f32)), { L25 : List (View.Piece (Elt F) S4x1536 .f32) //
      ∀ (E : Set ℕ) (K : PUnit → sProp 𝕄),
        iprop(owns (c : Thread nD τ) arg3 fullShare x3 ∗ owns (c : Thread nD τ) arg18 fullShare x18 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg25 fullShare x25 ∗ (iprop(owns (c : Thread nD τ) arg3 fullShare x3 ∗ (arg18.view.loc (c : Thread nD τ) ↦[arg18.view.set]{fullShare} arg18.view.writes (Elt F) (harg18.unread x18) L18) ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg13.view.loc (c : Thread nD τ) ↦[arg13.view.set]{fullShare} arg13.view.writes (Elt F) (harg13.unread x13) L13) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg25.view.loc (c : Thread nD τ) ↦[arg25.view.set]{fullShare} arg25.view.writes (Elt F) (harg25.unread x25) L25)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, fun E K => ?run⟩
  case run =>
    simp only [cc0_forward_eq_skeleton]; unfold cc0_forward_skel
    simp only [dif_neg hc1]
    simp only [dif_neg hc2]
    simp only [dif_pos hc3]
    simp only [dif_neg hc4]
    simp only [k0_part153_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part154_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton]
    unfold owns
    iintro ⟨⟨%f3, %hf3, H3⟩, ⟨%f18, %hf18, H18⟩, ⟨%f8, %hf8, H8⟩, ⟨%f9, %hf9, H9⟩, ⟨%f10, %hf10, H10⟩, ⟨%f11, %hf11, H11⟩, ⟨%f13, %hf13, H13⟩, ⟨%f20, %hf20, H20⟩, ⟨%f21, %hf21, H21⟩, ⟨%f22, %hf22, H22⟩, ⟨%f23, %hf23, H23⟩, ⟨%f25, %hf25, H25⟩, Hk⟩
    obtain rfl := harg3.eq_unread hf3
    obtain rfl := harg18.eq_unread hf18
    obtain rfl := harg8.eq_unread hf8
    obtain rfl := harg9.eq_unread hf9
    obtain rfl := harg10.eq_unread hf10
    obtain rfl := harg11.eq_unread hf11
    obtain rfl := harg13.eq_unread hf13
    obtain rfl := harg20.eq_unread hf20
    obtain rfl := harg21.eq_unread hf21
    obtain rfl := harg22.eq_unread hf22
    obtain rfl := harg23.eq_unread hf23
    obtain rfl := harg25.eq_unread hf25
    sl_exec (disch := first | sl_exact hc1 | sl_exact hc2 | sl_exact hc3 | sl_exact hc4)
    sl_step
    iapply Hk
    isplitl [H3]
    · iexists _; isplitr; · ipureintro; exact harg3.read_unread _
      iexact H3
    isplitl [H18]; · iexact H18
    isplitl [H8]; · iexact H8
    isplitl [H9]; · iexact H9
    isplitl [H10]; · iexact H10
    isplitl [H11]; · iexact H11
    isplitl [H13]; · iexact H13
    isplitl [H20]; · iexact H20
    isplitl [H21]; · iexact H21
    isplitl [H22]; · iexact H22
    isplitl [H23]; · iexact H23
    iexact H25

end Cert.FwdBitsHand

end
-- ==== Proof.FwdBitsRunD.lean ====
module

public import proofs.«01_k».proof.Proof.Gen.Fwd.Skeleton
public import proofs.«01_k».proof.Proof.Gen.Fwd.Frame

@[expose] public section

set_option maxRecDepth 16384

noncomputable section

namespace Cert.FwdBitsHand

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where a point's scales of the hidden rows go: their first row and column among the scales of a block of columns. -/
def hsRow (i : grid0.Coords) : ℕ := k0_off59 i 1
def hsCol (i : grid0.Coords) : ℕ := k0_off59 i 2

instance (i : grid0.Coords) : ClosedOff (k0_off59 i) := ⟨![0, hsRow i, hsCol i], rfl⟩
instance (i : grid0.Coords) : ClosedOff (k0_off60 i) := ⟨![1, hsRow i, hsCol i], rfl⟩
instance (i : grid0.Coords) : ClosedOff (k0_off61 i) := ⟨![2, hsRow i, hsCol i], rfl⟩
instance (i : grid0.Coords) : ClosedOff (k0_off62 i) := ⟨![3, hsRow i, hsCol i], rfl⟩
instance (i : grid0.Coords) : ClosedOff (k0_off63 i) := ⟨![4, hsRow i, hsCol i], rfl⟩
instance (i : grid0.Coords) : ClosedOff (k0_off64 i) := ⟨![5, hsRow i, hsCol i], rfl⟩
instance (i : grid0.Coords) : ClosedOff (k0_off65 i) := ⟨![6, hsRow i, hsCol i], rfl⟩
instance (i : grid0.Coords) : ClosedOff (k0_off66 i) := ⟨![7, hsRow i, hsCol i], rfl⟩
instance (i : grid0.Coords) : ClosedOff (k0_off67 i) := ⟨![8, hsRow i, hsCol i], rfl⟩
instance (i : grid0.Coords) : ClosedOff (k0_off68 i) := ⟨![9, hsRow i, hsCol i], rfl⟩
instance (i : grid0.Coords) : ClosedOff (k0_off69 i) := ⟨![10, hsRow i, hsCol i], rfl⟩
instance (i : grid0.Coords) : ClosedOff (k0_off70 i) := ⟨![11, hsRow i, hsCol i], rfl⟩

set_option maxHeartbeats 40000000 in
/-- The body at a point that works a tile through both products: what its stores leave in each buffer it writes, as pieces (last first) over what the
    buffer held. -/
noncomputable def runD (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : ¬ k0_cond1 i = 1#1) (hc2 : ¬ k0_cond2 i = 1#1) (hc3 : ¬ k0_cond3 i = 1#1) (hc4 : k0_cond4 i = 1#1)
    (x3 : Vec F S256x4096 .bf16) (x16 : Vec F S4096x3072 .bf16) (x17 : Vec F S1536x4096 .bf16) (x6 : Vec F S256x4096 .bf16) (x18 : Vec F S256x4096 .bf16) (x7 : Vec F S256x3072 .f32) (x8 : Vec F S256x4096 .fp8e4m3) (x9 : Vec F S1x32x256 .f32) (x10 : Vec F S256x4096 .fp8e4m3) (x11 : Vec F S1x4x4096 .f32) (x12 : Vec F S256x1536 .fp8e4m3) (x13 : Vec F S12x24x512 .f32) (x14 : Vec F S256x1536 .fp8e4m3) (x15 : Vec F S1x4x1536 .f32) (x19 : Vec F S256x1536 .bf16) (x20 : Vec F S256x128 .f32) (x21 : Vec F S256x128 .f32) (x22 : Vec F S4x4096 .f32) (x23 : Vec F S4x4096 .f32) (x24 : Vec F S4x1536 .f32) (x25 : Vec F S4x1536 .f32) :
    Σ' (L6 : List (View.Piece (Elt F) S256x4096 .bf16)), Σ' (L18 : List (View.Piece (Elt F) S256x4096 .bf16)), Σ' (L7 : List (View.Piece (Elt F) S256x3072 .f32)), Σ' (L8 : List (View.Piece (Elt F) S256x4096 .fp8e4m3)), Σ' (L9 : List (View.Piece (Elt F) S1x32x256 .f32)), Σ' (L10 : List (View.Piece (Elt F) S256x4096 .fp8e4m3)), Σ' (L11 : List (View.Piece (Elt F) S1x4x4096 .f32)), Σ' (L12 : List (View.Piece (Elt F) S256x1536 .fp8e4m3)), Σ' (L13 : List (View.Piece (Elt F) S12x24x512 .f32)), Σ' (L14 : List (View.Piece (Elt F) S256x1536 .fp8e4m3)), Σ' (L15 : List (View.Piece (Elt F) S1x4x1536 .f32)), Σ' (L19 : List (View.Piece (Elt F) S256x1536 .bf16)), Σ' (L20 : List (View.Piece (Elt F) S256x128 .f32)), Σ' (L21 : List (View.Piece (Elt F) S256x128 .f32)), Σ' (L22 : List (View.Piece (Elt F) S4x4096 .f32)), Σ' (L23 : List (View.Piece (Elt F) S4x4096 .f32)), Σ' (L24 : List (View.Piece (Elt F) S4x1536 .f32)), { L25 : List (View.Piece (Elt F) S4x1536 .f32) //
      ∀ (E : Set ℕ) (K : PUnit → sProp 𝕄),
        iprop(owns (c : Thread nD τ) arg3 fullShare x3 ∗ owns (c : Thread nD τ) arg16 fullShare x16 ∗ owns (c : Thread nD τ) arg17 fullShare x17 ∗ owns (c : Thread nD τ) arg6 fullShare x6 ∗ owns (c : Thread nD τ) arg18 fullShare x18 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (iprop(owns (c : Thread nD τ) arg3 fullShare x3 ∗ owns (c : Thread nD τ) arg16 fullShare x16 ∗ owns (c : Thread nD τ) arg17 fullShare x17 ∗ (arg6.view.loc (c : Thread nD τ) ↦[arg6.view.set]{fullShare} arg6.view.writes (Elt F) (harg6.unread x6) L6) ∗ (arg18.view.loc (c : Thread nD τ) ↦[arg18.view.set]{fullShare} arg18.view.writes (Elt F) (harg18.unread x18) L18) ∗ (arg7.view.loc (c : Thread nD τ) ↦[arg7.view.set]{fullShare} arg7.view.writes (Elt F) (harg7.unread x7) L7) ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24) ∗ (arg25.view.loc (c : Thread nD τ) ↦[arg25.view.set]{fullShare} arg25.view.writes (Elt F) (harg25.unread x25) L25)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, ?_, ?_, fun E K => ?run⟩
  case run =>
    simp only [cc0_forward_eq_skeleton]; unfold cc0_forward_skel
    simp only [dif_neg hc1]
    simp only [dif_neg hc2]
    simp only [dif_neg hc3]
    simp only [dif_pos hc4]
    simp only [k0_part344_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part345_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part346_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton]
    unfold owns
    iintro ⟨⟨%f3, %hf3, H3⟩, ⟨%f16, %hf16, H16⟩, ⟨%f17, %hf17, H17⟩, ⟨%f6, %hf6, H6⟩, ⟨%f18, %hf18, H18⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg3.eq_unread hf3
    obtain rfl := harg16.eq_unread hf16
    obtain rfl := harg17.eq_unread hf17
    obtain rfl := harg6.eq_unread hf6
    obtain rfl := harg18.eq_unread hf18
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg19.eq_unread hf19
    obtain rfl := harg20.eq_unread hf20
    obtain rfl := harg21.eq_unread hf21
    obtain rfl := harg22.eq_unread hf22
    obtain rfl := harg23.eq_unread hf23
    obtain rfl := harg24.eq_unread hf24
    obtain rfl := harg25.eq_unread hf25
    sl_exec (disch := first | sl_exact hc1 | sl_exact hc2 | sl_exact hc3 | sl_exact hc4)
    sl_step
    iapply Hk
    isplitl [H3]
    · iexists _; isplitr; · ipureintro; exact harg3.read_unread _
      iexact H3
    isplitl [H16]
    · iexists _; isplitr; · ipureintro; exact harg16.read_unread _
      iexact H16
    isplitl [H17]
    · iexists _; isplitr; · ipureintro; exact harg17.read_unread _
      iexact H17
    isplitl [H6]; · iexact H6
    isplitl [H18]; · iexact H18
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H19]; · iexact H19
    isplitl [H20]; · iexact H20
    isplitl [H21]; · iexact H21
    isplitl [H22]; · iexact H22
    isplitl [H23]; · iexact H23
    isplitl [H24]; · iexact H24
    iexact H25

end Cert.FwdBitsHand

end
-- ==== Proof.FwdBitsFrame.lean ====
module

public import proofs.«01_k».proof.Proof.FwdBitsRunA
public import proofs.«01_k».proof.Proof.FwdBitsRunB
public import proofs.«01_k».proof.Proof.FwdBitsRunC
public import proofs.«01_k».proof.Proof.FwdBitsRunD
public import proofs.«01_k».proof.Proof.Gen.Fwd.Points
public import proofs.«01_k».proof.Proof.Gen.Fwd.Launch
public import Idealize.ShloMosaic.Lib.Pipeline.FrameBody
public import Idealize.ShloMosaic.Lib.Pipeline.ArrRel
public import Idealize.ShloMosaic.Lib.Tactic
public import Idealize.ShloMosaic.Lib.WordCmp

@[expose] public section

set_option maxRecDepth 16384

noncomputable section

namespace Cert.FwdBitsHand

open Cert.Fwd Cert.Fwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches, by the point -/

theorem coord_val (t : Fin cfg0.N) : (grid0.coords t 0).val = t.val := by
  have ht : t.val < 81 := Nat.lt_of_lt_of_eq t.isLt N_0
  have e0 : (grid0.coords t 0).val = t.val / 1 % 81 := Pipeline.Grid.coords_val t 0 (by decide) rfl
  omega
theorem cond1 (t : Fin cfg0.N) : k0_cond1 (grid0.coords t) = 1#1 ↔ t.val < 32 := by
  have ht : t.val < 81 := Nat.lt_of_lt_of_eq t.isLt N_0
  simp only [k0_cond1, coord_val]
  word_cmp
theorem cond2 (t : Fin cfg0.N) : k0_cond2 (grid0.coords t) = 1#1 ↔ t.val < 12 := by
  have ht : t.val < 81 := Nat.lt_of_lt_of_eq t.isLt N_0
  simp only [k0_cond2, coord_val]
  word_cmp
theorem cond3 (t : Fin cfg0.N) : k0_cond3 (grid0.coords t) = 1#1 ↔ t.val = 32 := by
  have ht : t.val < 81 := Nat.lt_of_lt_of_eq t.isLt N_0
  simp only [k0_cond3, coord_val]
  word_cmp
theorem cond4 (t : Fin cfg0.N) : k0_cond4 (grid0.coords t) = 1#1 ↔ 32 < t.val := by
  have ht : t.val < 81 := Nat.lt_of_lt_of_eq t.isLt N_0
  simp only [k0_cond4, coord_val]
  word_cmp

/-! ## The buffers of a point -/

abbrev ms0_0 (t : Fin cfg0.N) : Memref sig .tc .smem S768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x1536 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x24x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1536 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4x1536 .f32 := win0_14.stage (cfg0.slots t 14)
abbrev hs0_14 (t : Fin cfg0.N) : (ms0_14 t).IsWhole := hstage0_14 ((cfg0.slots t 14).cast nbuf0_14)
abbrev scM0_0 : Memref sig .tc .vmem S4096x3072 .bf16 := Memref.whole cc0_scratch0
abbrev scM0_1 : Memref sig .tc .vmem S1536x4096 .bf16 := Memref.whole cc0_scratch1
abbrev scM0_2 : Memref sig .tc .vmem S256x4096 .bf16 := Memref.whole cc0_scratch2
abbrev scM0_3 : Memref sig .tc .vmem S256x1536 .bf16 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S4x4096 .f32 := Memref.whole cc0_scratch6
abbrev scM0_7 : Memref sig .tc .vmem S4x4096 .f32 := Memref.whole cc0_scratch7
abbrev scM0_8 : Memref sig .tc .vmem S4x1536 .f32 := Memref.whole cc0_scratch8
abbrev scM0_9 : Memref sig .tc .vmem S4x1536 .f32 := Memref.whole cc0_scratch9

/-- What the pipeline hands over before its first point and takes back after its last: every scratch buffer at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- What a buffer reads as after stores over what it held. -/
abbrev left {sp : Space} {s : Shape} {e : EltTy} (M : Memref sig .tc sp s e) (hM : M.IsWhole) (X : Vec F s e) (L : List (View.Piece (Elt F) s e)) : Vec F s e :=
  M.view.read (Elt F) (M.view.writes (Elt F) (hM.unread X) L)

variable (Inv : Dev nD → ℕ → Vec F S4096x3072 .bf16 → Vec F S1536x4096 .bf16 → Vec F S256x4096 .bf16 → Prop)
variable (yP : (c : Dev nD) → Fin cfg0.N → Vec F S256x4096 .bf16 → Prop)

/-- What the body carries from one point to the next. -/
def PHI (c : Dev nD) (n : ℕ) : sProp 𝕄 :=
  iprop(∃ (X16 : Vec F S4096x3072 .bf16) (X17 : Vec F S1536x4096 .bf16) (X18 : Vec F S256x4096 .bf16), ⌜Inv c n X16 X17 X18⌝
    ∗ owns (c : Thread nD τ) scM0_0 fullShare X16 ∗ owns (c : Thread nD τ) scM0_1 fullShare X17 ∗ owns (c : Thread nD τ) scM0_2 fullShare X18
    ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ r, prngReg c r))

/-- The run of case A at point `t`. -/
abbrev RA (c : Dev nD) (t : Fin cfg0.N) (hc1 : k0_cond1 (grid0.coords t) = 1#1) (hc2 : k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 0 t) (iblk m c 1 t) (iblk m c 3 t) (iblk m c 4 t) X16 X17

/-- What case A's stores are to keep. -/
def StepA : Prop := ∀ (c : Dev nD) (t : Fin cfg0.N) (hc1 : k0_cond1 (grid0.coords t) = 1#1) (hc2 : k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) (X18 : Vec F S256x4096 .bf16),
  Inv c t.val X16 X17 X18 → Inv c (t.val + 1) (left (scM0_0) (Memref.isWhole_whole _) X16 (RA m c t hc1 hc2 hc3 hc4 X16 X17).1) (left (scM0_1) (Memref.isWhole_whole _) X17 (RA m c t hc1 hc2 hc3 hc4 X16 X17).2.1) X18

/-- The run of case B at point `t`. -/
abbrev RB (c : Dev nD) (t : Fin cfg0.N) (hc1 : k0_cond1 (grid0.coords t) = 1#1) (hc2 : ¬ k0_cond2 (grid0.coords t) = 1#1) (hc3 : ¬ k0_cond3 (grid0.coords t) = 1#1) (hc4 : ¬ k0_cond4 (grid0.coords t) = 1#1) (X16 : Vec F S4096x3072 .bf16) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 0 t) (iblk m c 3 t) X16

/-- What case B's stores are to keep. -/
def StepB : Prop := ∀ (c : Dev nD) (t : Fin cfg0.N) (hc1 : k0_cond1 (grid0.coords t) = 1#1) (hc2 : ¬ k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) (X18 : Vec F S256x4096 .bf16),
  Inv c t.val X16 X17 X18 → Inv c (t.val + 1) (left (scM0_0) (Memref.isWhole_whole _) X16 (RB m c t hc1 hc2 hc3 hc4 X16).1) X17 X18

/-- The run of case C at point `t`. -/
abbrev RC (c : Dev nD) (t : Fin cfg0.N) (hc1 : ¬ k0_cond1 (grid0.coords t) = 1#1) (hc2 : ¬ k0_cond2 (grid0.coords t) = 1#1) (hc3 : k0_cond3 (grid0.coords t) = 1#1) (hc4 : ¬ k0_cond4 (grid0.coords t) = 1#1) (X18 : Vec F S256x4096 .bf16) (Y7 : Vec F S256x4096 .fp8e4m3) (Y8 : Vec F S1x32x256 .f32) (Y9 : Vec F S256x4096 .fp8e4m3) (Y10 : Vec F S1x4x4096 .f32) (Y12 : Vec F S12x24x512 .f32) (d20 : Vec F S256x128 .f32) (d21 : Vec F S256x128 .f32) (d22 : Vec F S4x4096 .f32) (d23 : Vec F S4x4096 .f32) (d25 : Vec F S4x1536 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 2 t) X18 Y7 Y8 Y9 Y10 Y12 d20 d21 d22 d23 d25

/-- What case C's stores are to keep. -/
def StepC : Prop := ∀ (c : Dev nD) (t : Fin cfg0.N) (hc1 : ¬ k0_cond1 (grid0.coords t) = 1#1) (hc2 : ¬ k0_cond2 (grid0.coords t) = 1#1) (hc3 : k0_cond3 (grid0.coords t) = 1#1) (hc4 : ¬ k0_cond4 (grid0.coords t) = 1#1) (X18 : Vec F S256x4096 .bf16) (Y7 : Vec F S256x4096 .fp8e4m3) (Y8 : Vec F S1x32x256 .f32) (Y9 : Vec F S256x4096 .fp8e4m3) (Y10 : Vec F S1x4x4096 .f32) (Y12 : Vec F S12x24x512 .f32) (d20 : Vec F S256x128 .f32) (d21 : Vec F S256x128 .f32) (d22 : Vec F S4x4096 .f32) (d23 : Vec F S4x4096 .f32) (d25 : Vec F S4x1536 .f32) (X16 : Vec F S4096x3072 .bf16) (X17 : Vec F S1536x4096 .bf16),
  Inv c t.val X16 X17 X18 → Inv c (t.val + 1) X16 X17 (left (scM0_2) (Memref.isWhole_whole _) X18 (RC m c t hc1 hc2 hc3 hc4 X18 Y7 Y8 Y9 Y10 Y12 d20 d21 d22 d23 d25).1)

/-- The run of case D at point `t`. -/
abbrev RD (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec F S4096x3072 .bf16) (X17 : Vec F S1536x4096 .bf16) (Y5 : Vec F S256x4096 .bf16) (X18 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) (d19 : Vec F S256x1536 .bf16) (d20 : Vec F S256x128 .f32) (d21 : Vec F S256x128 .f32) (d22 : Vec F S4x4096 .f32) (d23 : Vec F S4x4096 .f32) (d24 : Vec F S4x1536 .f32) (d25 : Vec F S4x1536 .f32) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 2 t) X16 X17 Y5 X18 Y6 Y7 Y8 Y9 Y10 Y11 Y12 Y13 Y14 d19 d20 d21 d22 d23 d24 d25

/-- What case D's stores are to keep. -/
def StepD : Prop := ∀ (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec F S4096x3072 .bf16) (X17 : Vec F S1536x4096 .bf16) (Y5 : Vec F S256x4096 .bf16) (X18 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) (d19 : Vec F S256x1536 .bf16) (d20 : Vec F S256x128 .f32) (d21 : Vec F S256x128 .f32) (d22 : Vec F S4x4096 .f32) (d23 : Vec F S4x4096 .f32) (d24 : Vec F S4x1536 .f32) (d25 : Vec F S4x1536 .f32),
  Inv c t.val X16 X17 X18 → Inv c (t.val + 1) X16 X17 (left (scM0_2) (Memref.isWhole_whole _) X18 (RD m c t hc1 hc2 hc3 hc4 X16 X17 Y5 X18 Y6 Y7 Y8 Y9 Y10 Y11 Y12 Y13 Y14 d19 d20 d21 d22 d23 d24 d25).2.1) ∧ yP c t (left (ms0_5 t) (hs0_5 t) Y5 (RD m c t hc1 hc2 hc3 hc4 X16 X17 Y5 X18 Y6 Y7 Y8 Y9 Y10 Y11 Y12 Y13 Y14 d19 d20 d21 d22 d23 d24 d25).1)

set_option maxHeartbeats 4000000 in
theorem sound_A (hstep : StepA m Inv) (c : Dev nD) (t : Fin cfg0.N) (h : t.val < 12) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : k0_cond1 (grid0.coords t) = 1#1 := by rw [cond1]; omega
  have hc2 : k0_cond2 (grid0.coords t) = 1#1 := by rw [cond2]; omega
  have hc3 : ¬ k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RA m c t hc1 hc2 hc3 hc4 X16 X17).2.2 Set.univ _)
  isplitl [H1]; · iexact H1
  isplitl [H2]; · iexact H2
  isplitl [H4]; · iexact H4
  isplitl [H5]; · iexact H5
  isplitl [S16]; · iexact S16
  isplitl [S17]; · iexact S17
  iintro ⟨H1, H2, H4, H5, S16, S17⟩
  isplitl [S16 S17 S18 S19 S20 S21 S22 S23 S24 S25 Hg]
  · iexists _, _, _
    isplitr; · ipureintro; exact (hstep c t hc1 hc2 hc3 hc4 X16 X17 X18 hI)
    isplitl [S16]
    · skip
      unfold owns; iexists _; isplitr
      swap; · iexact S16
      ipureintro; rfl
    isplitl [S17]
    · skip
      unfold owns; iexists _; isplitr
      swap; · iexact S17
      ipureintro; rfl
    isplitl [S18]
    · skip
      iexact S18
    isplitl [S19]
    · iexists _
      iexact S19
    isplitl [S20]
    · iexists _
      iexact S20
    isplitl [S21]
    · iexists _
      iexact S21
    isplitl [S22]
    · iexists _
      iexact S22
    isplitl [S23]
    · iexists _
      iexact S23
    isplitl [S24]
    · iexists _
      iexact S24
    isplitl [S25]
    · iexists _
      iexact S25
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    iexact H8
  isplitl [H9]
  · skip
    iexists _
    iexact H9
  isplitl [H10]
  · skip
    iexists _
    iexact H10
  isplitl [H11]
  · skip
    iexists _
    iexact H11
  isplitl [H12]
  · skip
    iexists _
    iexact H12
  isplitl [H13]
  · skip
    iexists _
    iexact H13
  isplitl [H14]
  · skip
    iexists _
    iexact H14
  iexists _
  iexact H15

set_option maxHeartbeats 4000000 in
theorem sound_B (hstep : StepB m Inv) (c : Dev nD) (t : Fin cfg0.N) (h : ¬ t.val < 12 ∧ t.val < 32) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : k0_cond1 (grid0.coords t) = 1#1 := by rw [cond1]; omega
  have hc2 : ¬ k0_cond2 (grid0.coords t) = 1#1 := by rw [cond2]; omega
  have hc3 : ¬ k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RB m c t hc1 hc2 hc3 hc4 X16).2 Set.univ _)
  isplitl [H1]; · iexact H1
  isplitl [H4]; · iexact H4
  isplitl [S16]; · iexact S16
  iintro ⟨H1, H4, S16⟩
  isplitl [S16 S17 S18 S19 S20 S21 S22 S23 S24 S25 Hg]
  · iexists _, _, _
    isplitr; · ipureintro; exact (hstep c t hc1 hc2 hc3 hc4 X16 X17 X18 hI)
    isplitl [S16]
    · skip
      unfold owns; iexists _; isplitr
      swap; · iexact S16
      ipureintro; rfl
    isplitl [S17]
    · skip
      iexact S17
    isplitl [S18]
    · skip
      iexact S18
    isplitl [S19]
    · iexists _
      iexact S19
    isplitl [S20]
    · iexists _
      iexact S20
    isplitl [S21]
    · iexists _
      iexact S21
    isplitl [S22]
    · iexists _
      iexact S22
    isplitl [S23]
    · iexists _
      iexact S23
    isplitl [S24]
    · iexists _
      iexact S24
    isplitl [S25]
    · iexists _
      iexact S25
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    iexact H8
  isplitl [H9]
  · skip
    iexists _
    iexact H9
  isplitl [H10]
  · skip
    iexists _
    iexact H10
  isplitl [H11]
  · skip
    iexists _
    iexact H11
  isplitl [H12]
  · skip
    iexists _
    iexact H12
  isplitl [H13]
  · skip
    iexists _
    iexact H13
  isplitl [H14]
  · skip
    iexists _
    iexact H14
  iexists _
  iexact H15

set_option maxHeartbeats 4000000 in
theorem sound_C (hstep : StepC m Inv) (c : Dev nD) (t : Fin cfg0.N) (h : t.val = 32) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : ¬ k0_cond1 (grid0.coords t) = 1#1 := by rw [cond1]; omega
  have hc2 : ¬ k0_cond2 (grid0.coords t) = 1#1 := by rw [cond2]; omega
  have hc3 : k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RC m c t hc1 hc2 hc3 hc4 X18 Y7 Y8 Y9 Y10 Y12 d20 d21 d22 d23 d25).2.2.2.2.2.2.2.2.2.2.2 Set.univ _)
  isplitl [H3]; · iexact H3
  isplitl [S18]; · iexact S18
  isplitl [H8]; · iexact H8
  isplitl [H9]; · iexact H9
  isplitl [H10]; · iexact H10
  isplitl [H11]; · iexact H11
  isplitl [H13]; · iexact H13
  isplitl [S20]; · iexact S20
  isplitl [S21]; · iexact S21
  isplitl [S22]; · iexact S22
  isplitl [S23]; · iexact S23
  isplitl [S25]; · iexact S25
  iintro ⟨H3, S18, H8, H9, H10, H11, H13, S20, S21, S22, S23, S25⟩
  isplitl [S16 S17 S18 S19 S20 S21 S22 S23 S24 S25 Hg]
  · iexists _, _, _
    isplitr; · ipureintro; exact (hstep c t hc1 hc2 hc3 hc4 X18 Y7 Y8 Y9 Y10 Y12 d20 d21 d22 d23 d25 X16 X17 hI)
    isplitl [S16]
    · skip
      iexact S16
    isplitl [S17]
    · skip
      iexact S17
    isplitl [S18]
    · skip
      unfold owns; iexists _; isplitr
      swap; · iexact S18
      ipureintro; rfl
    isplitl [S19]
    · iexists _
      iexact S19
    isplitl [S20]
    · iexists _
      unfold owns; iexists _; isplitr
      swap; · iexact S20
      ipureintro; rfl
    isplitl [S21]
    · iexists _
      unfold owns; iexists _; isplitr
      swap; · iexact S21
      ipureintro; rfl
    isplitl [S22]
    · iexists _
      unfold owns; iexists _; isplitr
      swap; · iexact S22
      ipureintro; rfl
    isplitl [S23]
    · iexists _
      unfold owns; iexists _; isplitr
      swap; · iexact S23
      ipureintro; rfl
    isplitl [S24]
    · iexists _
      iexact S24
    isplitl [S25]
    · iexists _
      unfold owns; iexists _; isplitr
      swap; · iexact S25
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    unfold owns; iexists _; isplitr
    swap; · iexact H8
    ipureintro; rfl
  isplitl [H9]
  · skip
    iexists _
    unfold owns; iexists _; isplitr
    swap; · iexact H9
    ipureintro; rfl
  isplitl [H10]
  · skip
    iexists _
    unfold owns; iexists _; isplitr
    swap; · iexact H10
    ipureintro; rfl
  isplitl [H11]
  · skip
    iexists _
    unfold owns; iexists _; isplitr
    swap; · iexact H11
    ipureintro; rfl
  isplitl [H12]
  · skip
    iexists _
    iexact H12
  isplitl [H13]
  · skip
    iexists _
    unfold owns; iexists _; isplitr
    swap; · iexact H13
    ipureintro; rfl
  isplitl [H14]
  · skip
    iexists _
    iexact H14
  iexists _
  iexact H15

set_option maxHeartbeats 4000000 in
theorem sound_D (hstep : StepD m Inv yP) (c : Dev nD) (t : Fin cfg0.N) (h : 32 < t.val) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : ¬ k0_cond1 (grid0.coords t) = 1#1 := by rw [cond1]; omega
  have hc2 : ¬ k0_cond2 (grid0.coords t) = 1#1 := by rw [cond2]; omega
  have hc3 : ¬ k0_cond3 (grid0.coords t) = 1#1 := by rw [cond3]; omega
  have hc4 : k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RD m c t hc1 hc2 hc3 hc4 X16 X17 Y5 X18 Y6 Y7 Y8 Y9 Y10 Y11 Y12 Y13 Y14 d19 d20 d21 d22 d23 d24 d25).2.2.2.2.2.2.2.2.2.2.2.2.2.2.2.2.2.2 Set.univ _)
  isplitl [H3]; · iexact H3
  isplitl [S16]; · iexact S16
  isplitl [S17]; · iexact S17
  isplitl [H6]; · iexact H6
  isplitl [S18]; · iexact S18
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S19]; · iexact S19
  isplitl [S20]; · iexact S20
  isplitl [S21]; · iexact S21
  isplitl [S22]; · iexact S22
  isplitl [S23]; · iexact S23
  isplitl [S24]; · iexact S24
  isplitl [S25]; · iexact S25
  iintro ⟨H3, S16, S17, H6, S18, H7, H8, H9, H10, H11, H12, H13, H14, H15, S19, S20, S21, S22, S23, S24, S25⟩
  isplitl [S16 S17 S18 S19 S20 S21 S22 S23 S24 S25 Hg]
  · iexists _, _, _
    isplitr; · ipureintro; exact (hstep c t hc1 hc2 hc3 hc4 X16 X17 Y5 X18 Y6 Y7 Y8 Y9 Y10 Y11 Y12 Y13 Y14 d19 d20 d21 d22 d23 d24 d25 hI).1
    isplitl [S16]
    · skip
      iexact S16
    isplitl [S17]
    · skip
      iexact S17
    isplitl [S18]
    · skip
      unfold owns; iexists _; isplitr
      swap; · iexact S18
      ipureintro; rfl
    isplitl [S19]
    · iexists _
      unfold owns; iexists _; isplitr
      swap; · iexact S19
      ipureintro; rfl
    isplitl [S20]
    · iexists _
      unfold owns; iexists _; isplitr
      swap; · iexact S20
      ipureintro; rfl
    isplitl [S21]
    · iexists _
      unfold owns; iexists _; isplitr
      swap; · iexact S21
      ipureintro; rfl
    isplitl [S22]
    · iexists _
      unfold owns; iexists _; isplitr
      swap; · iexact S22
      ipureintro; rfl
    isplitl [S23]
    · iexists _
      unfold owns; iexists _; isplitr
      swap; · iexact S23
      ipureintro; rfl
    isplitl [S24]
    · iexists _
      unfold owns; iexists _; isplitr
      swap; · iexact S24
      ipureintro; rfl
    isplitl [S25]
    · iexists _
      unfold owns; iexists _; isplitr
      swap; · iexact S25
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists (left (ms0_5 t) (hs0_5 t) Y5 (RD m c t hc1 hc2 hc3 hc4 X16 X17 Y5 X18 Y6 Y7 Y8 Y9 Y10 Y11 Y12 Y13 Y14 d19 d20 d21 d22 d23 d24 d25).1)
    isplitr; · ipureintro; intro hy; exact (hstep c t hc1 hc2 hc3 hc4 X16 X17 Y5 X18 Y6 Y7 Y8 Y9 Y10 Y11 Y12 Y13 Y14 d19 d20 d21 d22 d23 d24 d25 hI).2
    unfold owns; iexists _; isplitr
    swap; · iexact H6
    ipureintro; rfl
  isplitl [H7]
  · skip
    iexists _
    unfold owns; iexists _; isplitr
    swap; · iexact H7
    ipureintro; rfl
  isplitl [H8]
  · skip
    iexists _
    unfold owns; iexists _; isplitr
    swap; · iexact H8
    ipureintro; rfl
  isplitl [H9]
  · skip
    iexists _
    unfold owns; iexists _; isplitr
    swap; · iexact H9
    ipureintro; rfl
  isplitl [H10]
  · skip
    iexists _
    unfold owns; iexists _; isplitr
    swap; · iexact H10
    ipureintro; rfl
  isplitl [H11]
  · skip
    iexists _
    unfold owns; iexists _; isplitr
    swap; · iexact H11
    ipureintro; rfl
  isplitl [H12]
  · skip
    iexists _
    unfold owns; iexists _; isplitr
    swap; · iexact H12
    ipureintro; rfl
  isplitl [H13]
  · skip
    iexists _
    unfold owns; iexists _; isplitr
    swap; · iexact H13
    ipureintro; rfl
  isplitl [H14]
  · skip
    iexists _
    unfold owns; iexists _; isplitr
    swap; · iexact H14
    ipureintro; rfl
  iexists _
  unfold owns; iexists _; isplitr
  swap; · iexact H15
  ipureintro; rfl

/-! ## The proof data -/

/-- What the pipeline leaves at each point: an input's buffer as it was, the first result's as `yP` says, the others' unconstrained. -/
def rdat (c : Dev nD) : RDat τ (Elt F) Unit ℕ (UR sig nD τ) ℕ cfg0 c where
  A w := V m c (Pipeline.arrRef spec0 w)
  after := fun
  | 0 => fun t Y X => X = Y
  | 1 => fun t Y X => X = Y
  | 2 => fun t Y X => X = Y
  | 3 => fun t Y X => X = Y
  | 4 => fun t Y X => X = Y
  | 5 => fun t Y X => 32 < t.val → yP c t X
  | 6 => fun t Y X => True
  | 7 => fun t Y X => True
  | 8 => fun t Y X => True
  | 9 => fun t Y X => True
  | 10 => fun t Y X => True
  | 11 => fun t Y X => True
  | 12 => fun t Y X => True
  | 13 => fun t Y X => True
  | 14 => fun t Y X => True
  Φ t := PHI Inv c t.val
  q _ := fullShare
  owed _ := 0

theorem rA_eq (c : Dev nD) (w : Fin cfg0.W) : (rdat m Inv yP c).A w = V m c (Pipeline.arrRef spec0 w) := rfl

theorem finds0_0 (c : Dev nD) (t : Fin cfg0.N) (Y) (hY : (rdat m Inv yP c).Finds 0 t Y) : Y = iblk m c 0 t := by
  obtain ⟨d, rfl⟩ := (rdat m Inv yP c).finds_in_eq_fetched 0 rfl (fun _ _ _ => rfl) (fun t Y X h => h) t Y hY
  unfold RDat.fetched RDat.blockOf iblk; rw [rA_eq]; try rfl

theorem finds0_1 (c : Dev nD) (t : Fin cfg0.N) (Y) (hY : (rdat m Inv yP c).Finds 1 t Y) : Y = iblk m c 1 t := by
  obtain ⟨d, rfl⟩ := (rdat m Inv yP c).finds_in_eq_fetched 1 rfl (fun _ _ _ => rfl) (fun t Y X h => h) t Y hY
  unfold RDat.fetched RDat.blockOf iblk; rw [rA_eq]; try rfl

theorem finds0_2 (c : Dev nD) (t : Fin cfg0.N) (Y) (hY : (rdat m Inv yP c).Finds 2 t Y) : Y = iblk m c 2 t := by
  obtain ⟨d, rfl⟩ := (rdat m Inv yP c).finds_in_eq_fetched 2 rfl (fun _ _ _ => rfl) (fun t Y X h => h) t Y hY
  unfold RDat.fetched RDat.blockOf iblk; rw [rA_eq]; try rfl

theorem finds0_3 (c : Dev nD) (t : Fin cfg0.N) (Y) (hY : (rdat m Inv yP c).Finds 3 t Y) : Y = iblk m c 3 t := by
  obtain ⟨d, rfl⟩ := (rdat m Inv yP c).finds_in_eq_fetched 3 rfl (fun _ _ _ => rfl) (fun t Y X h => h) t Y hY
  unfold RDat.fetched RDat.blockOf iblk; rw [rA_eq]; try rfl

theorem finds0_4 (c : Dev nD) (t : Fin cfg0.N) (Y) (hY : (rdat m Inv yP c).Finds 4 t Y) : Y = iblk m c 4 t := by
  obtain ⟨d, rfl⟩ := (rdat m Inv yP c).finds_in_eq_fetched 4 rfl (fun _ _ _ => rfl) (fun t Y X h => h) t Y hY
  unfold RDat.fetched RDat.blockOf iblk; rw [rA_eq]; try rfl

theorem defs₀_row (t : Fin cfg0.N) :
    defs₀ (F := F) .tc cfg0.body (cfg0.bodyArgs t (cfg0.slots t)) = bodyAt0 t := by
  unfold defs₀; rw [Defs.onTc_tc]

/-- The body at any point. -/
theorem sound_body (hA : StepA m Inv) (hB : StepB m Inv) (hC : StepC m Inv) (hD : StepD m Inv yP) (c : Dev nD) (t : Fin cfg0.N) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  by_cases h1 : t.val < 12
  · exact sound_A m Inv yP hA c t h1 O Y5 Y6 Y7 Y8 Y9 Y10 Y11 Y12 Y13 Y14
  by_cases h2 : t.val < 32
  · exact sound_B m Inv yP hB c t ⟨h1, h2⟩ O Y5 Y6 Y7 Y8 Y9 Y10 Y11 Y12 Y13 Y14
  by_cases h3 : t.val = 32
  · exact sound_C m Inv yP hC c t h3 O Y5 Y6 Y7 Y8 Y9 Y10 Y11 Y12 Y13 Y14
  exact sound_D m Inv yP hD c t (by omega) O Y5 Y6 Y7 Y8 Y9 Y10 Y11 Y12 Y13 Y14

set_option maxHeartbeats 4000000 in
theorem body_obligation (hA : StepA m Inv) (hB : StepB m Inv) (hC : StepC m Inv) (hD : StepD m Inv yP) (c : Dev nD) :
    (rdat m Inv yP c).BodyObligation (defs₀ (F := F)) Variants.none () Set.univ := fun t Y hY => by
  rw [bigSep_W0, bigSep_W0, defs₀_row]
  have e0 := finds0_0 m Inv yP c t (Y 0) (hY 0)
  have e1 := finds0_1 m Inv yP c t (Y 1) (hY 1)
  have e2 := finds0_2 m Inv yP c t (Y 2) (hY 2)
  have e3 := finds0_3 m Inv yP c t (Y 3) (hY 3)
  have e4 := finds0_4 m Inv yP c t (Y 4) (hY 4)
  refine triple_restated (sound_body m Inv yP hA hB hC hD c t ((rdat m Inv yP c).owesAt () t.castSucc) (Y 5) (Y 6) (Y 7) (Y 8) (Y 9) (Y 10) (Y 11) (Y 12) (Y 13) (Y 14)) rfl ?_ fun _ => ?_
  · rw [e0, e1, e2, e3, e4]
    exact .rfl
  · iintro ⟨HP, Ho, H0, H1, H2, H3, H4, ⟨%X5, %h5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩⟩
    have hp : (rdat m Inv yP c).Φ t.succ = PHI Inv c (t.val + 1) := by
      show PHI Inv c t.succ.val = _
      rw [Fin.val_succ]
    have ho : (rdat m Inv yP c).owesAt () t.succ = (rdat m Inv yP c).owesAt () t.castSucc := rfl
    rw [hp, ho]
    isplitl [HP]; · iexact HP
    isplitl [Ho]; · iexact Ho
    isplitl [H0]; · iexists (iblk m c 0 t); isplitr; · ipureintro; exact e0.symm
                    iexact H0
    isplitl [H1]; · iexists (iblk m c 1 t); isplitr; · ipureintro; exact e1.symm
                    iexact H1
    isplitl [H2]; · iexists (iblk m c 2 t); isplitr; · ipureintro; exact e2.symm
                    iexact H2
    isplitl [H3]; · iexists (iblk m c 3 t); isplitr; · ipureintro; exact e3.symm
                    iexact H3
    isplitl [H4]; · iexists (iblk m c 4 t); isplitr; · ipureintro; exact e4.symm
                    iexact H4
    isplitl [H5]; · iexists X5; isplitr; · ipureintro; exact h5
                    iexact H5
    isplitl [H6]; · iexists X6; isplitr; · ipureintro; trivial
                    iexact H6
    isplitl [H7]; · iexists X7; isplitr; · ipureintro; trivial
                    iexact H7
    isplitl [H8]; · iexists X8; isplitr; · ipureintro; trivial
                    iexact H8
    isplitl [H9]; · iexists X9; isplitr; · ipureintro; trivial
                    iexact H9
    isplitl [H10]; · iexists X10; isplitr; · ipureintro; trivial
                     iexact H10
    isplitl [H11]; · iexists X11; isplitr; · ipureintro; trivial
                     iexact H11
    isplitl [H12]; · iexists X12; isplitr; · ipureintro; trivial
                     iexact H12
    isplitl [H13]; · iexists X13; isplitr; · ipureintro; trivial
                     iexact H13
    iexists X14; isplitr; · ipureintro; trivial
    iexact H14

set_option backward.isDefEq.respectTransparency.types false in
/-- The launch: every final state has the arrays as the proof data allow, and every counter at zero. -/
theorem run_main_quiescent (hI : ∀ c X16 X17 X18, Inv c 0 X16 X17 X18) (hA : StepA m Inv) (hB : StepB m Inv) (hC : StepC m Inv) (hD : StepD m Inv yP) :
    θ_run defs (onTc (τ := τ) (main (F := F))) (s₀ m ρ) (fun r => (RDat.FramePost cfg0 (rdat m Inv yP) (V m)) r ∧ r.2.sem = fun _ => 0) :=
  Pipeline.RDat.θ_run_frame_track (Q' := _) cfgs (0 : Fin 1) launch0 defs₀ Variants.none (rdat m Inv yP) m ρ main
    (hbody := fun c => body_obligation m Inv yP hA hB hC hD c) (hshare := fun c => (rdat m Inv yP c).share_full fun _ => rfl)
    (howed := fun _ _ => rfl) (V := V m) (hmain := hmain m Variants.none) (hA := rA_eq m Inv yP)
    (hin := fun c => by
      show _ ⊢ PHI Inv c 0
      rw [PhiA0_eq]; unfold PHI
      iintro ⟨⟨⟨%d0, H0⟩, ⟨%d1, H1⟩, ⟨%d2, H2⟩, H3, H4, H5, H6, H7, H8, H9⟩, Hg⟩
      iexists d0, d1, d2
      isplitr; · ipureintro; exact hI c d0 d1 d2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hg)
    (hout := fun c => by
      show PHI Inv c 81 ⊢ _
      rw [PhiA0_eq]; unfold PHI
      iintro ⟨%d0, %d1, %d2, %hI, H0, H1, H2, H3, H4, H5, H6, H7, H8, H9, Hg⟩
      isplitl [H0 H1 H2 H3 H4 H5 H6 H7 H8 H9]
      · isplitl [H0]; · iexists _; iexact H0
        isplitl [H1]; · iexists _; iexact H1
        isplitl [H2]; · iexists _; iexact H2
        isplitl [H3]; · iexact H3
        isplitl [H4]; · iexact H4
        isplitl [H5]; · iexact H5
        isplitl [H6]; · iexact H6
        isplitl [H7]; · iexact H7
        isplitl [H8]; · iexact H8
        iexact H9
      iexact Hg)

end Cert.FwdBitsHand

end
-- ==== Proof.FwdBits.lean ====
module

public import proofs.«01_k».proof.Proof.FwdBitsFrame

@[expose] public section
set_option maxRecDepth 16384
noncomputable section
namespace Cert.FwdBitsHand
open Cert.Fwd Cert.Fwd.Gen Idealize.ShloMosaic Idealize.ShloMosaic.TcCoe Idealize.SL.Sem

/-- The forward call runs with its arguments unchanged and every counter at zero. -/
theorem final {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run _ _ _).mono (fun r h => ⟨fun c => ⟨?_, ?_, ?_, ?_, ?_⟩, h.2⟩)
    (run_main_quiescent m g (fun _ _ _ _ _ => True) (fun _ _ _ => True) (fun _ _ _ _ => trivial)
      (by unfold StepA; intros; trivial) (by unfold StepB; intros; trivial) (by unfold StepC; intros; trivial) (by unfold StepD; intros; exact ⟨trivial, trivial⟩))
  · exact h.1.arr_in c 2 rfl
  · exact h.1.arr_in c 3 rfl
  · exact h.1.arr_in c 0 rfl
  · exact h.1.arr_in c 4 rfl
  · exact h.1.arr_in c 1 rfl

end Cert.FwdBitsHand
end
-- ==== Proof.FwdRunA.lean ====
module

public import proofs.«01_k».proof.Proof.Gen.FwdIdeal.Skeleton
public import proofs.«01_k».proof.Proof.Gen.FwdIdeal.Frame

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that loads one block of rows of each weight: what its stores leave in each buffer it writes, as pieces (last first) over what the
    buffer held. -/
noncomputable def runA (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : k0_cond1 i = 1#1) (hc2 : k0_cond2 i = 1#1) (hc3 : ¬ k0_cond3 i = 1#1) (hc4 : ¬ k0_cond4 i = 1#1)
    (x1 : Vec F S768 .f32) (x2 : Vec F S384 .f32) (x4 : Vec F S2x128x1536 .fp8e4m3) (x5 : Vec F S128x4096 .fp8e4m3) (x16 : Vec F S4096x3072 .bf16) (x17 : Vec F S1536x4096 .bf16) :
    Σ' (L16 : List (View.Piece (Elt F) S4096x3072 .bf16)), { L17 : List (View.Piece (Elt F) S1536x4096 .bf16) //
      ∀ (E : Set ℕ) (K : PUnit → sProp 𝕄),
        iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg16 fullShare x16 ∗ owns (c : Thread nD τ) arg17 fullShare x17 ∗ (iprop(owns (c : Thread nD τ) arg1 fullShare x1 ∗ owns (c : Thread nD τ) arg2 fullShare x2 ∗ owns (c : Thread nD τ) arg4 fullShare x4 ∗ owns (c : Thread nD τ) arg5 fullShare x5 ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, fun E K => ?run⟩
  case run =>
    simp only [cc0_forward_eq_skeleton]; unfold cc0_forward_skel
    simp only [dif_pos hc1]
    simp only [dif_pos hc2]
    simp only [dif_neg hc3]
    simp only [dif_neg hc4]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f1, %hf1, H1⟩, ⟨%f2, %hf2, H2⟩, ⟨%f4, %hf4, H4⟩, ⟨%f5, %hf5, H5⟩, ⟨%f16, %hf16, H16⟩, ⟨%f17, %hf17, H17⟩, Hk⟩
    obtain rfl := harg1.eq_unread hf1
    obtain rfl := harg2.eq_unread hf2
    obtain rfl := harg4.eq_unread hf4
    obtain rfl := harg5.eq_unread hf5
    obtain rfl := harg16.eq_unread hf16
    obtain rfl := harg17.eq_unread hf17
    sl_exec (disch := first | sl_exact hc1 | sl_exact hc2 | sl_exact hc3 | sl_exact hc4)
    sl_step
    iapply Hk
    isplitl [H1]
    · iexists _; isplitr; · ipureintro; exact harg1.read_unread _
      iexact H1
    isplitl [H2]
    · iexists _; isplitr; · ipureintro; exact harg2.read_unread _
      iexact H2
    isplitl [H4]
    · iexists _; isplitr; · ipureintro; exact harg4.read_unread _
      iexact H4
    isplitl [H5]
    · iexists _; isplitr; · ipureintro; exact harg5.read_unread _
      iexact H5
    isplitl [H16]; · iexact H16
    iexact H17

end Cert.FwdHand

end
-- ==== Proof.FwdRunB.lean ====
module

public import proofs.«01_k».proof.Proof.Gen.FwdIdeal.Skeleton
public import proofs.«01_k».proof.Proof.Gen.FwdIdeal.Frame

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that loads one block of rows of the first weight: what its stores leave in each buffer it writes, as pieces (last first) over what the
    buffer held. -/
noncomputable def runB (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : k0_cond1 i = 1#1) (hc2 : ¬ k0_cond2 i = 1#1) (hc3 : ¬ k0_cond3 i = 1#1) (hc4 : ¬ k0_cond4 i = 1#1)
    (x1 : Vec F S768 .f32) (x4 : Vec F S2x128x1536 .fp8e4m3) (x16 : Vec F S4096x3072 .bf16) :
    { L16 : List (View.Piece (Elt F) S4096x3072 .bf16) //
      ∀ (E : Set ℕ) (K : PUnit → sProp 𝕄),
        iprop(owns (c : Thread nD τ) arg1 fullShare x1 ∗ owns (c : Thread nD τ) arg4 fullShare x4 ∗ owns (c : Thread nD τ) arg16 fullShare x16 ∗ (iprop(owns (c : Thread nD τ) arg1 fullShare x1 ∗ owns (c : Thread nD τ) arg4 fullShare x4 ∗ (arg16.view.loc (c : Thread nD τ) ↦[arg16.view.set]{fullShare} arg16.view.writes (Elt F) (harg16.unread x16) L16)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0_forward_eq_skeleton]; unfold cc0_forward_skel
    simp only [dif_pos hc1]
    simp only [dif_neg hc2]
    simp only [dif_neg hc3]
    simp only [dif_neg hc4]
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f1, %hf1, H1⟩, ⟨%f4, %hf4, H4⟩, ⟨%f16, %hf16, H16⟩, Hk⟩
    obtain rfl := harg1.eq_unread hf1
    obtain rfl := harg4.eq_unread hf4
    obtain rfl := harg16.eq_unread hf16
    sl_exec (disch := first | sl_exact hc1 | sl_exact hc2 | sl_exact hc3 | sl_exact hc4)
    sl_step
    iapply Hk
    isplitl [H1]
    · iexists _; isplitr; · ipureintro; exact harg1.read_unread _
      iexact H1
    isplitl [H4]
    · iexists _; isplitr; · ipureintro; exact harg4.read_unread _
      iexact H4
    iexact H16

end Cert.FwdHand

end
-- ==== Proof.FwdRunC.lean ====
module

public import proofs.«01_k».proof.Proof.Gen.FwdIdeal.Skeleton
public import proofs.«01_k».proof.Proof.Gen.FwdIdeal.Frame

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 40000000 in
/-- The body at a point that quantizes the first tile: what its stores leave in each buffer it writes, as pieces (last first) over what the
    buffer held. -/
noncomputable def runC (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : ¬ k0_cond1 i = 1#1) (hc2 : ¬ k0_cond2 i = 1#1) (hc3 : k0_cond3 i = 1#1) (hc4 : ¬ k0_cond4 i = 1#1)
    (x3 : Vec F S256x4096 .bf16) (x18 : Vec F S256x4096 .bf16) (x8 : Vec F S256x4096 .fp8e4m3) (x9 : Vec F S1x32x256 .f32) (x10 : Vec F S256x4096 .fp8e4m3) (x11 : Vec F S1x4x4096 .f32) (x13 : Vec F S12x24x512 .f32) (x20 : Vec F S256x128 .f32) (x21 : Vec F S256x128 .f32) (x22 : Vec F S4x4096 .f32) (x23 : Vec F S4x4096 .f32) (x25 : Vec F S4x1536 .f32) :
    Σ' (L18 : List (View.Piece (Elt F) S256x4096 .bf16)), Σ' (L8 : List (View.Piece (Elt F) S256x4096 .fp8e4m3)), Σ' (L9 : List (View.Piece (Elt F) S1x32x256 .f32)), Σ' (L10 : List (View.Piece (Elt F) S256x4096 .fp8e4m3)), Σ' (L11 : List (View.Piece (Elt F) S1x4x4096 .f32)), Σ' (L13 : List (View.Piece (Elt F) S12x24x512 .f32)), Σ' (L20 : List (View.Piece (Elt F) S256x128 .f32)), Σ' (L21 : List (View.Piece (Elt F) S256x128 .f32)), Σ' (L22 : List (View.Piece (Elt F) S4x4096 .f32)), Σ' (L23 : List (View.Piece (Elt F) S4x4096 .f32)), { L25 : List (View.Piece (Elt F) S4x1536 .f32) //
      ∀ (E : Set ℕ) (K : PUnit → sProp 𝕄),
        iprop(owns (c : Thread nD τ) arg3 fullShare x3 ∗ owns (c : Thread nD τ) arg18 fullShare x18 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg13 fullShare x13 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg25 fullShare x25 ∗ (iprop(owns (c : Thread nD τ) arg3 fullShare x3 ∗ (arg18.view.loc (c : Thread nD τ) ↦[arg18.view.set]{fullShare} arg18.view.writes (Elt F) (harg18.unread x18) L18) ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg13.view.loc (c : Thread nD τ) ↦[arg13.view.set]{fullShare} arg13.view.writes (Elt F) (harg13.unread x13) L13) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg25.view.loc (c : Thread nD τ) ↦[arg25.view.set]{fullShare} arg25.view.writes (Elt F) (harg25.unread x25) L25)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, fun E K => ?run⟩
  case run =>
    simp only [cc0_forward_eq_skeleton]; unfold cc0_forward_skel
    simp only [dif_neg hc1]
    simp only [dif_neg hc2]
    simp only [dif_pos hc3]
    simp only [dif_neg hc4]
    simp only [k0_part153_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part154_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton]
    unfold owns
    iintro ⟨⟨%f3, %hf3, H3⟩, ⟨%f18, %hf18, H18⟩, ⟨%f8, %hf8, H8⟩, ⟨%f9, %hf9, H9⟩, ⟨%f10, %hf10, H10⟩, ⟨%f11, %hf11, H11⟩, ⟨%f13, %hf13, H13⟩, ⟨%f20, %hf20, H20⟩, ⟨%f21, %hf21, H21⟩, ⟨%f22, %hf22, H22⟩, ⟨%f23, %hf23, H23⟩, ⟨%f25, %hf25, H25⟩, Hk⟩
    obtain rfl := harg3.eq_unread hf3
    obtain rfl := harg18.eq_unread hf18
    obtain rfl := harg8.eq_unread hf8
    obtain rfl := harg9.eq_unread hf9
    obtain rfl := harg10.eq_unread hf10
    obtain rfl := harg11.eq_unread hf11
    obtain rfl := harg13.eq_unread hf13
    obtain rfl := harg20.eq_unread hf20
    obtain rfl := harg21.eq_unread hf21
    obtain rfl := harg22.eq_unread hf22
    obtain rfl := harg23.eq_unread hf23
    obtain rfl := harg25.eq_unread hf25
    sl_exec (disch := first | sl_exact hc1 | sl_exact hc2 | sl_exact hc3 | sl_exact hc4)
    sl_step
    iapply Hk
    isplitl [H3]
    · iexists _; isplitr; · ipureintro; exact harg3.read_unread _
      iexact H3
    isplitl [H18]; · iexact H18
    isplitl [H8]; · iexact H8
    isplitl [H9]; · iexact H9
    isplitl [H10]; · iexact H10
    isplitl [H11]; · iexact H11
    isplitl [H13]; · iexact H13
    isplitl [H20]; · iexact H20
    isplitl [H21]; · iexact H21
    isplitl [H22]; · iexact H22
    isplitl [H23]; · iexact H23
    iexact H25

end Cert.FwdHand

end
-- ==== Proof.FwdRunD.lean ====
module

public import proofs.«01_k».proof.Proof.Gen.FwdIdeal.Skeleton
public import proofs.«01_k».proof.Proof.Gen.FwdIdeal.Frame

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Where a point's scales of the hidden rows go: their first row and column among the scales of a block of columns. -/
def hsRow (i : grid0.Coords) : ℕ := k0_off59 i 1
def hsCol (i : grid0.Coords) : ℕ := k0_off59 i 2

instance (i : grid0.Coords) : ClosedOff (k0_off59 i) := ⟨![0, hsRow i, hsCol i], rfl⟩
instance (i : grid0.Coords) : ClosedOff (k0_off60 i) := ⟨![1, hsRow i, hsCol i], rfl⟩
instance (i : grid0.Coords) : ClosedOff (k0_off61 i) := ⟨![2, hsRow i, hsCol i], rfl⟩
instance (i : grid0.Coords) : ClosedOff (k0_off62 i) := ⟨![3, hsRow i, hsCol i], rfl⟩
instance (i : grid0.Coords) : ClosedOff (k0_off63 i) := ⟨![4, hsRow i, hsCol i], rfl⟩
instance (i : grid0.Coords) : ClosedOff (k0_off64 i) := ⟨![5, hsRow i, hsCol i], rfl⟩
instance (i : grid0.Coords) : ClosedOff (k0_off65 i) := ⟨![6, hsRow i, hsCol i], rfl⟩
instance (i : grid0.Coords) : ClosedOff (k0_off66 i) := ⟨![7, hsRow i, hsCol i], rfl⟩
instance (i : grid0.Coords) : ClosedOff (k0_off67 i) := ⟨![8, hsRow i, hsCol i], rfl⟩
instance (i : grid0.Coords) : ClosedOff (k0_off68 i) := ⟨![9, hsRow i, hsCol i], rfl⟩
instance (i : grid0.Coords) : ClosedOff (k0_off69 i) := ⟨![10, hsRow i, hsCol i], rfl⟩
instance (i : grid0.Coords) : ClosedOff (k0_off70 i) := ⟨![11, hsRow i, hsCol i], rfl⟩

set_option maxHeartbeats 40000000 in
/-- The body at a point that works a tile through both products: what its stores leave in each buffer it writes, as pieces (last first) over what the
    buffer held. -/
noncomputable def runD (c : Dev nD) (i : grid0.Coords) (arg1 : Memref sig .tc .smem S768 .f32) (harg1 : arg1.IsWhole) (arg2 : Memref sig .tc .smem S384 .f32) (harg2 : arg2.IsWhole) (arg3 : Memref sig .tc .vmem S256x4096 .bf16) (harg3 : arg3.IsWhole) (arg4 : Memref sig .tc .vmem S2x128x1536 .fp8e4m3) (harg4 : arg4.IsWhole) (arg5 : Memref sig .tc .vmem S128x4096 .fp8e4m3) (harg5 : arg5.IsWhole) (arg6 : Memref sig .tc .vmem S256x4096 .bf16) (harg6 : arg6.IsWhole) (arg7 : Memref sig .tc .vmem S256x3072 .f32) (harg7 : arg7.IsWhole) (arg8 : Memref sig .tc .vmem S256x4096 .fp8e4m3) (harg8 : arg8.IsWhole) (arg9 : Memref sig .tc .vmem S1x32x256 .f32) (harg9 : arg9.IsWhole) (arg10 : Memref sig .tc .vmem S256x4096 .fp8e4m3) (harg10 : arg10.IsWhole) (arg11 : Memref sig .tc .vmem S1x4x4096 .f32) (harg11 : arg11.IsWhole) (arg12 : Memref sig .tc .vmem S256x1536 .fp8e4m3) (harg12 : arg12.IsWhole) (arg13 : Memref sig .tc .vmem S12x24x512 .f32) (harg13 : arg13.IsWhole) (arg14 : Memref sig .tc .vmem S256x1536 .fp8e4m3) (harg14 : arg14.IsWhole) (arg15 : Memref sig .tc .vmem S1x4x1536 .f32) (harg15 : arg15.IsWhole) (arg16 : Memref sig .tc .vmem S4096x3072 .bf16) (harg16 : arg16.IsWhole) (arg17 : Memref sig .tc .vmem S1536x4096 .bf16) (harg17 : arg17.IsWhole) (arg18 : Memref sig .tc .vmem S256x4096 .bf16) (harg18 : arg18.IsWhole) (arg19 : Memref sig .tc .vmem S256x1536 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S4x4096 .f32) (harg22 : arg22.IsWhole) (arg23 : Memref sig .tc .vmem S4x4096 .f32) (harg23 : arg23.IsWhole) (arg24 : Memref sig .tc .vmem S4x1536 .f32) (harg24 : arg24.IsWhole) (arg25 : Memref sig .tc .vmem S4x1536 .f32) (harg25 : arg25.IsWhole) (hc1 : ¬ k0_cond1 i = 1#1) (hc2 : ¬ k0_cond2 i = 1#1) (hc3 : ¬ k0_cond3 i = 1#1) (hc4 : k0_cond4 i = 1#1)
    (x3 : Vec F S256x4096 .bf16) (x16 : Vec F S4096x3072 .bf16) (x17 : Vec F S1536x4096 .bf16) (x6 : Vec F S256x4096 .bf16) (x18 : Vec F S256x4096 .bf16) (x7 : Vec F S256x3072 .f32) (x8 : Vec F S256x4096 .fp8e4m3) (x9 : Vec F S1x32x256 .f32) (x10 : Vec F S256x4096 .fp8e4m3) (x11 : Vec F S1x4x4096 .f32) (x12 : Vec F S256x1536 .fp8e4m3) (x13 : Vec F S12x24x512 .f32) (x14 : Vec F S256x1536 .fp8e4m3) (x15 : Vec F S1x4x1536 .f32) (x19 : Vec F S256x1536 .bf16) (x20 : Vec F S256x128 .f32) (x21 : Vec F S256x128 .f32) (x22 : Vec F S4x4096 .f32) (x23 : Vec F S4x4096 .f32) (x24 : Vec F S4x1536 .f32) (x25 : Vec F S4x1536 .f32) :
    Σ' (L6 : List (View.Piece (Elt F) S256x4096 .bf16)), Σ' (L18 : List (View.Piece (Elt F) S256x4096 .bf16)), Σ' (L7 : List (View.Piece (Elt F) S256x3072 .f32)), Σ' (L8 : List (View.Piece (Elt F) S256x4096 .fp8e4m3)), Σ' (L9 : List (View.Piece (Elt F) S1x32x256 .f32)), Σ' (L10 : List (View.Piece (Elt F) S256x4096 .fp8e4m3)), Σ' (L11 : List (View.Piece (Elt F) S1x4x4096 .f32)), Σ' (L12 : List (View.Piece (Elt F) S256x1536 .fp8e4m3)), Σ' (L13 : List (View.Piece (Elt F) S12x24x512 .f32)), Σ' (L14 : List (View.Piece (Elt F) S256x1536 .fp8e4m3)), Σ' (L15 : List (View.Piece (Elt F) S1x4x1536 .f32)), Σ' (L19 : List (View.Piece (Elt F) S256x1536 .bf16)), Σ' (L20 : List (View.Piece (Elt F) S256x128 .f32)), Σ' (L21 : List (View.Piece (Elt F) S256x128 .f32)), Σ' (L22 : List (View.Piece (Elt F) S4x4096 .f32)), Σ' (L23 : List (View.Piece (Elt F) S4x4096 .f32)), Σ' (L24 : List (View.Piece (Elt F) S4x1536 .f32)), { L25 : List (View.Piece (Elt F) S4x1536 .f32) //
      ∀ (E : Set ℕ) (K : PUnit → sProp 𝕄),
        iprop(owns (c : Thread nD τ) arg3 fullShare x3 ∗ owns (c : Thread nD τ) arg16 fullShare x16 ∗ owns (c : Thread nD τ) arg17 fullShare x17 ∗ owns (c : Thread nD τ) arg6 fullShare x6 ∗ owns (c : Thread nD τ) arg18 fullShare x18 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ (iprop(owns (c : Thread nD τ) arg3 fullShare x3 ∗ owns (c : Thread nD τ) arg16 fullShare x16 ∗ owns (c : Thread nD τ) arg17 fullShare x17 ∗ (arg6.view.loc (c : Thread nD τ) ↦[arg6.view.set]{fullShare} arg6.view.writes (Elt F) (harg6.unread x6) L6) ∗ (arg18.view.loc (c : Thread nD τ) ↦[arg18.view.set]{fullShare} arg18.view.writes (Elt F) (harg18.unread x18) L18) ∗ (arg7.view.loc (c : Thread nD τ) ↦[arg7.view.set]{fullShare} arg7.view.writes (Elt F) (harg7.unread x7) L7) ∗ (arg8.view.loc (c : Thread nD τ) ↦[arg8.view.set]{fullShare} arg8.view.writes (Elt F) (harg8.unread x8) L8) ∗ (arg9.view.loc (c : Thread nD τ) ↦[arg9.view.set]{fullShare} arg9.view.writes (Elt F) (harg9.unread x9) L9) ∗ (arg10.view.loc (c : Thread nD τ) ↦[arg10.view.set]{fullShare} arg10.view.writes (Elt F) (harg10.unread x10) L10) ∗ (arg11.view.loc (c : Thread nD τ) ↦[arg11.view.set]{fullShare} arg11.view.writes (Elt F) (harg11.unread x11) L11) ∗ (arg12.view.loc (c : Thread nD τ) ↦[arg12.view.set]{fullShare} arg12.view.writes (Elt F) (harg12.unread x12) L12) ∗ (arg13.view.loc (c : Thread nD τ) ↦[arg13.view.set]{fullShare} arg13.view.writes (Elt F) (harg13.unread x13) L13) ∗ (arg14.view.loc (c : Thread nD τ) ↦[arg14.view.set]{fullShare} arg14.view.writes (Elt F) (harg14.unread x14) L14) ∗ (arg15.view.loc (c : Thread nD τ) ↦[arg15.view.set]{fullShare} arg15.view.writes (Elt F) (harg15.unread x15) L15) ∗ (arg19.view.loc (c : Thread nD τ) ↦[arg19.view.set]{fullShare} arg19.view.writes (Elt F) (harg19.unread x19) L19) ∗ (arg20.view.loc (c : Thread nD τ) ↦[arg20.view.set]{fullShare} arg20.view.writes (Elt F) (harg20.unread x20) L20) ∗ (arg21.view.loc (c : Thread nD τ) ↦[arg21.view.set]{fullShare} arg21.view.writes (Elt F) (harg21.unread x21) L21) ∗ (arg22.view.loc (c : Thread nD τ) ↦[arg22.view.set]{fullShare} arg22.view.writes (Elt F) (harg22.unread x22) L22) ∗ (arg23.view.loc (c : Thread nD τ) ↦[arg23.view.set]{fullShare} arg23.view.writes (Elt F) (harg23.unread x23) L23) ∗ (arg24.view.loc (c : Thread nD τ) ↦[arg24.view.set]{fullShare} arg24.view.writes (Elt F) (harg24.unread x24) L24) ∗ (arg25.view.loc (c : Thread nD τ) ↦[arg25.view.set]{fullShare} arg25.view.writes (Elt F) (harg25.unread x25) L25)) -∗ K ⟨⟩))
          ⊢ wp frame (wpE (defs₀ (F := F)) Variants.none c none) E (cc0_forward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, ?_, ?_, ?_, ?_, ?_, ?_, ?_, ?_, fun E K => ?run⟩
  case run =>
    simp only [cc0_forward_eq_skeleton]; unfold cc0_forward_skel
    simp only [dif_neg hc1]
    simp only [dif_neg hc2]
    simp only [dif_neg hc3]
    simp only [dif_pos hc4]
    simp only [k0_part344_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part345_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part346_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton]
    unfold owns
    iintro ⟨⟨%f3, %hf3, H3⟩, ⟨%f16, %hf16, H16⟩, ⟨%f17, %hf17, H17⟩, ⟨%f6, %hf6, H6⟩, ⟨%f18, %hf18, H18⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, Hk⟩
    obtain rfl := harg3.eq_unread hf3
    obtain rfl := harg16.eq_unread hf16
    obtain rfl := harg17.eq_unread hf17
    obtain rfl := harg6.eq_unread hf6
    obtain rfl := harg18.eq_unread hf18
    obtain rfl := harg7.eq_unread hf7
    obtain rfl := harg8.eq_unread hf8
    obtain rfl := harg9.eq_unread hf9
    obtain rfl := harg10.eq_unread hf10
    obtain rfl := harg11.eq_unread hf11
    obtain rfl := harg12.eq_unread hf12
    obtain rfl := harg13.eq_unread hf13
    obtain rfl := harg14.eq_unread hf14
    obtain rfl := harg15.eq_unread hf15
    obtain rfl := harg19.eq_unread hf19
    obtain rfl := harg20.eq_unread hf20
    obtain rfl := harg21.eq_unread hf21
    obtain rfl := harg22.eq_unread hf22
    obtain rfl := harg23.eq_unread hf23
    obtain rfl := harg24.eq_unread hf24
    obtain rfl := harg25.eq_unread hf25
    sl_exec (disch := first | sl_exact hc1 | sl_exact hc2 | sl_exact hc3 | sl_exact hc4)
    sl_step
    iapply Hk
    isplitl [H3]
    · iexists _; isplitr; · ipureintro; exact harg3.read_unread _
      iexact H3
    isplitl [H16]
    · iexists _; isplitr; · ipureintro; exact harg16.read_unread _
      iexact H16
    isplitl [H17]
    · iexists _; isplitr; · ipureintro; exact harg17.read_unread _
      iexact H17
    isplitl [H6]; · iexact H6
    isplitl [H18]; · iexact H18
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H19]; · iexact H19
    isplitl [H20]; · iexact H20
    isplitl [H21]; · iexact H21
    isplitl [H22]; · iexact H22
    isplitl [H23]; · iexact H23
    isplitl [H24]; · iexact H24
    iexact H25

end Cert.FwdHand

end
-- ==== Proof.FwdFrame.lean ====
module

public import proofs.«01_k».proof.Proof.FwdRunA
public import proofs.«01_k».proof.Proof.FwdRunB
public import proofs.«01_k».proof.Proof.FwdRunC
public import proofs.«01_k».proof.Proof.FwdRunD
public import proofs.«01_k».proof.Proof.Gen.FwdIdeal.Points
public import proofs.«01_k».proof.Proof.Gen.FwdIdeal.Launch
public import Idealize.ShloMosaic.Lib.Pipeline.FrameBody
public import Idealize.ShloMosaic.Lib.Pipeline.ArrRel
public import Idealize.ShloMosaic.Lib.Tactic
public import Idealize.ShloMosaic.Lib.WordCmp

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branches, by the point -/

theorem coord_val (t : Fin cfg0.N) : (grid0.coords t 0).val = t.val := by
  have ht : t.val < 81 := Nat.lt_of_lt_of_eq t.isLt N_0
  have e0 : (grid0.coords t 0).val = t.val / 1 % 81 := Pipeline.Grid.coords_val t 0 (by decide) rfl
  omega
theorem cond1 (t : Fin cfg0.N) : k0_cond1 (grid0.coords t) = 1#1 ↔ t.val < 32 := by
  have ht : t.val < 81 := Nat.lt_of_lt_of_eq t.isLt N_0
  simp only [k0_cond1, coord_val]
  word_cmp
theorem cond2 (t : Fin cfg0.N) : k0_cond2 (grid0.coords t) = 1#1 ↔ t.val < 12 := by
  have ht : t.val < 81 := Nat.lt_of_lt_of_eq t.isLt N_0
  simp only [k0_cond2, coord_val]
  word_cmp
theorem cond3 (t : Fin cfg0.N) : k0_cond3 (grid0.coords t) = 1#1 ↔ t.val = 32 := by
  have ht : t.val < 81 := Nat.lt_of_lt_of_eq t.isLt N_0
  simp only [k0_cond3, coord_val]
  word_cmp
theorem cond4 (t : Fin cfg0.N) : k0_cond4 (grid0.coords t) = 1#1 ↔ 32 < t.val := by
  have ht : t.val < 81 := Nat.lt_of_lt_of_eq t.isLt N_0
  simp only [k0_cond4, coord_val]
  word_cmp

/-! ## The buffers of a point -/

abbrev ms0_0 (t : Fin cfg0.N) : Memref sig .tc .smem S768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x128x1536 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x3072 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4096 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x32x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x4096 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x4096 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x1536 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S12x24x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1536 .fp8e4m3 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x4x1536 .f32 := win0_14.stage (cfg0.slots t 14)
abbrev hs0_14 (t : Fin cfg0.N) : (ms0_14 t).IsWhole := hstage0_14 ((cfg0.slots t 14).cast nbuf0_14)
abbrev scM0_0 : Memref sig .tc .vmem S4096x3072 .bf16 := Memref.whole cc0_scratch0
abbrev scM0_1 : Memref sig .tc .vmem S1536x4096 .bf16 := Memref.whole cc0_scratch1
abbrev scM0_2 : Memref sig .tc .vmem S256x4096 .bf16 := Memref.whole cc0_scratch2
abbrev scM0_3 : Memref sig .tc .vmem S256x1536 .bf16 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S4x4096 .f32 := Memref.whole cc0_scratch6
abbrev scM0_7 : Memref sig .tc .vmem S4x4096 .f32 := Memref.whole cc0_scratch7
abbrev scM0_8 : Memref sig .tc .vmem S4x1536 .f32 := Memref.whole cc0_scratch8
abbrev scM0_9 : Memref sig .tc .vmem S4x1536 .f32 := Memref.whole cc0_scratch9

/-- What the pipeline hands over before its first point and takes back after its last: every scratch buffer at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d)) ∗ (∃ r, prngReg c r)) := by
  unfold Pipeline.ΦA; rw [scopedRest0_eq]; simp only [scM0_0, scM0_1, scM0_2, scM0_3, scM0_4, scM0_5, scM0_6, scM0_7, scM0_8, scM0_9, owns_whole]; try rfl

/-- What a buffer reads as after stores over what it held. -/
abbrev left {sp : Space} {s : Shape} {e : EltTy} (M : Memref sig .tc sp s e) (hM : M.IsWhole) (X : Vec F s e) (L : List (View.Piece (Elt F) s e)) : Vec F s e :=
  M.view.read (Elt F) (M.view.writes (Elt F) (hM.unread X) L)

variable (Inv : Dev nD → ℕ → Vec F S4096x3072 .bf16 → Vec F S1536x4096 .bf16 → Vec F S256x4096 .bf16 → Prop)
variable (yP : (c : Dev nD) → Fin cfg0.N → Vec F S256x4096 .bf16 → Prop)

/-- What the body carries from one point to the next. -/
def PHI (c : Dev nD) (n : ℕ) : sProp 𝕄 :=
  iprop(∃ (X16 : Vec F S4096x3072 .bf16) (X17 : Vec F S1536x4096 .bf16) (X18 : Vec F S256x4096 .bf16), ⌜Inv c n X16 X17 X18⌝
    ∗ owns (c : Thread nD τ) scM0_0 fullShare X16 ∗ owns (c : Thread nD τ) scM0_1 fullShare X17 ∗ owns (c : Thread nD τ) scM0_2 fullShare X18
    ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ r, prngReg c r))

/-- The run of case A at point `t`. -/
abbrev RA (c : Dev nD) (t : Fin cfg0.N) (hc1 : k0_cond1 (grid0.coords t) = 1#1) (hc2 : k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) :=
  runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 0 t) (iblk m c 1 t) (iblk m c 3 t) (iblk m c 4 t) X16 X17

/-- What case A's stores are to keep. -/
def StepA : Prop := ∀ (c : Dev nD) (t : Fin cfg0.N) (hc1 : k0_cond1 (grid0.coords t) = 1#1) (hc2 : k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) (X18 : Vec F S256x4096 .bf16),
  Inv c t.val X16 X17 X18 → Inv c (t.val + 1) (left (scM0_0) (Memref.isWhole_whole _) X16 (RA m c t hc1 hc2 hc3 hc4 X16 X17).1) (left (scM0_1) (Memref.isWhole_whole _) X17 (RA m c t hc1 hc2 hc3 hc4 X16 X17).2.1) X18

/-- The run of case B at point `t`. -/
abbrev RB (c : Dev nD) (t : Fin cfg0.N) (hc1 : k0_cond1 (grid0.coords t) = 1#1) (hc2 : ¬ k0_cond2 (grid0.coords t) = 1#1) (hc3 : ¬ k0_cond3 (grid0.coords t) = 1#1) (hc4 : ¬ k0_cond4 (grid0.coords t) = 1#1) (X16 : Vec F S4096x3072 .bf16) :=
  runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 0 t) (iblk m c 3 t) X16

/-- What case B's stores are to keep. -/
def StepB : Prop := ∀ (c : Dev nD) (t : Fin cfg0.N) (hc1 : k0_cond1 (grid0.coords t) = 1#1) (hc2 : ¬ k0_cond2 (grid0.coords t) = 1#1) (hc3 : ¬ k0_cond3 (grid0.coords t) = 1#1) (hc4 : ¬ k0_cond4 (grid0.coords t) = 1#1) (X16 : Vec F S4096x3072 .bf16) (X17 : Vec F S1536x4096 .bf16) (X18 : Vec F S256x4096 .bf16),
  Inv c t.val X16 X17 X18 → Inv c (t.val + 1) (left (scM0_0) (Memref.isWhole_whole _) X16 (RB m c t hc1 hc2 hc3 hc4 X16).1) X17 X18

/-- The run of case C at point `t`. -/
abbrev RC (c : Dev nD) (t : Fin cfg0.N) (hc1 : ¬ k0_cond1 (grid0.coords t) = 1#1) (hc2 : ¬ k0_cond2 (grid0.coords t) = 1#1) (hc3 : k0_cond3 (grid0.coords t) = 1#1) (hc4 : ¬ k0_cond4 (grid0.coords t) = 1#1) (X18 : Vec F S256x4096 .bf16) (Y7 : Vec F S256x4096 .fp8e4m3) (Y8 : Vec F S1x32x256 .f32) (Y9 : Vec F S256x4096 .fp8e4m3) (Y10 : Vec F S1x4x4096 .f32) (Y12 : Vec F S12x24x512 .f32) (d20 : Vec F S256x128 .f32) (d21 : Vec F S256x128 .f32) (d22 : Vec F S4x4096 .f32) (d23 : Vec F S4x4096 .f32) (d25 : Vec F S4x1536 .f32) :=
  runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 2 t) X18 Y7 Y8 Y9 Y10 Y12 d20 d21 d22 d23 d25

/-- What case C's stores are to keep. -/
def StepC : Prop := ∀ (c : Dev nD) (t : Fin cfg0.N) (hc1 : ¬ k0_cond1 (grid0.coords t) = 1#1) (hc2 : ¬ k0_cond2 (grid0.coords t) = 1#1) (hc3 : k0_cond3 (grid0.coords t) = 1#1) (hc4 : ¬ k0_cond4 (grid0.coords t) = 1#1) (X18 : Vec F S256x4096 .bf16) (Y7 : Vec F S256x4096 .fp8e4m3) (Y8 : Vec F S1x32x256 .f32) (Y9 : Vec F S256x4096 .fp8e4m3) (Y10 : Vec F S1x4x4096 .f32) (Y12 : Vec F S12x24x512 .f32) (d20 : Vec F S256x128 .f32) (d21 : Vec F S256x128 .f32) (d22 : Vec F S4x4096 .f32) (d23 : Vec F S4x4096 .f32) (d25 : Vec F S4x1536 .f32) (X16 : Vec F S4096x3072 .bf16) (X17 : Vec F S1536x4096 .bf16),
  Inv c t.val X16 X17 X18 → Inv c (t.val + 1) X16 X17 (left (scM0_2) (Memref.isWhole_whole _) X18 (RC m c t hc1 hc2 hc3 hc4 X18 Y7 Y8 Y9 Y10 Y12 d20 d21 d22 d23 d25).1)

/-- The run of case D at point `t`. -/
abbrev RD (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec F S4096x3072 .bf16) (X17 : Vec F S1536x4096 .bf16) (Y5 : Vec F S256x4096 .bf16) (X18 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) (d19 : Vec F S256x1536 .bf16) (d20 : Vec F S256x128 .f32) (d21 : Vec F S256x128 .f32) (d22 : Vec F S4x4096 .f32) (d23 : Vec F S4x4096 .f32) (d24 : Vec F S4x1536 .f32) (d25 : Vec F S4x1536 .f32) :=
  runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (scM0_0) (Memref.isWhole_whole _) (scM0_1) (Memref.isWhole_whole _) (scM0_2) (Memref.isWhole_whole _) (scM0_3) (Memref.isWhole_whole _) (scM0_4) (Memref.isWhole_whole _) (scM0_5) (Memref.isWhole_whole _) (scM0_6) (Memref.isWhole_whole _) (scM0_7) (Memref.isWhole_whole _) (scM0_8) (Memref.isWhole_whole _) (scM0_9) (Memref.isWhole_whole _) hc1 hc2 hc3 hc4 (iblk m c 2 t) X16 X17 Y5 X18 Y6 Y7 Y8 Y9 Y10 Y11 Y12 Y13 Y14 d19 d20 d21 d22 d23 d24 d25

/-- What case D's stores are to keep. -/
def StepD : Prop := ∀ (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec F S4096x3072 .bf16) (X17 : Vec F S1536x4096 .bf16) (Y5 : Vec F S256x4096 .bf16) (X18 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) (d19 : Vec F S256x1536 .bf16) (d20 : Vec F S256x128 .f32) (d21 : Vec F S256x128 .f32) (d22 : Vec F S4x4096 .f32) (d23 : Vec F S4x4096 .f32) (d24 : Vec F S4x1536 .f32) (d25 : Vec F S4x1536 .f32),
  Inv c t.val X16 X17 X18 → Inv c (t.val + 1) X16 X17 (left (scM0_2) (Memref.isWhole_whole _) X18 (RD m c t hc1 hc2 hc3 hc4 X16 X17 Y5 X18 Y6 Y7 Y8 Y9 Y10 Y11 Y12 Y13 Y14 d19 d20 d21 d22 d23 d24 d25).2.1) ∧ yP c t (left (ms0_5 t) (hs0_5 t) Y5 (RD m c t hc1 hc2 hc3 hc4 X16 X17 Y5 X18 Y6 Y7 Y8 Y9 Y10 Y11 Y12 Y13 Y14 d19 d20 d21 d22 d23 d24 d25).1)

set_option maxHeartbeats 4000000 in
theorem sound_A (hstep : StepA m Inv) (c : Dev nD) (t : Fin cfg0.N) (h : t.val < 12) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : k0_cond1 (grid0.coords t) = 1#1 := by rw [cond1]; omega
  have hc2 : k0_cond2 (grid0.coords t) = 1#1 := by rw [cond2]; omega
  have hc3 : ¬ k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RA m c t hc1 hc2 hc3 hc4 X16 X17).2.2 Set.univ _)
  isplitl [H1]; · iexact H1
  isplitl [H2]; · iexact H2
  isplitl [H4]; · iexact H4
  isplitl [H5]; · iexact H5
  isplitl [S16]; · iexact S16
  isplitl [S17]; · iexact S17
  iintro ⟨H1, H2, H4, H5, S16, S17⟩
  isplitl [S16 S17 S18 S19 S20 S21 S22 S23 S24 S25 Hg]
  · iexists _, _, _
    isplitr; · ipureintro; exact (hstep c t hc1 hc2 hc3 hc4 X16 X17 X18 hI)
    isplitl [S16]
    · skip
      unfold owns; iexists _; isplitr
      swap; · iexact S16
      ipureintro; rfl
    isplitl [S17]
    · skip
      unfold owns; iexists _; isplitr
      swap; · iexact S17
      ipureintro; rfl
    isplitl [S18]
    · skip
      iexact S18
    isplitl [S19]
    · iexists _
      iexact S19
    isplitl [S20]
    · iexists _
      iexact S20
    isplitl [S21]
    · iexists _
      iexact S21
    isplitl [S22]
    · iexists _
      iexact S22
    isplitl [S23]
    · iexists _
      iexact S23
    isplitl [S24]
    · iexists _
      iexact S24
    isplitl [S25]
    · iexists _
      iexact S25
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    iexact H8
  isplitl [H9]
  · skip
    iexists _
    iexact H9
  isplitl [H10]
  · skip
    iexists _
    iexact H10
  isplitl [H11]
  · skip
    iexists _
    iexact H11
  isplitl [H12]
  · skip
    iexists _
    iexact H12
  isplitl [H13]
  · skip
    iexists _
    iexact H13
  isplitl [H14]
  · skip
    iexists _
    iexact H14
  iexists _
  iexact H15

set_option maxHeartbeats 4000000 in
theorem sound_B (hstep : StepB m Inv) (c : Dev nD) (t : Fin cfg0.N) (h : ¬ t.val < 12 ∧ t.val < 32) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : k0_cond1 (grid0.coords t) = 1#1 := by rw [cond1]; omega
  have hc2 : ¬ k0_cond2 (grid0.coords t) = 1#1 := by rw [cond2]; omega
  have hc3 : ¬ k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RB m c t hc1 hc2 hc3 hc4 X16).2 Set.univ _)
  isplitl [H1]; · iexact H1
  isplitl [H4]; · iexact H4
  isplitl [S16]; · iexact S16
  iintro ⟨H1, H4, S16⟩
  isplitl [S16 S17 S18 S19 S20 S21 S22 S23 S24 S25 Hg]
  · iexists _, _, _
    isplitr; · ipureintro; exact (hstep c t hc1 hc2 hc3 hc4 X16 X17 X18 hI)
    isplitl [S16]
    · skip
      unfold owns; iexists _; isplitr
      swap; · iexact S16
      ipureintro; rfl
    isplitl [S17]
    · skip
      iexact S17
    isplitl [S18]
    · skip
      iexact S18
    isplitl [S19]
    · iexists _
      iexact S19
    isplitl [S20]
    · iexists _
      iexact S20
    isplitl [S21]
    · iexists _
      iexact S21
    isplitl [S22]
    · iexists _
      iexact S22
    isplitl [S23]
    · iexists _
      iexact S23
    isplitl [S24]
    · iexists _
      iexact S24
    isplitl [S25]
    · iexists _
      iexact S25
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    iexact H8
  isplitl [H9]
  · skip
    iexists _
    iexact H9
  isplitl [H10]
  · skip
    iexists _
    iexact H10
  isplitl [H11]
  · skip
    iexists _
    iexact H11
  isplitl [H12]
  · skip
    iexists _
    iexact H12
  isplitl [H13]
  · skip
    iexists _
    iexact H13
  isplitl [H14]
  · skip
    iexists _
    iexact H14
  iexists _
  iexact H15

set_option maxHeartbeats 4000000 in
theorem sound_C (hstep : StepC m Inv) (c : Dev nD) (t : Fin cfg0.N) (h : t.val = 32) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : ¬ k0_cond1 (grid0.coords t) = 1#1 := by rw [cond1]; omega
  have hc2 : ¬ k0_cond2 (grid0.coords t) = 1#1 := by rw [cond2]; omega
  have hc3 : k0_cond3 (grid0.coords t) = 1#1 := by rw [cond3]; omega
  have hc4 : ¬ k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RC m c t hc1 hc2 hc3 hc4 X18 Y7 Y8 Y9 Y10 Y12 d20 d21 d22 d23 d25).2.2.2.2.2.2.2.2.2.2.2 Set.univ _)
  isplitl [H3]; · iexact H3
  isplitl [S18]; · iexact S18
  isplitl [H8]; · iexact H8
  isplitl [H9]; · iexact H9
  isplitl [H10]; · iexact H10
  isplitl [H11]; · iexact H11
  isplitl [H13]; · iexact H13
  isplitl [S20]; · iexact S20
  isplitl [S21]; · iexact S21
  isplitl [S22]; · iexact S22
  isplitl [S23]; · iexact S23
  isplitl [S25]; · iexact S25
  iintro ⟨H3, S18, H8, H9, H10, H11, H13, S20, S21, S22, S23, S25⟩
  isplitl [S16 S17 S18 S19 S20 S21 S22 S23 S24 S25 Hg]
  · iexists _, _, _
    isplitr; · ipureintro; exact (hstep c t hc1 hc2 hc3 hc4 X18 Y7 Y8 Y9 Y10 Y12 d20 d21 d22 d23 d25 X16 X17 hI)
    isplitl [S16]
    · skip
      iexact S16
    isplitl [S17]
    · skip
      iexact S17
    isplitl [S18]
    · skip
      unfold owns; iexists _; isplitr
      swap; · iexact S18
      ipureintro; rfl
    isplitl [S19]
    · iexists _
      iexact S19
    isplitl [S20]
    · iexists _
      unfold owns; iexists _; isplitr
      swap; · iexact S20
      ipureintro; rfl
    isplitl [S21]
    · iexists _
      unfold owns; iexists _; isplitr
      swap; · iexact S21
      ipureintro; rfl
    isplitl [S22]
    · iexists _
      unfold owns; iexists _; isplitr
      swap; · iexact S22
      ipureintro; rfl
    isplitl [S23]
    · iexists _
      unfold owns; iexists _; isplitr
      swap; · iexact S23
      ipureintro; rfl
    isplitl [S24]
    · iexists _
      iexact S24
    isplitl [S25]
    · iexists _
      unfold owns; iexists _; isplitr
      swap; · iexact S25
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists Y5
    isplitr; · ipureintro; intro hy; exact absurd hy (by omega)
    iexact H6
  isplitl [H7]
  · skip
    iexists _
    iexact H7
  isplitl [H8]
  · skip
    iexists _
    unfold owns; iexists _; isplitr
    swap; · iexact H8
    ipureintro; rfl
  isplitl [H9]
  · skip
    iexists _
    unfold owns; iexists _; isplitr
    swap; · iexact H9
    ipureintro; rfl
  isplitl [H10]
  · skip
    iexists _
    unfold owns; iexists _; isplitr
    swap; · iexact H10
    ipureintro; rfl
  isplitl [H11]
  · skip
    iexists _
    unfold owns; iexists _; isplitr
    swap; · iexact H11
    ipureintro; rfl
  isplitl [H12]
  · skip
    iexists _
    iexact H12
  isplitl [H13]
  · skip
    iexists _
    unfold owns; iexists _; isplitr
    swap; · iexact H13
    ipureintro; rfl
  isplitl [H14]
  · skip
    iexists _
    iexact H14
  iexists _
  iexact H15

set_option maxHeartbeats 4000000 in
theorem sound_D (hstep : StepD m Inv yP) (c : Dev nD) (t : Fin cfg0.N) (h : 32 < t.val) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  have hc1 : ¬ k0_cond1 (grid0.coords t) = 1#1 := by rw [cond1]; omega
  have hc2 : ¬ k0_cond2 (grid0.coords t) = 1#1 := by rw [cond2]; omega
  have hc3 : ¬ k0_cond3 (grid0.coords t) = 1#1 := by rw [cond3]; omega
  have hc4 : k0_cond4 (grid0.coords t) = 1#1 := by rw [cond4]; omega
  unfold PHI bodyAt0
  iintro ⟨⟨%X16, %X17, %X18, %hI, S16, S17, S18, ⟨%d19, S19⟩, ⟨%d20, S20⟩, ⟨%d21, S21⟩, ⟨%d22, S22⟩, ⟨%d23, S23⟩, ⟨%d24, S24⟩, ⟨%d25, S25⟩, Hg⟩, Ho, H1, H2, H3, H4, H5, H6, H7, H8, H9, H10, H11, H12, H13, H14, H15⟩
  iapply ((RD m c t hc1 hc2 hc3 hc4 X16 X17 Y5 X18 Y6 Y7 Y8 Y9 Y10 Y11 Y12 Y13 Y14 d19 d20 d21 d22 d23 d24 d25).2.2.2.2.2.2.2.2.2.2.2.2.2.2.2.2.2.2 Set.univ _)
  isplitl [H3]; · iexact H3
  isplitl [S16]; · iexact S16
  isplitl [S17]; · iexact S17
  isplitl [H6]; · iexact H6
  isplitl [S18]; · iexact S18
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [S19]; · iexact S19
  isplitl [S20]; · iexact S20
  isplitl [S21]; · iexact S21
  isplitl [S22]; · iexact S22
  isplitl [S23]; · iexact S23
  isplitl [S24]; · iexact S24
  isplitl [S25]; · iexact S25
  iintro ⟨H3, S16, S17, H6, S18, H7, H8, H9, H10, H11, H12, H13, H14, H15, S19, S20, S21, S22, S23, S24, S25⟩
  isplitl [S16 S17 S18 S19 S20 S21 S22 S23 S24 S25 Hg]
  · iexists _, _, _
    isplitr; · ipureintro; exact (hstep c t hc1 hc2 hc3 hc4 X16 X17 Y5 X18 Y6 Y7 Y8 Y9 Y10 Y11 Y12 Y13 Y14 d19 d20 d21 d22 d23 d24 d25 hI).1
    isplitl [S16]
    · skip
      iexact S16
    isplitl [S17]
    · skip
      iexact S17
    isplitl [S18]
    · skip
      unfold owns; iexists _; isplitr
      swap; · iexact S18
      ipureintro; rfl
    isplitl [S19]
    · iexists _
      unfold owns; iexists _; isplitr
      swap; · iexact S19
      ipureintro; rfl
    isplitl [S20]
    · iexists _
      unfold owns; iexists _; isplitr
      swap; · iexact S20
      ipureintro; rfl
    isplitl [S21]
    · iexists _
      unfold owns; iexists _; isplitr
      swap; · iexact S21
      ipureintro; rfl
    isplitl [S22]
    · iexists _
      unfold owns; iexists _; isplitr
      swap; · iexact S22
      ipureintro; rfl
    isplitl [S23]
    · iexists _
      unfold owns; iexists _; isplitr
      swap; · iexact S23
      ipureintro; rfl
    isplitl [S24]
    · iexists _
      unfold owns; iexists _; isplitr
      swap; · iexact S24
      ipureintro; rfl
    isplitl [S25]
    · iexists _
      unfold owns; iexists _; isplitr
      swap; · iexact S25
      ipureintro; rfl
    iexact Hg
  isplitl [Ho]; · iexact Ho
  isplitl [H1]; · iexact H1
  isplitl [H2]; · iexact H2
  isplitl [H3]; · iexact H3
  isplitl [H4]; · iexact H4
  isplitl [H5]; · iexact H5
  isplitl [H6]
  · skip
    iexists (left (ms0_5 t) (hs0_5 t) Y5 (RD m c t hc1 hc2 hc3 hc4 X16 X17 Y5 X18 Y6 Y7 Y8 Y9 Y10 Y11 Y12 Y13 Y14 d19 d20 d21 d22 d23 d24 d25).1)
    isplitr; · ipureintro; intro hy; exact (hstep c t hc1 hc2 hc3 hc4 X16 X17 Y5 X18 Y6 Y7 Y8 Y9 Y10 Y11 Y12 Y13 Y14 d19 d20 d21 d22 d23 d24 d25 hI).2
    unfold owns; iexists _; isplitr
    swap; · iexact H6
    ipureintro; rfl
  isplitl [H7]
  · skip
    iexists _
    unfold owns; iexists _; isplitr
    swap; · iexact H7
    ipureintro; rfl
  isplitl [H8]
  · skip
    iexists _
    unfold owns; iexists _; isplitr
    swap; · iexact H8
    ipureintro; rfl
  isplitl [H9]
  · skip
    iexists _
    unfold owns; iexists _; isplitr
    swap; · iexact H9
    ipureintro; rfl
  isplitl [H10]
  · skip
    iexists _
    unfold owns; iexists _; isplitr
    swap; · iexact H10
    ipureintro; rfl
  isplitl [H11]
  · skip
    iexists _
    unfold owns; iexists _; isplitr
    swap; · iexact H11
    ipureintro; rfl
  isplitl [H12]
  · skip
    iexists _
    unfold owns; iexists _; isplitr
    swap; · iexact H12
    ipureintro; rfl
  isplitl [H13]
  · skip
    iexists _
    unfold owns; iexists _; isplitr
    swap; · iexact H13
    ipureintro; rfl
  isplitl [H14]
  · skip
    iexists _
    unfold owns; iexists _; isplitr
    swap; · iexact H14
    ipureintro; rfl
  iexists _
  unfold owns; iexists _; isplitr
  swap; · iexact H15
  ipureintro; rfl

/-! ## The proof data -/

/-- What the pipeline leaves at each point: an input's buffer as it was, the first result's as `yP` says, the others' unconstrained. -/
def rdat (c : Dev nD) : RDat τ (Elt F) Unit ℕ (UR sig nD τ) ℕ cfg0 c where
  A w := V m c (Pipeline.arrRef spec0 w)
  after := fun
  | 0 => fun t Y X => X = Y
  | 1 => fun t Y X => X = Y
  | 2 => fun t Y X => X = Y
  | 3 => fun t Y X => X = Y
  | 4 => fun t Y X => X = Y
  | 5 => fun t Y X => 32 < t.val → yP c t X
  | 6 => fun t Y X => True
  | 7 => fun t Y X => True
  | 8 => fun t Y X => True
  | 9 => fun t Y X => True
  | 10 => fun t Y X => True
  | 11 => fun t Y X => True
  | 12 => fun t Y X => True
  | 13 => fun t Y X => True
  | 14 => fun t Y X => True
  Φ t := PHI Inv c t.val
  q _ := fullShare
  owed _ := 0

theorem rA_eq (c : Dev nD) (w : Fin cfg0.W) : (rdat m Inv yP c).A w = V m c (Pipeline.arrRef spec0 w) := rfl

theorem finds0_0 (c : Dev nD) (t : Fin cfg0.N) (Y) (hY : (rdat m Inv yP c).Finds 0 t Y) : Y = iblk m c 0 t := by
  obtain ⟨d, rfl⟩ := (rdat m Inv yP c).finds_in_eq_fetched 0 rfl (fun _ _ _ => rfl) (fun t Y X h => h) t Y hY
  unfold RDat.fetched RDat.blockOf iblk; rw [rA_eq]; try rfl

theorem finds0_1 (c : Dev nD) (t : Fin cfg0.N) (Y) (hY : (rdat m Inv yP c).Finds 1 t Y) : Y = iblk m c 1 t := by
  obtain ⟨d, rfl⟩ := (rdat m Inv yP c).finds_in_eq_fetched 1 rfl (fun _ _ _ => rfl) (fun t Y X h => h) t Y hY
  unfold RDat.fetched RDat.blockOf iblk; rw [rA_eq]; try rfl

theorem finds0_2 (c : Dev nD) (t : Fin cfg0.N) (Y) (hY : (rdat m Inv yP c).Finds 2 t Y) : Y = iblk m c 2 t := by
  obtain ⟨d, rfl⟩ := (rdat m Inv yP c).finds_in_eq_fetched 2 rfl (fun _ _ _ => rfl) (fun t Y X h => h) t Y hY
  unfold RDat.fetched RDat.blockOf iblk; rw [rA_eq]; try rfl

theorem finds0_3 (c : Dev nD) (t : Fin cfg0.N) (Y) (hY : (rdat m Inv yP c).Finds 3 t Y) : Y = iblk m c 3 t := by
  obtain ⟨d, rfl⟩ := (rdat m Inv yP c).finds_in_eq_fetched 3 rfl (fun _ _ _ => rfl) (fun t Y X h => h) t Y hY
  unfold RDat.fetched RDat.blockOf iblk; rw [rA_eq]; try rfl

theorem finds0_4 (c : Dev nD) (t : Fin cfg0.N) (Y) (hY : (rdat m Inv yP c).Finds 4 t Y) : Y = iblk m c 4 t := by
  obtain ⟨d, rfl⟩ := (rdat m Inv yP c).finds_in_eq_fetched 4 rfl (fun _ _ _ => rfl) (fun t Y X h => h) t Y hY
  unfold RDat.fetched RDat.blockOf iblk; rw [rA_eq]; try rfl

theorem defs₀_row (t : Fin cfg0.N) :
    defs₀ (F := F) .tc cfg0.body (cfg0.bodyArgs t (cfg0.slots t)) = bodyAt0 t := by
  unfold defs₀; rw [Defs.onTc_tc]

/-- The body at any point. -/
theorem sound_body (hA : StepA m Inv) (hB : StepB m Inv) (hC : StepC m Inv) (hD : StepD m Inv yP) (c : Dev nD) (t : Fin cfg0.N) (O : sProp 𝕄) (Y5 : Vec F S256x4096 .bf16) (Y6 : Vec F S256x3072 .f32) (Y7 : Vec F S256x4096 .fp8e4m3) (Y8 : Vec F S1x32x256 .f32) (Y9 : Vec F S256x4096 .fp8e4m3) (Y10 : Vec F S1x4x4096 .f32) (Y11 : Vec F S256x1536 .fp8e4m3) (Y12 : Vec F S12x24x512 .f32) (Y13 : Vec F S256x1536 .fp8e4m3) (Y14 : Vec F S1x4x1536 .f32) :
    iprop(PHI Inv c t.val ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare Y5 ∗ owns (c : Thread nD τ) (ms0_6 t) fullShare Y6 ∗ owns (c : Thread nD τ) (ms0_7 t) fullShare Y7 ∗ owns (c : Thread nD τ) (ms0_8 t) fullShare Y8 ∗ owns (c : Thread nD τ) (ms0_9 t) fullShare Y9 ∗ owns (c : Thread nD τ) (ms0_10 t) fullShare Y10 ∗ owns (c : Thread nD τ) (ms0_11 t) fullShare Y11 ∗ owns (c : Thread nD τ) (ms0_12 t) fullShare Y12 ∗ owns (c : Thread nD τ) (ms0_13 t) fullShare Y13 ∗ owns (c : Thread nD τ) (ms0_14 t) fullShare Y14)
      ⊢ wp frame (wpE (defs₀ (F := F)) Variants.none c none) Set.univ (bodyAt0 t) (fun _ => iprop(PHI Inv c (t.val + 1) ∗ O ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ X, ⌜32 < t.val → yP c t X⌝ ∗ owns (c : Thread nD τ) (ms0_5 t) fullShare X) ∗ (∃ X, owns (c : Thread nD τ) (ms0_6 t) fullShare X) ∗ (∃ X, owns (c : Thread nD τ) (ms0_7 t) fullShare X) ∗ (∃ X, owns (c : Thread nD τ) (ms0_8 t) fullShare X) ∗ (∃ X, owns (c : Thread nD τ) (ms0_9 t) fullShare X) ∗ (∃ X, owns (c : Thread nD τ) (ms0_10 t) fullShare X) ∗ (∃ X, owns (c : Thread nD τ) (ms0_11 t) fullShare X) ∗ (∃ X, owns (c : Thread nD τ) (ms0_12 t) fullShare X) ∗ (∃ X, owns (c : Thread nD τ) (ms0_13 t) fullShare X) ∗ (∃ X, owns (c : Thread nD τ) (ms0_14 t) fullShare X))) := by
  by_cases h1 : t.val < 12
  · exact sound_A m Inv yP hA c t h1 O Y5 Y6 Y7 Y8 Y9 Y10 Y11 Y12 Y13 Y14
  by_cases h2 : t.val < 32
  · exact sound_B m Inv yP hB c t ⟨h1, h2⟩ O Y5 Y6 Y7 Y8 Y9 Y10 Y11 Y12 Y13 Y14
  by_cases h3 : t.val = 32
  · exact sound_C m Inv yP hC c t h3 O Y5 Y6 Y7 Y8 Y9 Y10 Y11 Y12 Y13 Y14
  exact sound_D m Inv yP hD c t (by omega) O Y5 Y6 Y7 Y8 Y9 Y10 Y11 Y12 Y13 Y14

set_option maxHeartbeats 4000000 in
theorem body_obligation (hA : StepA m Inv) (hB : StepB m Inv) (hC : StepC m Inv) (hD : StepD m Inv yP) (c : Dev nD) :
    (rdat m Inv yP c).BodyObligation (defs₀ (F := F)) Variants.none () Set.univ := fun t Y hY => by
  rw [bigSep_W0, bigSep_W0, defs₀_row]
  have e0 := finds0_0 m Inv yP c t (Y 0) (hY 0)
  have e1 := finds0_1 m Inv yP c t (Y 1) (hY 1)
  have e2 := finds0_2 m Inv yP c t (Y 2) (hY 2)
  have e3 := finds0_3 m Inv yP c t (Y 3) (hY 3)
  have e4 := finds0_4 m Inv yP c t (Y 4) (hY 4)
  refine triple_restated (sound_body m Inv yP hA hB hC hD c t ((rdat m Inv yP c).owesAt () t.castSucc) (Y 5) (Y 6) (Y 7) (Y 8) (Y 9) (Y 10) (Y 11) (Y 12) (Y 13) (Y 14)) rfl ?_ fun _ => ?_
  · rw [e0, e1, e2, e3, e4]
    exact .rfl
  · iintro ⟨HP, Ho, H0, H1, H2, H3, H4, ⟨%X5, %h5, H5⟩, ⟨%X6, H6⟩, ⟨%X7, H7⟩, ⟨%X8, H8⟩, ⟨%X9, H9⟩, ⟨%X10, H10⟩, ⟨%X11, H11⟩, ⟨%X12, H12⟩, ⟨%X13, H13⟩, ⟨%X14, H14⟩⟩
    have hp : (rdat m Inv yP c).Φ t.succ = PHI Inv c (t.val + 1) := by
      show PHI Inv c t.succ.val = _
      rw [Fin.val_succ]
    have ho : (rdat m Inv yP c).owesAt () t.succ = (rdat m Inv yP c).owesAt () t.castSucc := rfl
    rw [hp, ho]
    isplitl [HP]; · iexact HP
    isplitl [Ho]; · iexact Ho
    isplitl [H0]; · iexists (iblk m c 0 t); isplitr; · ipureintro; exact e0.symm
                    iexact H0
    isplitl [H1]; · iexists (iblk m c 1 t); isplitr; · ipureintro; exact e1.symm
                    iexact H1
    isplitl [H2]; · iexists (iblk m c 2 t); isplitr; · ipureintro; exact e2.symm
                    iexact H2
    isplitl [H3]; · iexists (iblk m c 3 t); isplitr; · ipureintro; exact e3.symm
                    iexact H3
    isplitl [H4]; · iexists (iblk m c 4 t); isplitr; · ipureintro; exact e4.symm
                    iexact H4
    isplitl [H5]; · iexists X5; isplitr; · ipureintro; exact h5
                    iexact H5
    isplitl [H6]; · iexists X6; isplitr; · ipureintro; trivial
                    iexact H6
    isplitl [H7]; · iexists X7; isplitr; · ipureintro; trivial
                    iexact H7
    isplitl [H8]; · iexists X8; isplitr; · ipureintro; trivial
                    iexact H8
    isplitl [H9]; · iexists X9; isplitr; · ipureintro; trivial
                    iexact H9
    isplitl [H10]; · iexists X10; isplitr; · ipureintro; trivial
                     iexact H10
    isplitl [H11]; · iexists X11; isplitr; · ipureintro; trivial
                     iexact H11
    isplitl [H12]; · iexists X12; isplitr; · ipureintro; trivial
                     iexact H12
    isplitl [H13]; · iexists X13; isplitr; · ipureintro; trivial
                     iexact H13
    iexists X14; isplitr; · ipureintro; trivial
    iexact H14

set_option backward.isDefEq.respectTransparency.types false in
/-- The launch: every final state has the arrays as the proof data allow, and every counter at zero. -/
theorem run_main_quiescent (hI : ∀ c X16 X17 X18, Inv c 0 X16 X17 X18) (hA : StepA m Inv) (hB : StepB m Inv) (hC : StepC m Inv) (hD : StepD m Inv yP) :
    θ_run defs (onTc (τ := τ) (main (F := F))) (s₀ m ρ) (fun r => (RDat.FramePost cfg0 (rdat m Inv yP) (V m)) r ∧ r.2.sem = fun _ => 0) :=
  Pipeline.RDat.θ_run_frame_track (Q' := _) cfgs (0 : Fin 1) launch0 defs₀ Variants.none (rdat m Inv yP) m ρ main
    (hbody := fun c => body_obligation m Inv yP hA hB hC hD c) (hshare := fun c => (rdat m Inv yP c).share_full fun _ => rfl)
    (howed := fun _ _ => rfl) (V := V m) (hmain := hmain m Variants.none) (hA := rA_eq m Inv yP)
    (hin := fun c => by
      show _ ⊢ PHI Inv c 0
      rw [PhiA0_eq]; unfold PHI
      iintro ⟨⟨⟨%d0, H0⟩, ⟨%d1, H1⟩, ⟨%d2, H2⟩, H3, H4, H5, H6, H7, H8, H9⟩, Hg⟩
      iexists d0, d1, d2
      isplitr; · ipureintro; exact hI c d0 d1 d2
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact Hg)
    (hout := fun c => by
      show PHI Inv c 81 ⊢ _
      rw [PhiA0_eq]; unfold PHI
      iintro ⟨%d0, %d1, %d2, %hI, H0, H1, H2, H3, H4, H5, H6, H7, H8, H9, Hg⟩
      isplitl [H0 H1 H2 H3 H4 H5 H6 H7 H8 H9]
      · isplitl [H0]; · iexists _; iexact H0
        isplitl [H1]; · iexists _; iexact H1
        isplitl [H2]; · iexists _; iexact H2
        isplitl [H3]; · iexact H3
        isplitl [H4]; · iexact H4
        isplitl [H5]; · iexact H5
        isplitl [H6]; · iexact H6
        isplitl [H7]; · iexact H7
        isplitl [H8]; · iexact H8
        iexact H9
      iexact Hg)

end Cert.FwdHand

end
-- ==== Proof.FwdUnit.lean ====
module

public import proofs.«01_k».proof.Proof.Gen.FwdIdeal.Skeleton
public import Idealize.ShloMosaic.Lib.Pipeline.ValueKit
public import Idealize.ShloMosaic.Lib.Pipeline.ReadBack

@[expose] public section
set_option maxRecDepth 16384
set_option maxHeartbeats 1000000
noncomputable section
namespace Cert.FwdHand
open Cert.FwdIdeal Cert.FwdIdeal.Gen Idealize.ShloMosaic Idealize.ShloMosaic.TcCoe Idealize.SL.Sem

/-- The largest magnitude of 128 numbers. -/
def AMAX (f : Fin 128 → EReal) : EReal :=
  Finset.fold max (Ideal.ofBits FTy.f32 4286578688#32) (fun k => FloatOps.absf (F := Ideal) (φ := .f32) (f k)) Finset.univ

/-- The exponent of the scale of a block whose largest magnitude is `a`. -/
def EXPO (a : EReal) : EReal :=
  if a = 0 then 0
  else Ideal.liftRound Int.floor (Ideal.div (Ideal.log (a * Ideal.ofBits FTy.f32 991054117#32)) (Ideal.log (Ideal.ofBits FTy.f32 1073741824#32))) + 1

/-- A number of a block whose largest magnitude is `a`: scaled, clipped, scaled back. -/
def HAT (a x : EReal) : EReal :=
  min (Ideal.ofBits FTy.f32 1138753536#32) (max (Ideal.ofBits FTy.f32 3286237184#32) (x * FloatOps.exp2 (F := Ideal) (φ := .f32) (0 - EXPO a)))
    * FloatOps.exp2 (F := Ideal) (φ := .f32) (EXPO a)

theorem mulc (a : EReal) : a * Ideal.ofBits FTy.f32 991054117#32 = 0 ↔ a = 0 := by
  have h : Ideal.ofBits FTy.f32 991054117#32 ≠ 0 := by
    show Ideal.ieee 8 23 991054117#32 ≠ 0
    have e1 : ((991054117#32).extractLsb' 23 8).toNat = 118 := by decide
    have e2 : ((991054117#32).extractLsb' 0 23).toNat = 1198373 := by decide
    have e3 : ((991054117#32).extractLsb' 31 1 == 1#1) = false := by decide
    unfold Ideal.ieee
    simp only [e1, e2, e3]
    norm_num
  constructor
  · intro e
    rcases mul_eq_zero.mp e with h' | h'
    · exact h'
    · exact absurd h' h
  · rintro rfl
    exact zero_mul _

theorem red_apply (v : Vec Ideal S128x128 .bf16) (x : S128x1.Idx) :
    k0_pay79 (F := Ideal) v x = HMul.hMul (α := EReal) (β := EReal) (AMAX fun k => v (ix2 (x 0) k)) (Ideal.ofBits FTy.f32 991054117#32) := by
  unfold k0_pay79 AMAX
  pointwise
  rfl

/-- The rows of a block quantized and scaled back. -/
def ROWHAT (v : Vec Ideal S128x128 .bf16) : FVec Ideal S128x128 .bf16 :=
  k0_pay87 (F := Ideal) v (k0_pay80 v) (k0_pay81 v) (Scalar.ofBits .f32 0x3F800000#32)

theorem row_apply (v : Vec Ideal S128x128 .bf16) (x : S128x128.Idx) :
    ROWHAT v x = HAT (AMAX fun k => v (ix2 (x 0) k)) (v x) := by
  unfold ROWHAT k0_pay87 k0_pay85 k0_pay84 k0_pay83 k0_pay82 k0_pay81 k0_pay80 HAT EXPO
  pointwise
  rw [red_apply]
  simp only [mulc]
  rfl

/-- The gated product of two numbers. -/
def GATE (a b : EReal) : EReal := a * Ideal.logistic a * b

/-- The rows of a block of gated products quantized and scaled back. -/
def HROWHAT (a b : Vec Ideal S128x128 .f32) : FVec Ideal S128x128 .bf16 :=
  k0_pay968 (F := Ideal) (k0_pay961 a b) (k0_pay962 a b) (k0_pay963 a b) k0_pay964

theorem hrow_apply (a b : Vec Ideal S128x128 .f32) (x : S128x128.Idx) :
    HROWHAT a b x = HAT (AMAX fun k => GATE (a (ix2 (x 0) k)) (b (ix2 (x 0) k))) (GATE (a x) (b x)) := by
  unfold HROWHAT k0_pay968 k0_pay966 k0_pay965 k0_pay964 k0_pay963 k0_pay962 k0_pay961 HAT EXPO AMAX GATE
  pointwise
  simp only [mulc]

theorem w_apply (v25 : Elt Ideal .f32) (v26 : Vec Ideal S1x128x128 .fp8e4m3) (x : S128x128.Idx) :
    k0_pay9 (F := Ideal) v25 v26 x = HMul.hMul (α := EReal) (β := EReal) (v26 (ix3 0 (x 0) (x 1))) v25 := by
  unfold k0_pay9
  pointwise

theorem g_apply (a : Vec Ideal S256x4096 .bf16) (b : Vec Ideal S4096x512 .bf16) (x : S256x512.Idx) :
    k0_pay959 (F := Ideal) a b x = ∑ k : Fin 4096, HMul.hMul (α := EReal) (β := EReal) (a (ix2 (x 0) k)) (b (ix2 k (x 1))) := by
  unfold k0_pay959
  pointwise

theorem y_apply (a : Vec Ideal S256x1536 .bf16) (b : Vec Ideal S1536x512 .bf16) (x : S256x512.Idx) :
    k0_pay1315 (F := Ideal) a b x = ∑ k : Fin 1536, HMul.hMul (α := EReal) (β := EReal) (a (ix2 (x 0) k)) (b (ix2 k (x 1))) := by
  unfold k0_pay1315
  pointwise
end Cert.FwdHand
end
-- ==== Proof.FwdWeights.lean ====
module

public import proofs.«01_k».proof.Proof.FwdFrame
public import proofs.«01_k».proof.Proof.FwdUnit
public import Idealize.ShloMosaic.Lib.WritesUnit

@[expose] public section

set_option maxRecDepth 16384

noncomputable section

namespace Cert.FwdHand

open Cert.FwdIdeal Cert.FwdIdeal.Gen
open Idealize.ShloMosaic Idealize.ShloMosaic.TcCoe Idealize.ShloMosaic.Tactic
open Idealize.ShloMosaic.Pipeline (Dat RDat Cfg Window cellOf)

variable (m : (ℓ : Loc nD τ sig) → Buf (Elt Ideal) ℓ)

/-! ## Where the blocks of a point's weights lie -/

theorem off2 (t : Fin cfg0.N) : k0_off2 (grid0.coords t) = ![128 * t.val, 0] := by
  have ht : t.val < 81 := Nat.lt_of_lt_of_eq t.isLt N_0
  unfold k0_off2; rw [coord_val]
  dsimp only
  congr 1
  simp [Scalar.indexCast, Scalar.addi, Scalar.muli, IntOp.addi, IntOp.muli]
  omega
theorem off3 (t : Fin cfg0.N) : k0_off3 (grid0.coords t) = ![128 * t.val, 128] := by
  have ht : t.val < 81 := Nat.lt_of_lt_of_eq t.isLt N_0
  unfold k0_off3; rw [coord_val]
  dsimp only
  congr 1
  simp [Scalar.indexCast, Scalar.addi, Scalar.muli, IntOp.addi, IntOp.muli]
  omega
theorem off4 (t : Fin cfg0.N) : k0_off4 (grid0.coords t) = ![128 * t.val, 512] := by
  have ht : t.val < 81 := Nat.lt_of_lt_of_eq t.isLt N_0
  unfold k0_off4; rw [coord_val]
  dsimp only
  congr 1
  simp [Scalar.indexCast, Scalar.addi, Scalar.muli, IntOp.addi, IntOp.muli]
  omega
theorem off5 (t : Fin cfg0.N) : k0_off5 (grid0.coords t) = ![128 * t.val, 640] := by
  have ht : t.val < 81 := Nat.lt_of_lt_of_eq t.isLt N_0
  unfold k0_off5; rw [coord_val]
  dsimp only
  congr 1
  simp [Scalar.indexCast, Scalar.addi, Scalar.muli, IntOp.addi, IntOp.muli]
  omega
theorem off6 (t : Fin cfg0.N) : k0_off6 (grid0.coords t) = ![128 * t.val, 1024] := by
  have ht : t.val < 81 := Nat.lt_of_lt_of_eq t.isLt N_0
  unfold k0_off6; rw [coord_val]
  dsimp only
  congr 1
  simp [Scalar.indexCast, Scalar.addi, Scalar.muli, IntOp.addi, IntOp.muli]
  omega
theorem off7 (t : Fin cfg0.N) : k0_off7 (grid0.coords t) = ![128 * t.val, 1152] := by
  have ht : t.val < 81 := Nat.lt_of_lt_of_eq t.isLt N_0
  unfold k0_off7; rw [coord_val]
  dsimp only
  congr 1
  simp [Scalar.indexCast, Scalar.addi, Scalar.muli, IntOp.addi, IntOp.muli]
  omega
theorem off8 (t : Fin cfg0.N) : k0_off8 (grid0.coords t) = ![128 * t.val, 1536] := by
  have ht : t.val < 81 := Nat.lt_of_lt_of_eq t.isLt N_0
  unfold k0_off8; rw [coord_val]
  dsimp only
  congr 1
  simp [Scalar.indexCast, Scalar.addi, Scalar.muli, IntOp.addi, IntOp.muli]
  omega
theorem off9 (t : Fin cfg0.N) : k0_off9 (grid0.coords t) = ![128 * t.val, 1664] := by
  have ht : t.val < 81 := Nat.lt_of_lt_of_eq t.isLt N_0
  unfold k0_off9; rw [coord_val]
  dsimp only
  congr 1
  simp [Scalar.indexCast, Scalar.addi, Scalar.muli, IntOp.addi, IntOp.muli]
  omega
theorem off10 (t : Fin cfg0.N) : k0_off10 (grid0.coords t) = ![128 * t.val, 2048] := by
  have ht : t.val < 81 := Nat.lt_of_lt_of_eq t.isLt N_0
  unfold k0_off10; rw [coord_val]
  dsimp only
  congr 1
  simp [Scalar.indexCast, Scalar.addi, Scalar.muli, IntOp.addi, IntOp.muli]
  omega
theorem off11 (t : Fin cfg0.N) : k0_off11 (grid0.coords t) = ![128 * t.val, 2176] := by
  have ht : t.val < 81 := Nat.lt_of_lt_of_eq t.isLt N_0
  unfold k0_off11; rw [coord_val]
  dsimp only
  congr 1
  simp [Scalar.indexCast, Scalar.addi, Scalar.muli, IntOp.addi, IntOp.muli]
  omega
theorem off12 (t : Fin cfg0.N) : k0_off12 (grid0.coords t) = ![128 * t.val, 2560] := by
  have ht : t.val < 81 := Nat.lt_of_lt_of_eq t.isLt N_0
  unfold k0_off12; rw [coord_val]
  dsimp only
  congr 1
  simp [Scalar.indexCast, Scalar.addi, Scalar.muli, IntOp.addi, IntOp.muli]
  omega
theorem off13 (t : Fin cfg0.N) : k0_off13 (grid0.coords t) = ![128 * t.val, 2688] := by
  have ht : t.val < 81 := Nat.lt_of_lt_of_eq t.isLt N_0
  unfold k0_off13; rw [coord_val]
  dsimp only
  congr 1
  simp [Scalar.indexCast, Scalar.addi, Scalar.muli, IntOp.addi, IntOp.muli]
  omega
theorem off14 (t : Fin cfg0.N) : k0_off14 (grid0.coords t) = ![128 * t.val, 256] := by
  have ht : t.val < 81 := Nat.lt_of_lt_of_eq t.isLt N_0
  unfold k0_off14; rw [coord_val]
  dsimp only
  congr 1
  simp [Scalar.indexCast, Scalar.addi, Scalar.muli, IntOp.addi, IntOp.muli]
  omega
theorem off15 (t : Fin cfg0.N) : k0_off15 (grid0.coords t) = ![128 * t.val, 384] := by
  have ht : t.val < 81 := Nat.lt_of_lt_of_eq t.isLt N_0
  unfold k0_off15; rw [coord_val]
  dsimp only
  congr 1
  simp [Scalar.indexCast, Scalar.addi, Scalar.muli, IntOp.addi, IntOp.muli]
  omega
theorem off16 (t : Fin cfg0.N) : k0_off16 (grid0.coords t) = ![128 * t.val, 768] := by
  have ht : t.val < 81 := Nat.lt_of_lt_of_eq t.isLt N_0
  unfold k0_off16; rw [coord_val]
  dsimp only
  congr 1
  simp [Scalar.indexCast, Scalar.addi, Scalar.muli, IntOp.addi, IntOp.muli]
  omega
theorem off17 (t : Fin cfg0.N) : k0_off17 (grid0.coords t) = ![128 * t.val, 896] := by
  have ht : t.val < 81 := Nat.lt_of_lt_of_eq t.isLt N_0
  unfold k0_off17; rw [coord_val]
  dsimp only
  congr 1
  simp [Scalar.indexCast, Scalar.addi, Scalar.muli, IntOp.addi, IntOp.muli]
  omega
theorem off18 (t : Fin cfg0.N) : k0_off18 (grid0.coords t) = ![128 * t.val, 1280] := by
  have ht : t.val < 81 := Nat.lt_of_lt_of_eq t.isLt N_0
  unfold k0_off18; rw [coord_val]
  dsimp only
  congr 1
  simp [Scalar.indexCast, Scalar.addi, Scalar.muli, IntOp.addi, IntOp.muli]
  omega
theorem off19 (t : Fin cfg0.N) : k0_off19 (grid0.coords t) = ![128 * t.val, 1408] := by
  have ht : t.val < 81 := Nat.lt_of_lt_of_eq t.isLt N_0
  unfold k0_off19; rw [coord_val]
  dsimp only
  congr 1
  simp [Scalar.indexCast, Scalar.addi, Scalar.muli, IntOp.addi, IntOp.muli]
  omega
theorem off20 (t : Fin cfg0.N) : k0_off20 (grid0.coords t) = ![128 * t.val, 1792] := by
  have ht : t.val < 81 := Nat.lt_of_lt_of_eq t.isLt N_0
  unfold k0_off20; rw [coord_val]
  dsimp only
  congr 1
  simp [Scalar.indexCast, Scalar.addi, Scalar.muli, IntOp.addi, IntOp.muli]
  omega
theorem off21 (t : Fin cfg0.N) : k0_off21 (grid0.coords t) = ![128 * t.val, 1920] := by
  have ht : t.val < 81 := Nat.lt_of_lt_of_eq t.isLt N_0
  unfold k0_off21; rw [coord_val]
  dsimp only
  congr 1
  simp [Scalar.indexCast, Scalar.addi, Scalar.muli, IntOp.addi, IntOp.muli]
  omega
theorem off22 (t : Fin cfg0.N) : k0_off22 (grid0.coords t) = ![128 * t.val, 2304] := by
  have ht : t.val < 81 := Nat.lt_of_lt_of_eq t.isLt N_0
  unfold k0_off22; rw [coord_val]
  dsimp only
  congr 1
  simp [Scalar.indexCast, Scalar.addi, Scalar.muli, IntOp.addi, IntOp.muli]
  omega
theorem off23 (t : Fin cfg0.N) : k0_off23 (grid0.coords t) = ![128 * t.val, 2432] := by
  have ht : t.val < 81 := Nat.lt_of_lt_of_eq t.isLt N_0
  unfold k0_off23; rw [coord_val]
  dsimp only
  congr 1
  simp [Scalar.indexCast, Scalar.addi, Scalar.muli, IntOp.addi, IntOp.muli]
  omega
theorem off24 (t : Fin cfg0.N) : k0_off24 (grid0.coords t) = ![128 * t.val, 2816] := by
  have ht : t.val < 81 := Nat.lt_of_lt_of_eq t.isLt N_0
  unfold k0_off24; rw [coord_val]
  dsimp only
  congr 1
  simp [Scalar.indexCast, Scalar.addi, Scalar.muli, IntOp.addi, IntOp.muli]
  omega
theorem off25 (t : Fin cfg0.N) : k0_off25 (grid0.coords t) = ![128 * t.val, 2944] := by
  have ht : t.val < 81 := Nat.lt_of_lt_of_eq t.isLt N_0
  unfold k0_off25; rw [coord_val]
  dsimp only
  congr 1
  simp [Scalar.indexCast, Scalar.addi, Scalar.muli, IntOp.addi, IntOp.muli]
  omega
theorem off27 (t : Fin cfg0.N) : k0_off27 (grid0.coords t) = ![128 * t.val, 0] := by
  have ht : t.val < 81 := Nat.lt_of_lt_of_eq t.isLt N_0
  unfold k0_off27; rw [coord_val]
  dsimp only
  congr 1
  simp [Scalar.indexCast, Scalar.addi, Scalar.muli, IntOp.addi, IntOp.muli]
  omega
theorem off28 (t : Fin cfg0.N) : k0_off28 (grid0.coords t) = ![128 * t.val, 128] := by
  have ht : t.val < 81 := Nat.lt_of_lt_of_eq t.isLt N_0
  unfold k0_off28; rw [coord_val]
  dsimp only
  congr 1
  simp [Scalar.indexCast, Scalar.addi, Scalar.muli, IntOp.addi, IntOp.muli]
  omega
theorem off29 (t : Fin cfg0.N) : k0_off29 (grid0.coords t) = ![128 * t.val, 256] := by
  have ht : t.val < 81 := Nat.lt_of_lt_of_eq t.isLt N_0
  unfold k0_off29; rw [coord_val]
  dsimp only
  congr 1
  simp [Scalar.indexCast, Scalar.addi, Scalar.muli, IntOp.addi, IntOp.muli]
  omega
theorem off30 (t : Fin cfg0.N) : k0_off30 (grid0.coords t) = ![128 * t.val, 384] := by
  have ht : t.val < 81 := Nat.lt_of_lt_of_eq t.isLt N_0
  unfold k0_off30; rw [coord_val]
  dsimp only
  congr 1
  simp [Scalar.indexCast, Scalar.addi, Scalar.muli, IntOp.addi, IntOp.muli]
  omega
theorem off31 (t : Fin cfg0.N) : k0_off31 (grid0.coords t) = ![128 * t.val, 512] := by
  have ht : t.val < 81 := Nat.lt_of_lt_of_eq t.isLt N_0
  unfold k0_off31; rw [coord_val]
  dsimp only
  congr 1
  simp [Scalar.indexCast, Scalar.addi, Scalar.muli, IntOp.addi, IntOp.muli]
  omega
theorem off32 (t : Fin cfg0.N) : k0_off32 (grid0.coords t) = ![128 * t.val, 640] := by
  have ht : t.val < 81 := Nat.lt_of_lt_of_eq t.isLt N_0
  unfold k0_off32; rw [coord_val]
  dsimp only
  congr 1
  simp [Scalar.indexCast, Scalar.addi, Scalar.muli, IntOp.addi, IntOp.muli]
  omega
theorem off33 (t : Fin cfg0.N) : k0_off33 (grid0.coords t) = ![128 * t.val, 768] := by
  have ht : t.val < 81 := Nat.lt_of_lt_of_eq t.isLt N_0
  unfold k0_off33; rw [coord_val]
  dsimp only
  congr 1
  simp [Scalar.indexCast, Scalar.addi, Scalar.muli, IntOp.addi, IntOp.muli]
  omega
theorem off34 (t : Fin cfg0.N) : k0_off34 (grid0.coords t) = ![128 * t.val, 896] := by
  have ht : t.val < 81 := Nat.lt_of_lt_of_eq t.isLt N_0
  unfold k0_off34; rw [coord_val]
  dsimp only
  congr 1
  simp [Scalar.indexCast, Scalar.addi, Scalar.muli, IntOp.addi, IntOp.muli]
  omega
theorem off35 (t : Fin cfg0.N) : k0_off35 (grid0.coords t) = ![128 * t.val, 1024] := by
  have ht : t.val < 81 := Nat.lt_of_lt_of_eq t.isLt N_0
  unfold k0_off35; rw [coord_val]
  dsimp only
  congr 1
  simp [Scalar.indexCast, Scalar.addi, Scalar.muli, IntOp.addi, IntOp.muli]
  omega
theorem off36 (t : Fin cfg0.N) : k0_off36 (grid0.coords t) = ![128 * t.val, 1152] := by
  have ht : t.val < 81 := Nat.lt_of_lt_of_eq t.isLt N_0
  unfold k0_off36; rw [coord_val]
  dsimp only
  congr 1
  simp [Scalar.indexCast, Scalar.addi, Scalar.muli, IntOp.addi, IntOp.muli]
  omega
theorem off37 (t : Fin cfg0.N) : k0_off37 (grid0.coords t) = ![128 * t.val, 1280] := by
  have ht : t.val < 81 := Nat.lt_of_lt_of_eq t.isLt N_0
  unfold k0_off37; rw [coord_val]
  dsimp only
  congr 1
  simp [Scalar.indexCast, Scalar.addi, Scalar.muli, IntOp.addi, IntOp.muli]
  omega
theorem off38 (t : Fin cfg0.N) : k0_off38 (grid0.coords t) = ![128 * t.val, 1408] := by
  have ht : t.val < 81 := Nat.lt_of_lt_of_eq t.isLt N_0
  unfold k0_off38; rw [coord_val]
  dsimp only
  congr 1
  simp [Scalar.indexCast, Scalar.addi, Scalar.muli, IntOp.addi, IntOp.muli]
  omega
theorem off39 (t : Fin cfg0.N) : k0_off39 (grid0.coords t) = ![128 * t.val, 1536] := by
  have ht : t.val < 81 := Nat.lt_of_lt_of_eq t.isLt N_0
  unfold k0_off39; rw [coord_val]
  dsimp only
  congr 1
  simp [Scalar.indexCast, Scalar.addi, Scalar.muli, IntOp.addi, IntOp.muli]
  omega
theorem off40 (t : Fin cfg0.N) : k0_off40 (grid0.coords t) = ![128 * t.val, 1664] := by
  have ht : t.val < 81 := Nat.lt_of_lt_of_eq t.isLt N_0
  unfold k0_off40; rw [coord_val]
  dsimp only
  congr 1
  simp [Scalar.indexCast, Scalar.addi, Scalar.muli, IntOp.addi, IntOp.muli]
  omega
theorem off41 (t : Fin cfg0.N) : k0_off41 (grid0.coords t) = ![128 * t.val, 1792] := by
  have ht : t.val < 81 := Nat.lt_of_lt_of_eq t.isLt N_0
  unfold k0_off41; rw [coord_val]
  dsimp only
  congr 1
  simp [Scalar.indexCast, Scalar.addi, Scalar.muli, IntOp.addi, IntOp.muli]
  omega
theorem off42 (t : Fin cfg0.N) : k0_off42 (grid0.coords t) = ![128 * t.val, 1920] := by
  have ht : t.val < 81 := Nat.lt_of_lt_of_eq t.isLt N_0
  unfold k0_off42; rw [coord_val]
  dsimp only
  congr 1
  simp [Scalar.indexCast, Scalar.addi, Scalar.muli, IntOp.addi, IntOp.muli]
  omega
theorem off43 (t : Fin cfg0.N) : k0_off43 (grid0.coords t) = ![128 * t.val, 2048] := by
  have ht : t.val < 81 := Nat.lt_of_lt_of_eq t.isLt N_0
  unfold k0_off43; rw [coord_val]
  dsimp only
  congr 1
  simp [Scalar.indexCast, Scalar.addi, Scalar.muli, IntOp.addi, IntOp.muli]
  omega
theorem off44 (t : Fin cfg0.N) : k0_off44 (grid0.coords t) = ![128 * t.val, 2176] := by
  have ht : t.val < 81 := Nat.lt_of_lt_of_eq t.isLt N_0
  unfold k0_off44; rw [coord_val]
  dsimp only
  congr 1
  simp [Scalar.indexCast, Scalar.addi, Scalar.muli, IntOp.addi, IntOp.muli]
  omega
theorem off45 (t : Fin cfg0.N) : k0_off45 (grid0.coords t) = ![128 * t.val, 2304] := by
  have ht : t.val < 81 := Nat.lt_of_lt_of_eq t.isLt N_0
  unfold k0_off45; rw [coord_val]
  dsimp only
  congr 1
  simp [Scalar.indexCast, Scalar.addi, Scalar.muli, IntOp.addi, IntOp.muli]
  omega
theorem off46 (t : Fin cfg0.N) : k0_off46 (grid0.coords t) = ![128 * t.val, 2432] := by
  have ht : t.val < 81 := Nat.lt_of_lt_of_eq t.isLt N_0
  unfold k0_off46; rw [coord_val]
  dsimp only
  congr 1
  simp [Scalar.indexCast, Scalar.addi, Scalar.muli, IntOp.addi, IntOp.muli]
  omega
theorem off47 (t : Fin cfg0.N) : k0_off47 (grid0.coords t) = ![128 * t.val, 2560] := by
  have ht : t.val < 81 := Nat.lt_of_lt_of_eq t.isLt N_0
  unfold k0_off47; rw [coord_val]
  dsimp only
  congr 1
  simp [Scalar.indexCast, Scalar.addi, Scalar.muli, IntOp.addi, IntOp.muli]
  omega
theorem off48 (t : Fin cfg0.N) : k0_off48 (grid0.coords t) = ![128 * t.val, 2688] := by
  have ht : t.val < 81 := Nat.lt_of_lt_of_eq t.isLt N_0
  unfold k0_off48; rw [coord_val]
  dsimp only
  congr 1
  simp [Scalar.indexCast, Scalar.addi, Scalar.muli, IntOp.addi, IntOp.muli]
  omega
theorem off49 (t : Fin cfg0.N) : k0_off49 (grid0.coords t) = ![128 * t.val, 2816] := by
  have ht : t.val < 81 := Nat.lt_of_lt_of_eq t.isLt N_0
  unfold k0_off49; rw [coord_val]
  dsimp only
  congr 1
  simp [Scalar.indexCast, Scalar.addi, Scalar.muli, IntOp.addi, IntOp.muli]
  omega
theorem off50 (t : Fin cfg0.N) : k0_off50 (grid0.coords t) = ![128 * t.val, 2944] := by
  have ht : t.val < 81 := Nat.lt_of_lt_of_eq t.isLt N_0
  unfold k0_off50; rw [coord_val]
  dsimp only
  congr 1
  simp [Scalar.indexCast, Scalar.addi, Scalar.muli, IntOp.addi, IntOp.muli]
  omega
theorem off51 (t : Fin cfg0.N) : k0_off51 (grid0.coords t) = ![128 * t.val, 3072] := by
  have ht : t.val < 81 := Nat.lt_of_lt_of_eq t.isLt N_0
  unfold k0_off51; rw [coord_val]
  dsimp only
  congr 1
  simp [Scalar.indexCast, Scalar.addi, Scalar.muli, IntOp.addi, IntOp.muli]
  omega
theorem off52 (t : Fin cfg0.N) : k0_off52 (grid0.coords t) = ![128 * t.val, 3200] := by
  have ht : t.val < 81 := Nat.lt_of_lt_of_eq t.isLt N_0
  unfold k0_off52; rw [coord_val]
  dsimp only
  congr 1
  simp [Scalar.indexCast, Scalar.addi, Scalar.muli, IntOp.addi, IntOp.muli]
  omega
theorem off53 (t : Fin cfg0.N) : k0_off53 (grid0.coords t) = ![128 * t.val, 3328] := by
  have ht : t.val < 81 := Nat.lt_of_lt_of_eq t.isLt N_0
  unfold k0_off53; rw [coord_val]
  dsimp only
  congr 1
  simp [Scalar.indexCast, Scalar.addi, Scalar.muli, IntOp.addi, IntOp.muli]
  omega
theorem off54 (t : Fin cfg0.N) : k0_off54 (grid0.coords t) = ![128 * t.val, 3456] := by
  have ht : t.val < 81 := Nat.lt_of_lt_of_eq t.isLt N_0
  unfold k0_off54; rw [coord_val]
  dsimp only
  congr 1
  simp [Scalar.indexCast, Scalar.addi, Scalar.muli, IntOp.addi, IntOp.muli]
  omega
theorem off55 (t : Fin cfg0.N) : k0_off55 (grid0.coords t) = ![128 * t.val, 3584] := by
  have ht : t.val < 81 := Nat.lt_of_lt_of_eq t.isLt N_0
  unfold k0_off55; rw [coord_val]
  dsimp only
  congr 1
  simp [Scalar.indexCast, Scalar.addi, Scalar.muli, IntOp.addi, IntOp.muli]
  omega
theorem off56 (t : Fin cfg0.N) : k0_off56 (grid0.coords t) = ![128 * t.val, 3712] := by
  have ht : t.val < 81 := Nat.lt_of_lt_of_eq t.isLt N_0
  unfold k0_off56; rw [coord_val]
  dsimp only
  congr 1
  simp [Scalar.indexCast, Scalar.addi, Scalar.muli, IntOp.addi, IntOp.muli]
  omega
theorem off57 (t : Fin cfg0.N) : k0_off57 (grid0.coords t) = ![128 * t.val, 3840] := by
  have ht : t.val < 81 := Nat.lt_of_lt_of_eq t.isLt N_0
  unfold k0_off57; rw [coord_val]
  dsimp only
  congr 1
  simp [Scalar.indexCast, Scalar.addi, Scalar.muli, IntOp.addi, IntOp.muli]
  omega
theorem off58 (t : Fin cfg0.N) : k0_off58 (grid0.coords t) = ![128 * t.val, 3968] := by
  have ht : t.val < 81 := Nat.lt_of_lt_of_eq t.isLt N_0
  unfold k0_off58; rw [coord_val]
  dsimp only
  congr 1
  simp [Scalar.indexCast, Scalar.addi, Scalar.muli, IntOp.addi, IntOp.muli]
  omega
theorem off1_0 (t : Fin cfg0.N) (h : t.val < 32) : k0_off1 (grid0.coords t) 0#32 = ![0 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_64 (t : Fin cfg0.N) (h : t.val < 32) : k0_off1 (grid0.coords t) 64#32 = ![64 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_128 (t : Fin cfg0.N) (h : t.val < 32) : k0_off1 (grid0.coords t) 128#32 = ![128 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_192 (t : Fin cfg0.N) (h : t.val < 32) : k0_off1 (grid0.coords t) 192#32 = ![192 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_256 (t : Fin cfg0.N) (h : t.val < 32) : k0_off1 (grid0.coords t) 256#32 = ![256 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_320 (t : Fin cfg0.N) (h : t.val < 32) : k0_off1 (grid0.coords t) 320#32 = ![320 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_384 (t : Fin cfg0.N) (h : t.val < 32) : k0_off1 (grid0.coords t) 384#32 = ![384 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_448 (t : Fin cfg0.N) (h : t.val < 32) : k0_off1 (grid0.coords t) 448#32 = ![448 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_512 (t : Fin cfg0.N) (h : t.val < 32) : k0_off1 (grid0.coords t) 512#32 = ![512 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_576 (t : Fin cfg0.N) (h : t.val < 32) : k0_off1 (grid0.coords t) 576#32 = ![576 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_640 (t : Fin cfg0.N) (h : t.val < 32) : k0_off1 (grid0.coords t) 640#32 = ![640 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_704 (t : Fin cfg0.N) (h : t.val < 32) : k0_off1 (grid0.coords t) 704#32 = ![704 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_32 (t : Fin cfg0.N) (h : t.val < 32) : k0_off1 (grid0.coords t) 32#32 = ![32 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_96 (t : Fin cfg0.N) (h : t.val < 32) : k0_off1 (grid0.coords t) 96#32 = ![96 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_160 (t : Fin cfg0.N) (h : t.val < 32) : k0_off1 (grid0.coords t) 160#32 = ![160 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_224 (t : Fin cfg0.N) (h : t.val < 32) : k0_off1 (grid0.coords t) 224#32 = ![224 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_288 (t : Fin cfg0.N) (h : t.val < 32) : k0_off1 (grid0.coords t) 288#32 = ![288 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_352 (t : Fin cfg0.N) (h : t.val < 32) : k0_off1 (grid0.coords t) 352#32 = ![352 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_416 (t : Fin cfg0.N) (h : t.val < 32) : k0_off1 (grid0.coords t) 416#32 = ![416 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_480 (t : Fin cfg0.N) (h : t.val < 32) : k0_off1 (grid0.coords t) 480#32 = ![480 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_544 (t : Fin cfg0.N) (h : t.val < 32) : k0_off1 (grid0.coords t) 544#32 = ![544 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_608 (t : Fin cfg0.N) (h : t.val < 32) : k0_off1 (grid0.coords t) 608#32 = ![608 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_672 (t : Fin cfg0.N) (h : t.val < 32) : k0_off1 (grid0.coords t) 672#32 = ![672 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off1_736 (t : Fin cfg0.N) (h : t.val < 32) : k0_off1 (grid0.coords t) 736#32 = ![736 + t.val] := by
  have ht : t.val < 81 := Nat.lt_of_lt_of_eq t.isLt N_0
  unfold k0_off1; rw [coord_val]
  dsimp only
  congr 1
  simp [Scalar.indexCast, Scalar.addi, Scalar.muli, IntOp.addi, IntOp.muli]
  omega
theorem off26_0 (t : Fin cfg0.N) (h : t.val < 12) : k0_off26 (grid0.coords t) 0#32 = ![32 * t.val + 0] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_1 (t : Fin cfg0.N) (h : t.val < 12) : k0_off26 (grid0.coords t) 1#32 = ![32 * t.val + 1] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_2 (t : Fin cfg0.N) (h : t.val < 12) : k0_off26 (grid0.coords t) 2#32 = ![32 * t.val + 2] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_3 (t : Fin cfg0.N) (h : t.val < 12) : k0_off26 (grid0.coords t) 3#32 = ![32 * t.val + 3] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_4 (t : Fin cfg0.N) (h : t.val < 12) : k0_off26 (grid0.coords t) 4#32 = ![32 * t.val + 4] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_5 (t : Fin cfg0.N) (h : t.val < 12) : k0_off26 (grid0.coords t) 5#32 = ![32 * t.val + 5] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_6 (t : Fin cfg0.N) (h : t.val < 12) : k0_off26 (grid0.coords t) 6#32 = ![32 * t.val + 6] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_7 (t : Fin cfg0.N) (h : t.val < 12) : k0_off26 (grid0.coords t) 7#32 = ![32 * t.val + 7] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_8 (t : Fin cfg0.N) (h : t.val < 12) : k0_off26 (grid0.coords t) 8#32 = ![32 * t.val + 8] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_9 (t : Fin cfg0.N) (h : t.val < 12) : k0_off26 (grid0.coords t) 9#32 = ![32 * t.val + 9] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_10 (t : Fin cfg0.N) (h : t.val < 12) : k0_off26 (grid0.coords t) 10#32 = ![32 * t.val + 10] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_11 (t : Fin cfg0.N) (h : t.val < 12) : k0_off26 (grid0.coords t) 11#32 = ![32 * t.val + 11] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_12 (t : Fin cfg0.N) (h : t.val < 12) : k0_off26 (grid0.coords t) 12#32 = ![32 * t.val + 12] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_13 (t : Fin cfg0.N) (h : t.val < 12) : k0_off26 (grid0.coords t) 13#32 = ![32 * t.val + 13] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_14 (t : Fin cfg0.N) (h : t.val < 12) : k0_off26 (grid0.coords t) 14#32 = ![32 * t.val + 14] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_15 (t : Fin cfg0.N) (h : t.val < 12) : k0_off26 (grid0.coords t) 15#32 = ![32 * t.val + 15] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_16 (t : Fin cfg0.N) (h : t.val < 12) : k0_off26 (grid0.coords t) 16#32 = ![32 * t.val + 16] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_17 (t : Fin cfg0.N) (h : t.val < 12) : k0_off26 (grid0.coords t) 17#32 = ![32 * t.val + 17] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_18 (t : Fin cfg0.N) (h : t.val < 12) : k0_off26 (grid0.coords t) 18#32 = ![32 * t.val + 18] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_19 (t : Fin cfg0.N) (h : t.val < 12) : k0_off26 (grid0.coords t) 19#32 = ![32 * t.val + 19] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_20 (t : Fin cfg0.N) (h : t.val < 12) : k0_off26 (grid0.coords t) 20#32 = ![32 * t.val + 20] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_21 (t : Fin cfg0.N) (h : t.val < 12) : k0_off26 (grid0.coords t) 21#32 = ![32 * t.val + 21] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_22 (t : Fin cfg0.N) (h : t.val < 12) : k0_off26 (grid0.coords t) 22#32 = ![32 * t.val + 22] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_23 (t : Fin cfg0.N) (h : t.val < 12) : k0_off26 (grid0.coords t) 23#32 = ![32 * t.val + 23] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_24 (t : Fin cfg0.N) (h : t.val < 12) : k0_off26 (grid0.coords t) 24#32 = ![32 * t.val + 24] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_25 (t : Fin cfg0.N) (h : t.val < 12) : k0_off26 (grid0.coords t) 25#32 = ![32 * t.val + 25] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_26 (t : Fin cfg0.N) (h : t.val < 12) : k0_off26 (grid0.coords t) 26#32 = ![32 * t.val + 26] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_27 (t : Fin cfg0.N) (h : t.val < 12) : k0_off26 (grid0.coords t) 27#32 = ![32 * t.val + 27] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_28 (t : Fin cfg0.N) (h : t.val < 12) : k0_off26 (grid0.coords t) 28#32 = ![32 * t.val + 28] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_29 (t : Fin cfg0.N) (h : t.val < 12) : k0_off26 (grid0.coords t) 29#32 = ![32 * t.val + 29] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_30 (t : Fin cfg0.N) (h : t.val < 12) : k0_off26 (grid0.coords t) 30#32 = ![32 * t.val + 30] := by
  have ht : t.val < 81 := Nat.lt_of_lt_of_eq t.isLt N_0
  unfold k0_off26; rw [coord_val]
  dsimp only
  congr 1
  simp [Scalar.indexCast, Scalar.addi, Scalar.muli, IntOp.addi, IntOp.muli]
  omega
theorem off26_31 (t : Fin cfg0.N) (h : t.val < 12) : k0_off26 (grid0.coords t) 31#32 = ![32 * t.val + 31] := by
  have ht : t.val < 81 := Nat.lt_of_lt_of_eq t.isLt N_0
  unfold k0_off26; rw [coord_val]
  dsimp only
  congr 1
  simp [Scalar.indexCast, Scalar.addi, Scalar.muli, IntOp.addi, IntOp.muli]
  omega

/-! ## Reading one store -/

/-- The newest store decides an element if it covers it, the earlier ones do otherwise. -/
theorem peelr {κ : Kind} {sp : Space} {S : Shape} {e : EltTy} (v : View sig κ sp S e) (f) {off off' size : Fin S.rank → ℕ} (inb : ∀ a, off a + size a ≤ S.size a)
    (w : (Rect.unit off size inb).shape.Idx → Elt Ideal e) (L : List (View.Piece (Elt Ideal) S e)) (y : S.Idx) (u : Elt Ideal e)
    (heq : off = off') (h : ∀ x : (Rect.unit off size inb).shape.Idx, (∀ a, (y a).val = off' a + (x a).val) → w x = u)
    (hL : (¬ ∀ a, off' a ≤ (y a).val ∧ (y a).val < off' a + size a) → v.read (Elt Ideal) (v.writes (Elt Ideal) f L) y = u) :
    v.read (Elt Ideal) (v.writes (Elt Ideal) f (⟨Rect.unit off size inb, w⟩ :: L)) y = u := by
  rw [View.read_writes_cons_unit v f inb w L y heq]
  split
  · rename_i hm
    refine h _ fun a => ?_
    rw [Rect.unitLocal_val]
    have := hm a
    omega
  · rename_i hm
    exact hL hm

theorem not_in {r o n s : ℕ} {y : Fin 2 → ℕ} (h : ¬ ∀ a : Fin 2, (![r, o] : Fin 2 → ℕ) a ≤ y a ∧ y a < (![r, o] : Fin 2 → ℕ) a + (![n, s] : Fin 2 → ℕ) a) :
    y 0 < r ∨ r + n ≤ y 0 ∨ y 1 < o ∨ o + s ≤ y 1 := by
  by_contra hc
  apply h
  intro a
  fin_cases a
  · exact ⟨by show r ≤ y 0; omega, by show y 0 < r + n; omega⟩
  · exact ⟨by show o ≤ y 1; omega, by show y 1 < o + s; omega⟩

/-- An element of the first weight, scaled, from the blocks of its point. -/
def B13 (A0 : Vec Ideal S768 .f32) (A3 : Vec Ideal S2x128x1536 .fp8e4m3) (y : S4096x3072.Idx) : EReal :=
  HMul.hMul (α := EReal) (β := EReal)
    (A3 (ix3 (⟨(y 1).val % 512 / 256, by omega⟩ : Fin 2) (⟨(y 0).val % 128, by omega⟩ : Fin 128)
      (⟨(y 1).val / 512 * 256 + (y 1).val % 256, by have : (y 1).val < 3072 := (y 1).isLt; omega⟩ : Fin 1536)))
    (A0 (ix1 (⟨(((y 1).val / 512 * 2 + (y 1).val % 256 / 128) * 2 + (y 1).val % 512 / 256) * 32 + (y 0).val / 128, by
      have : (y 1).val < 3072 := (y 1).isLt; have : (y 0).val < 4096 := (y 0).isLt; omega⟩ : Fin 768)))

theorem piece13 (A0 : Vec Ideal S768 .f32) (A3 : Vec Ideal S2x128x1536 .fp8e4m3) (off1 : Fin 1 → ℕ) (c n g q cc : ℕ) (he : off1 = ![c + n])
    (inb : ∀ a : Fin S768.rank, off1 a + (![1] : Fin 1 → ℕ) a ≤ S768.size a)
    (inb' : ∀ a : Fin S2x128x1536.rank, (![g, 0, q] : Fin 3 → ℕ) a + (![1, 128, 128] : Fin 3 → ℕ) a ≤ S2x128x1536.size a)
    (h) (x : S128x128.Idx) (y : S4096x3072.Idx) (h0 : (y 0).val = 128 * n + (x 0).val) (h1 : (y 1).val = cc + (x 1).val)
    (hg : g < 2) (hq : q % 128 = 0) (hcc : cc = q / 256 * 512 + g * 256 + q % 256) (hc : c = (q / 128 * 2 + g) * 32) :
    k0_pay9 (F := Ideal) (View.ld (Val := Elt Ideal) (S := S768) (e' := .f32) A0 (Rect.unit off1 ![1] inb) (Shape.Idx.first h))
      (View.ld (Val := Elt Ideal) (S := S2x128x1536) (e' := .fp8e4m3) A3 (Rect.unit ![g, 0, q] ![1, 128, 128] inb')) x = B13 A0 A3 y := by
  rw [w_apply]
  subst he
  have l0 : (x 0).val < 128 := (x 0).isLt
  have l1 : (x 1).val < 128 := (x 1).isLt
  unfold B13 View.ld
  congr 1
  · congr 1
    funext a
    fin_cases a <;> apply Fin.ext
    · show g + 1 * 0 = (y 1).val % 512 / 256
      omega
    · show 0 + 1 * (x 0).val = (y 0).val % 128
      omega
    · show q + 1 * (x 1).val = (y 1).val / 512 * 256 + (y 1).val % 256
      omega
  · congr 1
    funext a
    fin_cases a
    apply Fin.ext
    show c + n + 1 * 0 = (((y 1).val / 512 * 2 + (y 1).val % 256 / 128) * 2 + (y 1).val % 512 / 256) * 32 + (y 0).val / 128
    omega

/-- An element of the second weight, scaled, from the blocks of its point. -/
def B2 (A1 : Vec Ideal S384 .f32) (A4 : Vec Ideal S128x4096 .fp8e4m3) (y : S1536x4096.Idx) : EReal :=
  HMul.hMul (α := EReal) (β := EReal)
    (A4 (ix2 (⟨(y 0).val % 128, by omega⟩ : Fin 128) (y 1)))
    (A1 (ix1 (⟨(y 0).val / 128 * 32 + (y 1).val / 128, by
      have : (y 1).val < 4096 := (y 1).isLt; have : (y 0).val < 1536 := (y 0).isLt; omega⟩ : Fin 384)))

theorem w2_apply (v25 : Elt Ideal .f32) (v26 : Vec Ideal S128x128 .fp8e4m3) (x : S128x128.Idx) :
    k0_pay37 (F := Ideal) v25 v26 x = HMul.hMul (α := EReal) (β := EReal) (v26 x) v25 := by
  unfold k0_pay37
  pointwise

theorem piece2 (A1 : Vec Ideal S384 .f32) (A4 : Vec Ideal S128x4096 .fp8e4m3) (off1 : Fin 1 → ℕ) (n k q : ℕ) (he : off1 = ![32 * n + k])
    (inb : ∀ a : Fin S384.rank, off1 a + (![1] : Fin 1 → ℕ) a ≤ S384.size a)
    (inb' : ∀ a : Fin S128x4096.rank, (![0, q] : Fin 2 → ℕ) a + (![128, 128] : Fin 2 → ℕ) a ≤ S128x4096.size a)
    (h) (x : S128x128.Idx) (y : S1536x4096.Idx) (h0 : (y 0).val = 128 * n + (x 0).val) (h1 : (y 1).val = q + (x 1).val) (hq : q = 128 * k) :
    k0_pay37 (F := Ideal) (View.ld (Val := Elt Ideal) (S := S384) (e' := .f32) A1 (Rect.unit off1 ![1] inb) (Shape.Idx.first h))
      (View.ld (Val := Elt Ideal) (S := S128x4096) (e' := .fp8e4m3) A4 (Rect.unit ![0, q] ![128, 128] inb')) x = B2 A1 A4 y := by
  rw [w2_apply]
  subst he
  have l0 : (x 0).val < 128 := (x 0).isLt
  have l1 : (x 1).val < 128 := (x 1).isLt
  unfold B2 View.ld
  congr 1
  · congr 1
    funext a
    fin_cases a <;> apply Fin.ext
    · show 0 + 1 * (x 0).val = (y 0).val % 128
      omega
    · show q + 1 * (x 1).val = (y 1).val
      omega
  · congr 1
    funext a
    fin_cases a
    apply Fin.ext
    show 32 * n + k + 1 * 0 = (y 0).val / 128 * 32 + (y 1).val / 128
    omega

/-! ## What a point leaves of the weights -/

set_option maxHeartbeats 4000000 in
theorem RB16_new (c : Dev nD) (t : Fin cfg0.N) (hc1) (hc2) (hc3) (hc4) (X16)  (y : S4096x3072.Idx) (ht : t.val < 32) (h0 : 128 * t.val ≤ (y 0).val) (h0' : (y 0).val < 128 * t.val + 128) :
    left scM0_0 (Memref.isWhole_whole _) X16 (RB (F := Ideal) m c t hc1 hc2 hc3 hc4 X16).1 y = B13 (iblk m c 0 t) (iblk m c 3 t) y := by
  delta RB
  frame_open
  simp only [View.readAt_eq_ld, Memref.IsWhole.read_unread]
  have l1 : (y 1).val < 3072 := (y 1).isLt
  obtain ⟨P, hP⟩ : ∃ P, P = (y 1).val % 512 / 256 * 12 + ((y 1).val / 512 * 2 + (y 1).val % 256 / 128) := ⟨_, rfl⟩
  have hp24 : P < 24 := by omega
  refine peelr _ _ _ _ _ _ _ (off25 t) (fun x hx => piece13 _ _ _ 736 t.val 1 1408 2944 (off1_736 t ht) _ _ _ x y (hx 0) (hx 1) (by omega) (by omega) (by omega) (by omega)) (fun hn => ?_)
  have hp23 : P < 23 := by have := not_in (y := fun a => (y a).val) hn; omega
  clear hn
  refine peelr _ _ _ _ _ _ _ (off24 t) (fun x hx => piece13 _ _ _ 672 t.val 1 1280 2816 (off1_672 t ht) _ _ _ x y (hx 0) (hx 1) (by omega) (by omega) (by omega) (by omega)) (fun hn => ?_)
  have hp22 : P < 22 := by have := not_in (y := fun a => (y a).val) hn; omega
  clear hn
  refine peelr _ _ _ _ _ _ _ (off23 t) (fun x hx => piece13 _ _ _ 608 t.val 1 1152 2432 (off1_608 t ht) _ _ _ x y (hx 0) (hx 1) (by omega) (by omega) (by omega) (by omega)) (fun hn => ?_)
  have hp21 : P < 21 := by have := not_in (y := fun a => (y a).val) hn; omega
  clear hn
  refine peelr _ _ _ _ _ _ _ (off22 t) (fun x hx => piece13 _ _ _ 544 t.val 1 1024 2304 (off1_544 t ht) _ _ _ x y (hx 0) (hx 1) (by omega) (by omega) (by omega) (by omega)) (fun hn => ?_)
  have hp20 : P < 20 := by have := not_in (y := fun a => (y a).val) hn; omega
  clear hn
  refine peelr _ _ _ _ _ _ _ (off21 t) (fun x hx => piece13 _ _ _ 480 t.val 1 896 1920 (off1_480 t ht) _ _ _ x y (hx 0) (hx 1) (by omega) (by omega) (by omega) (by omega)) (fun hn => ?_)
  have hp19 : P < 19 := by have := not_in (y := fun a => (y a).val) hn; omega
  clear hn
  refine peelr _ _ _ _ _ _ _ (off20 t) (fun x hx => piece13 _ _ _ 416 t.val 1 768 1792 (off1_416 t ht) _ _ _ x y (hx 0) (hx 1) (by omega) (by omega) (by omega) (by omega)) (fun hn => ?_)
  have hp18 : P < 18 := by have := not_in (y := fun a => (y a).val) hn; omega
  clear hn
  refine peelr _ _ _ _ _ _ _ (off19 t) (fun x hx => piece13 _ _ _ 352 t.val 1 640 1408 (off1_352 t ht) _ _ _ x y (hx 0) (hx 1) (by omega) (by omega) (by omega) (by omega)) (fun hn => ?_)
  have hp17 : P < 17 := by have := not_in (y := fun a => (y a).val) hn; omega
  clear hn
  refine peelr _ _ _ _ _ _ _ (off18 t) (fun x hx => piece13 _ _ _ 288 t.val 1 512 1280 (off1_288 t ht) _ _ _ x y (hx 0) (hx 1) (by omega) (by omega) (by omega) (by omega)) (fun hn => ?_)
  have hp16 : P < 16 := by have := not_in (y := fun a => (y a).val) hn; omega
  clear hn
  refine peelr _ _ _ _ _ _ _ (off17 t) (fun x hx => piece13 _ _ _ 224 t.val 1 384 896 (off1_224 t ht) _ _ _ x y (hx 0) (hx 1) (by omega) (by omega) (by omega) (by omega)) (fun hn => ?_)
  have hp15 : P < 15 := by have := not_in (y := fun a => (y a).val) hn; omega
  clear hn
  refine peelr _ _ _ _ _ _ _ (off16 t) (fun x hx => piece13 _ _ _ 160 t.val 1 256 768 (off1_160 t ht) _ _ _ x y (hx 0) (hx 1) (by omega) (by omega) (by omega) (by omega)) (fun hn => ?_)
  have hp14 : P < 14 := by have := not_in (y := fun a => (y a).val) hn; omega
  clear hn
  refine peelr _ _ _ _ _ _ _ (off15 t) (fun x hx => piece13 _ _ _ 96 t.val 1 128 384 (off1_96 t ht) _ _ _ x y (hx 0) (hx 1) (by omega) (by omega) (by omega) (by omega)) (fun hn => ?_)
  have hp13 : P < 13 := by have := not_in (y := fun a => (y a).val) hn; omega
  clear hn
  refine peelr _ _ _ _ _ _ _ (off14 t) (fun x hx => piece13 _ _ _ 32 t.val 1 0 256 (off1_32 t ht) _ _ _ x y (hx 0) (hx 1) (by omega) (by omega) (by omega) (by omega)) (fun hn => ?_)
  have hp12 : P < 12 := by have := not_in (y := fun a => (y a).val) hn; omega
  clear hn
  refine peelr _ _ _ _ _ _ _ (off13 t) (fun x hx => piece13 _ _ _ 704 t.val 0 1408 2688 (off1_704 t ht) _ _ _ x y (hx 0) (hx 1) (by omega) (by omega) (by omega) (by omega)) (fun hn => ?_)
  have hp11 : P < 11 := by have := not_in (y := fun a => (y a).val) hn; omega
  clear hn
  refine peelr _ _ _ _ _ _ _ (off12 t) (fun x hx => piece13 _ _ _ 640 t.val 0 1280 2560 (off1_640 t ht) _ _ _ x y (hx 0) (hx 1) (by omega) (by omega) (by omega) (by omega)) (fun hn => ?_)
  have hp10 : P < 10 := by have := not_in (y := fun a => (y a).val) hn; omega
  clear hn
  refine peelr _ _ _ _ _ _ _ (off11 t) (fun x hx => piece13 _ _ _ 576 t.val 0 1152 2176 (off1_576 t ht) _ _ _ x y (hx 0) (hx 1) (by omega) (by omega) (by omega) (by omega)) (fun hn => ?_)
  have hp9 : P < 9 := by have := not_in (y := fun a => (y a).val) hn; omega
  clear hn
  refine peelr _ _ _ _ _ _ _ (off10 t) (fun x hx => piece13 _ _ _ 512 t.val 0 1024 2048 (off1_512 t ht) _ _ _ x y (hx 0) (hx 1) (by omega) (by omega) (by omega) (by omega)) (fun hn => ?_)
  have hp8 : P < 8 := by have := not_in (y := fun a => (y a).val) hn; omega
  clear hn
  refine peelr _ _ _ _ _ _ _ (off9 t) (fun x hx => piece13 _ _ _ 448 t.val 0 896 1664 (off1_448 t ht) _ _ _ x y (hx 0) (hx 1) (by omega) (by omega) (by omega) (by omega)) (fun hn => ?_)
  have hp7 : P < 7 := by have := not_in (y := fun a => (y a).val) hn; omega
  clear hn
  refine peelr _ _ _ _ _ _ _ (off8 t) (fun x hx => piece13 _ _ _ 384 t.val 0 768 1536 (off1_384 t ht) _ _ _ x y (hx 0) (hx 1) (by omega) (by omega) (by omega) (by omega)) (fun hn => ?_)
  have hp6 : P < 6 := by have := not_in (y := fun a => (y a).val) hn; omega
  clear hn
  refine peelr _ _ _ _ _ _ _ (off7 t) (fun x hx => piece13 _ _ _ 320 t.val 0 640 1152 (off1_320 t ht) _ _ _ x y (hx 0) (hx 1) (by omega) (by omega) (by omega) (by omega)) (fun hn => ?_)
  have hp5 : P < 5 := by have := not_in (y := fun a => (y a).val) hn; omega
  clear hn
  refine peelr _ _ _ _ _ _ _ (off6 t) (fun x hx => piece13 _ _ _ 256 t.val 0 512 1024 (off1_256 t ht) _ _ _ x y (hx 0) (hx 1) (by omega) (by omega) (by omega) (by omega)) (fun hn => ?_)
  have hp4 : P < 4 := by have := not_in (y := fun a => (y a).val) hn; omega
  clear hn
  refine peelr _ _ _ _ _ _ _ (off5 t) (fun x hx => piece13 _ _ _ 192 t.val 0 384 640 (off1_192 t ht) _ _ _ x y (hx 0) (hx 1) (by omega) (by omega) (by omega) (by omega)) (fun hn => ?_)
  have hp3 : P < 3 := by have := not_in (y := fun a => (y a).val) hn; omega
  clear hn
  refine peelr _ _ _ _ _ _ _ (off4 t) (fun x hx => piece13 _ _ _ 128 t.val 0 256 512 (off1_128 t ht) _ _ _ x y (hx 0) (hx 1) (by omega) (by omega) (by omega) (by omega)) (fun hn => ?_)
  have hp2 : P < 2 := by have := not_in (y := fun a => (y a).val) hn; omega
  clear hn
  refine peelr _ _ _ _ _ _ _ (off3 t) (fun x hx => piece13 _ _ _ 64 t.val 0 128 128 (off1_64 t ht) _ _ _ x y (hx 0) (hx 1) (by omega) (by omega) (by omega) (by omega)) (fun hn => ?_)
  have hp1 : P < 1 := by have := not_in (y := fun a => (y a).val) hn; omega
  clear hn
  refine peelr _ _ _ _ _ _ _ (off2 t) (fun x hx => piece13 _ _ _ 0 t.val 0 0 0 (off1_0 t ht) _ _ _ x y (hx 0) (hx 1) (by omega) (by omega) (by omega) (by omega)) (fun hn => ?_)
  have hp0 : P < 0 := by have := not_in (y := fun a => (y a).val) hn; omega
  clear hn
  exact absurd hp0 (by omega)

set_option maxHeartbeats 4000000 in
theorem RB16_old (c : Dev nD) (t : Fin cfg0.N) (hc1) (hc2) (hc3) (hc4) (X16)  (y : S4096x3072.Idx) (h0 : (y 0).val < 128 * t.val) :
    left scM0_0 (Memref.isWhole_whole _) X16 (RB (F := Ideal) m c t hc1 hc2 hc3 hc4 X16).1 y = X16 y := by
  delta RB
  frame_open
  refine (View.read_writes_cons_unit_of_not_mem _ _ _ _ _ _ (off25 t) 0 (Or.inl h0)).trans ?_
  refine (View.read_writes_cons_unit_of_not_mem _ _ _ _ _ _ (off24 t) 0 (Or.inl h0)).trans ?_
  refine (View.read_writes_cons_unit_of_not_mem _ _ _ _ _ _ (off23 t) 0 (Or.inl h0)).trans ?_
  refine (View.read_writes_cons_unit_of_not_mem _ _ _ _ _ _ (off22 t) 0 (Or.inl h0)).trans ?_
  refine (View.read_writes_cons_unit_of_not_mem _ _ _ _ _ _ (off21 t) 0 (Or.inl h0)).trans ?_
  refine (View.read_writes_cons_unit_of_not_mem _ _ _ _ _ _ (off20 t) 0 (Or.inl h0)).trans ?_
  refine (View.read_writes_cons_unit_of_not_mem _ _ _ _ _ _ (off19 t) 0 (Or.inl h0)).trans ?_
  refine (View.read_writes_cons_unit_of_not_mem _ _ _ _ _ _ (off18 t) 0 (Or.inl h0)).trans ?_
  refine (View.read_writes_cons_unit_of_not_mem _ _ _ _ _ _ (off17 t) 0 (Or.inl h0)).trans ?_
  refine (View.read_writes_cons_unit_of_not_mem _ _ _ _ _ _ (off16 t) 0 (Or.inl h0)).trans ?_
  refine (View.read_writes_cons_unit_of_not_mem _ _ _ _ _ _ (off15 t) 0 (Or.inl h0)).trans ?_
  refine (View.read_writes_cons_unit_of_not_mem _ _ _ _ _ _ (off14 t) 0 (Or.inl h0)).trans ?_
  refine (View.read_writes_cons_unit_of_not_mem _ _ _ _ _ _ (off13 t) 0 (Or.inl h0)).trans ?_
  refine (View.read_writes_cons_unit_of_not_mem _ _ _ _ _ _ (off12 t) 0 (Or.inl h0)).trans ?_
  refine (View.read_writes_cons_unit_of_not_mem _ _ _ _ _ _ (off11 t) 0 (Or.inl h0)).trans ?_
  refine (View.read_writes_cons_unit_of_not_mem _ _ _ _ _ _ (off10 t) 0 (Or.inl h0)).trans ?_
  refine (View.read_writes_cons_unit_of_not_mem _ _ _ _ _ _ (off9 t) 0 (Or.inl h0)).trans ?_
  refine (View.read_writes_cons_unit_of_not_mem _ _ _ _ _ _ (off8 t) 0 (Or.inl h0)).trans ?_
  refine (View.read_writes_cons_unit_of_not_mem _ _ _ _ _ _ (off7 t) 0 (Or.inl h0)).trans ?_
  refine (View.read_writes_cons_unit_of_not_mem _ _ _ _ _ _ (off6 t) 0 (Or.inl h0)).trans ?_
  refine (View.read_writes_cons_unit_of_not_mem _ _ _ _ _ _ (off5 t) 0 (Or.inl h0)).trans ?_
  refine (View.read_writes_cons_unit_of_not_mem _ _ _ _ _ _ (off4 t) 0 (Or.inl h0)).trans ?_
  refine (View.read_writes_cons_unit_of_not_mem _ _ _ _ _ _ (off3 t) 0 (Or.inl h0)).trans ?_
  refine (View.read_writes_cons_unit_of_not_mem _ _ _ _ _ _ (off2 t) 0 (Or.inl h0)).trans ?_
  exact congrFun (Memref.IsWhole.read_unread (m := scM0_0) (Memref.isWhole_whole _) X16) y

set_option maxHeartbeats 4000000 in
theorem RA16_new (c : Dev nD) (t : Fin cfg0.N) (hc1) (hc2) (hc3) (hc4) (X16) (X17) (y : S4096x3072.Idx) (ht : t.val < 32) (h0 : 128 * t.val ≤ (y 0).val) (h0' : (y 0).val < 128 * t.val + 128) :
    left scM0_0 (Memref.isWhole_whole _) X16 (RA (F := Ideal) m c t hc1 hc2 hc3 hc4 X16 X17).1 y = B13 (iblk m c 0 t) (iblk m c 3 t) y := by
  delta RA
  frame_open
  simp only [View.readAt_eq_ld, Memref.IsWhole.read_unread]
  have l1 : (y 1).val < 3072 := (y 1).isLt
  obtain ⟨P, hP⟩ : ∃ P, P = (y 1).val % 512 / 256 * 12 + ((y 1).val / 512 * 2 + (y 1).val % 256 / 128) := ⟨_, rfl⟩
  have hp24 : P < 24 := by omega
  refine peelr _ _ _ _ _ _ _ (off25 t) (fun x hx => piece13 _ _ _ 736 t.val 1 1408 2944 (off1_736 t ht) _ _ _ x y (hx 0) (hx 1) (by omega) (by omega) (by omega) (by omega)) (fun hn => ?_)
  have hp23 : P < 23 := by have := not_in (y := fun a => (y a).val) hn; omega
  clear hn
  refine peelr _ _ _ _ _ _ _ (off24 t) (fun x hx => piece13 _ _ _ 672 t.val 1 1280 2816 (off1_672 t ht) _ _ _ x y (hx 0) (hx 1) (by omega) (by omega) (by omega) (by omega)) (fun hn => ?_)
  have hp22 : P < 22 := by have := not_in (y := fun a => (y a).val) hn; omega
  clear hn
  refine peelr _ _ _ _ _ _ _ (off23 t) (fun x hx => piece13 _ _ _ 608 t.val 1 1152 2432 (off1_608 t ht) _ _ _ x y (hx 0) (hx 1) (by omega) (by omega) (by omega) (by omega)) (fun hn => ?_)
  have hp21 : P < 21 := by have := not_in (y := fun a => (y a).val) hn; omega
  clear hn
  refine peelr _ _ _ _ _ _ _ (off22 t) (fun x hx => piece13 _ _ _ 544 t.val 1 1024 2304 (off1_544 t ht) _ _ _ x y (hx 0) (hx 1) (by omega) (by omega) (by omega) (by omega)) (fun hn => ?_)
  have hp20 : P < 20 := by have := not_in (y := fun a => (y a).val) hn; omega
  clear hn
  refine peelr _ _ _ _ _ _ _ (off21 t) (fun x hx => piece13 _ _ _ 480 t.val 1 896 1920 (off1_480 t ht) _ _ _ x y (hx 0) (hx 1) (by omega) (by omega) (by omega) (by omega)) (fun hn => ?_)
  have hp19 : P < 19 := by have := not_in (y := fun a => (y a).val) hn; omega
  clear hn
  refine peelr _ _ _ _ _ _ _ (off20 t) (fun x hx => piece13 _ _ _ 416 t.val 1 768 1792 (off1_416 t ht) _ _ _ x y (hx 0) (hx 1) (by omega) (by omega) (by omega) (by omega)) (fun hn => ?_)
  have hp18 : P < 18 := by have := not_in (y := fun a => (y a).val) hn; omega
  clear hn
  refine peelr _ _ _ _ _ _ _ (off19 t) (fun x hx => piece13 _ _ _ 352 t.val 1 640 1408 (off1_352 t ht) _ _ _ x y (hx 0) (hx 1) (by omega) (by omega) (by omega) (by omega)) (fun hn => ?_)
  have hp17 : P < 17 := by have := not_in (y := fun a => (y a).val) hn; omega
  clear hn
  refine peelr _ _ _ _ _ _ _ (off18 t) (fun x hx => piece13 _ _ _ 288 t.val 1 512 1280 (off1_288 t ht) _ _ _ x y (hx 0) (hx 1) (by omega) (by omega) (by omega) (by omega)) (fun hn => ?_)
  have hp16 : P < 16 := by have := not_in (y := fun a => (y a).val) hn; omega
  clear hn
  refine peelr _ _ _ _ _ _ _ (off17 t) (fun x hx => piece13 _ _ _ 224 t.val 1 384 896 (off1_224 t ht) _ _ _ x y (hx 0) (hx 1) (by omega) (by omega) (by omega) (by omega)) (fun hn => ?_)
  have hp15 : P < 15 := by have := not_in (y := fun a => (y a).val) hn; omega
  clear hn
  refine peelr _ _ _ _ _ _ _ (off16 t) (fun x hx => piece13 _ _ _ 160 t.val 1 256 768 (off1_160 t ht) _ _ _ x y (hx 0) (hx 1) (by omega) (by omega) (by omega) (by omega)) (fun hn => ?_)
  have hp14 : P < 14 := by have := not_in (y := fun a => (y a).val) hn; omega
  clear hn
  refine peelr _ _ _ _ _ _ _ (off15 t) (fun x hx => piece13 _ _ _ 96 t.val 1 128 384 (off1_96 t ht) _ _ _ x y (hx 0) (hx 1) (by omega) (by omega) (by omega) (by omega)) (fun hn => ?_)
  have hp13 : P < 13 := by have := not_in (y := fun a => (y a).val) hn; omega
  clear hn
  refine peelr _ _ _ _ _ _ _ (off14 t) (fun x hx => piece13 _ _ _ 32 t.val 1 0 256 (off1_32 t ht) _ _ _ x y (hx 0) (hx 1) (by omega) (by omega) (by omega) (by omega)) (fun hn => ?_)
  have hp12 : P < 12 := by have := not_in (y := fun a => (y a).val) hn; omega
  clear hn
  refine peelr _ _ _ _ _ _ _ (off13 t) (fun x hx => piece13 _ _ _ 704 t.val 0 1408 2688 (off1_704 t ht) _ _ _ x y (hx 0) (hx 1) (by omega) (by omega) (by omega) (by omega)) (fun hn => ?_)
  have hp11 : P < 11 := by have := not_in (y := fun a => (y a).val) hn; omega
  clear hn
  refine peelr _ _ _ _ _ _ _ (off12 t) (fun x hx => piece13 _ _ _ 640 t.val 0 1280 2560 (off1_640 t ht) _ _ _ x y (hx 0) (hx 1) (by omega) (by omega) (by omega) (by omega)) (fun hn => ?_)
  have hp10 : P < 10 := by have := not_in (y := fun a => (y a).val) hn; omega
  clear hn
  refine peelr _ _ _ _ _ _ _ (off11 t) (fun x hx => piece13 _ _ _ 576 t.val 0 1152 2176 (off1_576 t ht) _ _ _ x y (hx 0) (hx 1) (by omega) (by omega) (by omega) (by omega)) (fun hn => ?_)
  have hp9 : P < 9 := by have := not_in (y := fun a => (y a).val) hn; omega
  clear hn
  refine peelr _ _ _ _ _ _ _ (off10 t) (fun x hx => piece13 _ _ _ 512 t.val 0 1024 2048 (off1_512 t ht) _ _ _ x y (hx 0) (hx 1) (by omega) (by omega) (by omega) (by omega)) (fun hn => ?_)
  have hp8 : P < 8 := by have := not_in (y := fun a => (y a).val) hn; omega
  clear hn
  refine peelr _ _ _ _ _ _ _ (off9 t) (fun x hx => piece13 _ _ _ 448 t.val 0 896 1664 (off1_448 t ht) _ _ _ x y (hx 0) (hx 1) (by omega) (by omega) (by omega) (by omega)) (fun hn => ?_)
  have hp7 : P < 7 := by have := not_in (y := fun a => (y a).val) hn; omega
  clear hn
  refine peelr _ _ _ _ _ _ _ (off8 t) (fun x hx => piece13 _ _ _ 384 t.val 0 768 1536 (off1_384 t ht) _ _ _ x y (hx 0) (hx 1) (by omega) (by omega) (by omega) (by omega)) (fun hn => ?_)
  have hp6 : P < 6 := by have := not_in (y := fun a => (y a).val) hn; omega
  clear hn
  refine peelr _ _ _ _ _ _ _ (off7 t) (fun x hx => piece13 _ _ _ 320 t.val 0 640 1152 (off1_320 t ht) _ _ _ x y (hx 0) (hx 1) (by omega) (by omega) (by omega) (by omega)) (fun hn => ?_)
  have hp5 : P < 5 := by have := not_in (y := fun a => (y a).val) hn; omega
  clear hn
  refine peelr _ _ _ _ _ _ _ (off6 t) (fun x hx => piece13 _ _ _ 256 t.val 0 512 1024 (off1_256 t ht) _ _ _ x y (hx 0) (hx 1) (by omega) (by omega) (by omega) (by omega)) (fun hn => ?_)
  have hp4 : P < 4 := by have := not_in (y := fun a => (y a).val) hn; omega
  clear hn
  refine peelr _ _ _ _ _ _ _ (off5 t) (fun x hx => piece13 _ _ _ 192 t.val 0 384 640 (off1_192 t ht) _ _ _ x y (hx 0) (hx 1) (by omega) (by omega) (by omega) (by omega)) (fun hn => ?_)
  have hp3 : P < 3 := by have := not_in (y := fun a => (y a).val) hn; omega
  clear hn
  refine peelr _ _ _ _ _ _ _ (off4 t) (fun x hx => piece13 _ _ _ 128 t.val 0 256 512 (off1_128 t ht) _ _ _ x y (hx 0) (hx 1) (by omega) (by omega) (by omega) (by omega)) (fun hn => ?_)
  have hp2 : P < 2 := by have := not_in (y := fun a => (y a).val) hn; omega
  clear hn
  refine peelr _ _ _ _ _ _ _ (off3 t) (fun x hx => piece13 _ _ _ 64 t.val 0 128 128 (off1_64 t ht) _ _ _ x y (hx 0) (hx 1) (by omega) (by omega) (by omega) (by omega)) (fun hn => ?_)
  have hp1 : P < 1 := by have := not_in (y := fun a => (y a).val) hn; omega
  clear hn
  refine peelr _ _ _ _ _ _ _ (off2 t) (fun x hx => piece13 _ _ _ 0 t.val 0 0 0 (off1_0 t ht) _ _ _ x y (hx 0) (hx 1) (by omega) (by omega) (by omega) (by omega)) (fun hn => ?_)
  have hp0 : P < 0 := by have := not_in (y := fun a => (y a).val) hn; omega
  clear hn
  exact absurd hp0 (by omega)

set_option maxHeartbeats 4000000 in
theorem RA16_old (c : Dev nD) (t : Fin cfg0.N) (hc1) (hc2) (hc3) (hc4) (X16) (X17) (y : S4096x3072.Idx) (h0 : (y 0).val < 128 * t.val) :
    left scM0_0 (Memref.isWhole_whole _) X16 (RA (F := Ideal) m c t hc1 hc2 hc3 hc4 X16 X17).1 y = X16 y := by
  delta RA
  frame_open
  refine (View.read_writes_cons_unit_of_not_mem _ _ _ _ _ _ (off25 t) 0 (Or.inl h0)).trans ?_
  refine (View.read_writes_cons_unit_of_not_mem _ _ _ _ _ _ (off24 t) 0 (Or.inl h0)).trans ?_
  refine (View.read_writes_cons_unit_of_not_mem _ _ _ _ _ _ (off23 t) 0 (Or.inl h0)).trans ?_
  refine (View.read_writes_cons_unit_of_not_mem _ _ _ _ _ _ (off22 t) 0 (Or.inl h0)).trans ?_
  refine (View.read_writes_cons_unit_of_not_mem _ _ _ _ _ _ (off21 t) 0 (Or.inl h0)).trans ?_
  refine (View.read_writes_cons_unit_of_not_mem _ _ _ _ _ _ (off20 t) 0 (Or.inl h0)).trans ?_
  refine (View.read_writes_cons_unit_of_not_mem _ _ _ _ _ _ (off19 t) 0 (Or.inl h0)).trans ?_
  refine (View.read_writes_cons_unit_of_not_mem _ _ _ _ _ _ (off18 t) 0 (Or.inl h0)).trans ?_
  refine (View.read_writes_cons_unit_of_not_mem _ _ _ _ _ _ (off17 t) 0 (Or.inl h0)).trans ?_
  refine (View.read_writes_cons_unit_of_not_mem _ _ _ _ _ _ (off16 t) 0 (Or.inl h0)).trans ?_
  refine (View.read_writes_cons_unit_of_not_mem _ _ _ _ _ _ (off15 t) 0 (Or.inl h0)).trans ?_
  refine (View.read_writes_cons_unit_of_not_mem _ _ _ _ _ _ (off14 t) 0 (Or.inl h0)).trans ?_
  refine (View.read_writes_cons_unit_of_not_mem _ _ _ _ _ _ (off13 t) 0 (Or.inl h0)).trans ?_
  refine (View.read_writes_cons_unit_of_not_mem _ _ _ _ _ _ (off12 t) 0 (Or.inl h0)).trans ?_
  refine (View.read_writes_cons_unit_of_not_mem _ _ _ _ _ _ (off11 t) 0 (Or.inl h0)).trans ?_
  refine (View.read_writes_cons_unit_of_not_mem _ _ _ _ _ _ (off10 t) 0 (Or.inl h0)).trans ?_
  refine (View.read_writes_cons_unit_of_not_mem _ _ _ _ _ _ (off9 t) 0 (Or.inl h0)).trans ?_
  refine (View.read_writes_cons_unit_of_not_mem _ _ _ _ _ _ (off8 t) 0 (Or.inl h0)).trans ?_
  refine (View.read_writes_cons_unit_of_not_mem _ _ _ _ _ _ (off7 t) 0 (Or.inl h0)).trans ?_
  refine (View.read_writes_cons_unit_of_not_mem _ _ _ _ _ _ (off6 t) 0 (Or.inl h0)).trans ?_
  refine (View.read_writes_cons_unit_of_not_mem _ _ _ _ _ _ (off5 t) 0 (Or.inl h0)).trans ?_
  refine (View.read_writes_cons_unit_of_not_mem _ _ _ _ _ _ (off4 t) 0 (Or.inl h0)).trans ?_
  refine (View.read_writes_cons_unit_of_not_mem _ _ _ _ _ _ (off3 t) 0 (Or.inl h0)).trans ?_
  refine (View.read_writes_cons_unit_of_not_mem _ _ _ _ _ _ (off2 t) 0 (Or.inl h0)).trans ?_
  exact congrFun (Memref.IsWhole.read_unread (m := scM0_0) (Memref.isWhole_whole _) X16) y

set_option maxHeartbeats 4000000 in
theorem RA17_new (c : Dev nD) (t : Fin cfg0.N) (hc1) (hc2) (hc3) (hc4) (X16) (X17) (y : S1536x4096.Idx) (ht : t.val < 12) (h0 : 128 * t.val ≤ (y 0).val) (h0' : (y 0).val < 128 * t.val + 128) :
    left scM0_1 (Memref.isWhole_whole _) X17 (RA (F := Ideal) m c t hc1 hc2 hc3 hc4 X16 X17).2.1 y = B2 (iblk m c 1 t) (iblk m c 4 t) y := by
  delta RA
  frame_open
  simp only [View.readAt_eq_ld, Memref.IsWhole.read_unread]
  have l1 : (y 1).val < 4096 := (y 1).isLt
  refine peelr _ _ _ _ _ _ _ (off58 t) (fun x hx => piece2 _ _ _ t.val 31 3968 (off26_31 t ht) _ _ _ x y (hx 0) (hx 1) rfl) (fun hn => ?_)
  have hp31 : (y 1).val < 3968 := by have := not_in (y := fun a => (y a).val) hn; omega
  clear hn
  refine peelr _ _ _ _ _ _ _ (off57 t) (fun x hx => piece2 _ _ _ t.val 30 3840 (off26_30 t ht) _ _ _ x y (hx 0) (hx 1) rfl) (fun hn => ?_)
  have hp30 : (y 1).val < 3840 := by have := not_in (y := fun a => (y a).val) hn; omega
  clear hn
  refine peelr _ _ _ _ _ _ _ (off56 t) (fun x hx => piece2 _ _ _ t.val 29 3712 (off26_29 t ht) _ _ _ x y (hx 0) (hx 1) rfl) (fun hn => ?_)
  have hp29 : (y 1).val < 3712 := by have := not_in (y := fun a => (y a).val) hn; omega
  clear hn
  refine peelr _ _ _ _ _ _ _ (off55 t) (fun x hx => piece2 _ _ _ t.val 28 3584 (off26_28 t ht) _ _ _ x y (hx 0) (hx 1) rfl) (fun hn => ?_)
  have hp28 : (y 1).val < 3584 := by have := not_in (y := fun a => (y a).val) hn; omega
  clear hn
  refine peelr _ _ _ _ _ _ _ (off54 t) (fun x hx => piece2 _ _ _ t.val 27 3456 (off26_27 t ht) _ _ _ x y (hx 0) (hx 1) rfl) (fun hn => ?_)
  have hp27 : (y 1).val < 3456 := by have := not_in (y := fun a => (y a).val) hn; omega
  clear hn
  refine peelr _ _ _ _ _ _ _ (off53 t) (fun x hx => piece2 _ _ _ t.val 26 3328 (off26_26 t ht) _ _ _ x y (hx 0) (hx 1) rfl) (fun hn => ?_)
  have hp26 : (y 1).val < 3328 := by have := not_in (y := fun a => (y a).val) hn; omega
  clear hn
  refine peelr _ _ _ _ _ _ _ (off52 t) (fun x hx => piece2 _ _ _ t.val 25 3200 (off26_25 t ht) _ _ _ x y (hx 0) (hx 1) rfl) (fun hn => ?_)
  have hp25 : (y 1).val < 3200 := by have := not_in (y := fun a => (y a).val) hn; omega
  clear hn
  refine peelr _ _ _ _ _ _ _ (off51 t) (fun x hx => piece2 _ _ _ t.val 24 3072 (off26_24 t ht) _ _ _ x y (hx 0) (hx 1) rfl) (fun hn => ?_)
  have hp24 : (y 1).val < 3072 := by have := not_in (y := fun a => (y a).val) hn; omega
  clear hn
  refine peelr _ _ _ _ _ _ _ (off50 t) (fun x hx => piece2 _ _ _ t.val 23 2944 (off26_23 t ht) _ _ _ x y (hx 0) (hx 1) rfl) (fun hn => ?_)
  have hp23 : (y 1).val < 2944 := by have := not_in (y := fun a => (y a).val) hn; omega
  clear hn
  refine peelr _ _ _ _ _ _ _ (off49 t) (fun x hx => piece2 _ _ _ t.val 22 2816 (off26_22 t ht) _ _ _ x y (hx 0) (hx 1) rfl) (fun hn => ?_)
  have hp22 : (y 1).val < 2816 := by have := not_in (y := fun a => (y a).val) hn; omega
  clear hn
  refine peelr _ _ _ _ _ _ _ (off48 t) (fun x hx => piece2 _ _ _ t.val 21 2688 (off26_21 t ht) _ _ _ x y (hx 0) (hx 1) rfl) (fun hn => ?_)
  have hp21 : (y 1).val < 2688 := by have := not_in (y := fun a => (y a).val) hn; omega
  clear hn
  refine peelr _ _ _ _ _ _ _ (off47 t) (fun x hx => piece2 _ _ _ t.val 20 2560 (off26_20 t ht) _ _ _ x y (hx 0) (hx 1) rfl) (fun hn => ?_)
  have hp20 : (y 1).val < 2560 := by have := not_in (y := fun a => (y a).val) hn; omega
  clear hn
  refine peelr _ _ _ _ _ _ _ (off46 t) (fun x hx => piece2 _ _ _ t.val 19 2432 (off26_19 t ht) _ _ _ x y (hx 0) (hx 1) rfl) (fun hn => ?_)
  have hp19 : (y 1).val < 2432 := by have := not_in (y := fun a => (y a).val) hn; omega
  clear hn
  refine peelr _ _ _ _ _ _ _ (off45 t) (fun x hx => piece2 _ _ _ t.val 18 2304 (off26_18 t ht) _ _ _ x y (hx 0) (hx 1) rfl) (fun hn => ?_)
  have hp18 : (y 1).val < 2304 := by have := not_in (y := fun a => (y a).val) hn; omega
  clear hn
  refine peelr _ _ _ _ _ _ _ (off44 t) (fun x hx => piece2 _ _ _ t.val 17 2176 (off26_17 t ht) _ _ _ x y (hx 0) (hx 1) rfl) (fun hn => ?_)
  have hp17 : (y 1).val < 2176 := by have := not_in (y := fun a => (y a).val) hn; omega
  clear hn
  refine peelr _ _ _ _ _ _ _ (off43 t) (fun x hx => piece2 _ _ _ t.val 16 2048 (off26_16 t ht) _ _ _ x y (hx 0) (hx 1) rfl) (fun hn => ?_)
  have hp16 : (y 1).val < 2048 := by have := not_in (y := fun a => (y a).val) hn; omega
  clear hn
  refine peelr _ _ _ _ _ _ _ (off42 t) (fun x hx => piece2 _ _ _ t.val 15 1920 (off26_15 t ht) _ _ _ x y (hx 0) (hx 1) rfl) (fun hn => ?_)
  have hp15 : (y 1).val < 1920 := by have := not_in (y := fun a => (y a).val) hn; omega
  clear hn
  refine peelr _ _ _ _ _ _ _ (off41 t) (fun x hx => piece2 _ _ _ t.val 14 1792 (off26_14 t ht) _ _ _ x y (hx 0) (hx 1) rfl) (fun hn => ?_)
  have hp14 : (y 1).val < 1792 := by have := not_in (y := fun a => (y a).val) hn; omega
  clear hn
  refine peelr _ _ _ _ _ _ _ (off40 t) (fun x hx => piece2 _ _ _ t.val 13 1664 (off26_13 t ht) _ _ _ x y (hx 0) (hx 1) rfl) (fun hn => ?_)
  have hp13 : (y 1).val < 1664 := by have := not_in (y := fun a => (y a).val) hn; omega
  clear hn
  refine peelr _ _ _ _ _ _ _ (off39 t) (fun x hx => piece2 _ _ _ t.val 12 1536 (off26_12 t ht) _ _ _ x y (hx 0) (hx 1) rfl) (fun hn => ?_)
  have hp12 : (y 1).val < 1536 := by have := not_in (y := fun a => (y a).val) hn; omega
  clear hn
  refine peelr _ _ _ _ _ _ _ (off38 t) (fun x hx => piece2 _ _ _ t.val 11 1408 (off26_11 t ht) _ _ _ x y (hx 0) (hx 1) rfl) (fun hn => ?_)
  have hp11 : (y 1).val < 1408 := by have := not_in (y := fun a => (y a).val) hn; omega
  clear hn
  refine peelr _ _ _ _ _ _ _ (off37 t) (fun x hx => piece2 _ _ _ t.val 10 1280 (off26_10 t ht) _ _ _ x y (hx 0) (hx 1) rfl) (fun hn => ?_)
  have hp10 : (y 1).val < 1280 := by have := not_in (y := fun a => (y a).val) hn; omega
  clear hn
  refine peelr _ _ _ _ _ _ _ (off36 t) (fun x hx => piece2 _ _ _ t.val 9 1152 (off26_9 t ht) _ _ _ x y (hx 0) (hx 1) rfl) (fun hn => ?_)
  have hp9 : (y 1).val < 1152 := by have := not_in (y := fun a => (y a).val) hn; omega
  clear hn
  refine peelr _ _ _ _ _ _ _ (off35 t) (fun x hx => piece2 _ _ _ t.val 8 1024 (off26_8 t ht) _ _ _ x y (hx 0) (hx 1) rfl) (fun hn => ?_)
  have hp8 : (y 1).val < 1024 := by have := not_in (y := fun a => (y a).val) hn; omega
  clear hn
  refine peelr _ _ _ _ _ _ _ (off34 t) (fun x hx => piece2 _ _ _ t.val 7 896 (off26_7 t ht) _ _ _ x y (hx 0) (hx 1) rfl) (fun hn => ?_)
  have hp7 : (y 1).val < 896 := by have := not_in (y := fun a => (y a).val) hn; omega
  clear hn
  refine peelr _ _ _ _ _ _ _ (off33 t) (fun x hx => piece2 _ _ _ t.val 6 768 (off26_6 t ht) _ _ _ x y (hx 0) (hx 1) rfl) (fun hn => ?_)
  have hp6 : (y 1).val < 768 := by have := not_in (y := fun a => (y a).val) hn; omega
  clear hn
  refine peelr _ _ _ _ _ _ _ (off32 t) (fun x hx => piece2 _ _ _ t.val 5 640 (off26_5 t ht) _ _ _ x y (hx 0) (hx 1) rfl) (fun hn => ?_)
  have hp5 : (y 1).val < 640 := by have := not_in (y := fun a => (y a).val) hn; omega
  clear hn
  refine peelr _ _ _ _ _ _ _ (off31 t) (fun x hx => piece2 _ _ _ t.val 4 512 (off26_4 t ht) _ _ _ x y (hx 0) (hx 1) rfl) (fun hn => ?_)
  have hp4 : (y 1).val < 512 := by have := not_in (y := fun a => (y a).val) hn; omega
  clear hn
  refine peelr _ _ _ _ _ _ _ (off30 t) (fun x hx => piece2 _ _ _ t.val 3 384 (off26_3 t ht) _ _ _ x y (hx 0) (hx 1) rfl) (fun hn => ?_)
  have hp3 : (y 1).val < 384 := by have := not_in (y := fun a => (y a).val) hn; omega
  clear hn
  refine peelr _ _ _ _ _ _ _ (off29 t) (fun x hx => piece2 _ _ _ t.val 2 256 (off26_2 t ht) _ _ _ x y (hx 0) (hx 1) rfl) (fun hn => ?_)
  have hp2 : (y 1).val < 256 := by have := not_in (y := fun a => (y a).val) hn; omega
  clear hn
  refine peelr _ _ _ _ _ _ _ (off28 t) (fun x hx => piece2 _ _ _ t.val 1 128 (off26_1 t ht) _ _ _ x y (hx 0) (hx 1) rfl) (fun hn => ?_)
  have hp1 : (y 1).val < 128 := by have := not_in (y := fun a => (y a).val) hn; omega
  clear hn
  refine peelr _ _ _ _ _ _ _ (off27 t) (fun x hx => piece2 _ _ _ t.val 0 0 (off26_0 t ht) _ _ _ x y (hx 0) (hx 1) rfl) (fun hn => ?_)
  have hp0 : (y 1).val < 0 := by have := not_in (y := fun a => (y a).val) hn; omega
  clear hn
  exact absurd hp0 (by omega)

set_option maxHeartbeats 4000000 in
theorem RA17_old (c : Dev nD) (t : Fin cfg0.N) (hc1) (hc2) (hc3) (hc4) (X16) (X17) (y : S1536x4096.Idx) (h0 : (y 0).val < 128 * t.val) :
    left scM0_1 (Memref.isWhole_whole _) X17 (RA (F := Ideal) m c t hc1 hc2 hc3 hc4 X16 X17).2.1 y = X17 y := by
  delta RA
  frame_open
  refine (View.read_writes_cons_unit_of_not_mem _ _ _ _ _ _ (off58 t) 0 (Or.inl h0)).trans ?_
  refine (View.read_writes_cons_unit_of_not_mem _ _ _ _ _ _ (off57 t) 0 (Or.inl h0)).trans ?_
  refine (View.read_writes_cons_unit_of_not_mem _ _ _ _ _ _ (off56 t) 0 (Or.inl h0)).trans ?_
  refine (View.read_writes_cons_unit_of_not_mem _ _ _ _ _ _ (off55 t) 0 (Or.inl h0)).trans ?_
  refine (View.read_writes_cons_unit_of_not_mem _ _ _ _ _ _ (off54 t) 0 (Or.inl h0)).trans ?_
  refine (View.read_writes_cons_unit_of_not_mem _ _ _ _ _ _ (off53 t) 0 (Or.inl h0)).trans ?_
  refine (View.read_writes_cons_unit_of_not_mem _ _ _ _ _ _ (off52 t) 0 (Or.inl h0)).trans ?_
  refine (View.read_writes_cons_unit_of_not_mem _ _ _ _ _ _ (off51 t) 0 (Or.inl h0)).trans ?_
  refine (View.read_writes_cons_unit_of_not_mem _ _ _ _ _ _ (off50 t) 0 (Or.inl h0)).trans ?_
  refine (View.read_writes_cons_unit_of_not_mem _ _ _ _ _ _ (off49 t) 0 (Or.inl h0)).trans ?_
  refine (View.read_writes_cons_unit_of_not_mem _ _ _ _ _ _ (off48 t) 0 (Or.inl h0)).trans ?_
  refine (View.read_writes_cons_unit_of_not_mem _ _ _ _ _ _ (off47 t) 0 (Or.inl h0)).trans ?_
  refine (View.read_writes_cons_unit_of_not_mem _ _ _ _ _ _ (off46 t) 0 (Or.inl h0)).trans ?_
  refine (View.read_writes_cons_unit_of_not_mem _ _ _ _ _ _ (off45 t) 0 (Or.inl h0)).trans ?_
  refine (View.read_writes_cons_unit_of_not_mem _ _ _ _ _ _ (off44 t) 0 (Or.inl h0)).trans ?_
  refine (View.read_writes_cons_unit_of_not_mem _ _ _ _ _ _ (off43 t) 0 (Or.inl h0)).trans ?_
  refine (View.read_writes_cons_unit_of_not_mem _ _ _ _ _ _ (off42 t) 0 (Or.inl h0)).trans ?_
  refine (View.read_writes_cons_unit_of_not_mem _ _ _ _ _ _ (off41 t) 0 (Or.inl h0)).trans ?_
  refine (View.read_writes_cons_unit_of_not_mem _ _ _ _ _ _ (off40 t) 0 (Or.inl h0)).trans ?_
  refine (View.read_writes_cons_unit_of_not_mem _ _ _ _ _ _ (off39 t) 0 (Or.inl h0)).trans ?_
  refine (View.read_writes_cons_unit_of_not_mem _ _ _ _ _ _ (off38 t) 0 (Or.inl h0)).trans ?_
  refine (View.read_writes_cons_unit_of_not_mem _ _ _ _ _ _ (off37 t) 0 (Or.inl h0)).trans ?_
  refine (View.read_writes_cons_unit_of_not_mem _ _ _ _ _ _ (off36 t) 0 (Or.inl h0)).trans ?_
  refine (View.read_writes_cons_unit_of_not_mem _ _ _ _ _ _ (off35 t) 0 (Or.inl h0)).trans ?_
  refine (View.read_writes_cons_unit_of_not_mem _ _ _ _ _ _ (off34 t) 0 (Or.inl h0)).trans ?_
  refine (View.read_writes_cons_unit_of_not_mem _ _ _ _ _ _ (off33 t) 0 (Or.inl h0)).trans ?_
  refine (View.read_writes_cons_unit_of_not_mem _ _ _ _ _ _ (off32 t) 0 (Or.inl h0)).trans ?_
  refine (View.read_writes_cons_unit_of_not_mem _ _ _ _ _ _ (off31 t) 0 (Or.inl h0)).trans ?_
  refine (View.read_writes_cons_unit_of_not_mem _ _ _ _ _ _ (off30 t) 0 (Or.inl h0)).trans ?_
  refine (View.read_writes_cons_unit_of_not_mem _ _ _ _ _ _ (off29 t) 0 (Or.inl h0)).trans ?_
  refine (View.read_writes_cons_unit_of_not_mem _ _ _ _ _ _ (off28 t) 0 (Or.inl h0)).trans ?_
  refine (View.read_writes_cons_unit_of_not_mem _ _ _ _ _ _ (off27 t) 0 (Or.inl h0)).trans ?_
  exact congrFun (Memref.IsWhole.read_unread (m := scM0_1) (Memref.isWhole_whole _) X17) y

end Cert.FwdHand

end
-- ==== Proof.FwdStep.lean ====
module

public import proofs.«01_k».proof.Proof.FwdWeights
public import proofs.«01_k».proof.Proof.FwdUnit

@[expose] public section
set_option maxRecDepth 16384
set_option maxHeartbeats 4000000
noncomputable section
namespace Cert.FwdHand
open Cert.FwdIdeal Cert.FwdIdeal.Gen Idealize.ShloMosaic Idealize.ShloMosaic.TcCoe Idealize.SL.Sem
variable (m : (ℓ : Loc nD τ sig) → Buf (Elt Ideal) ℓ)

/-! ## What a point of the pipeline's main part leaves -/

/-- A tile of activations, quantized in groups of 128 and scaled back. -/
def XM (x : Vec Ideal S256x4096 .bf16) : Vec Ideal S256x4096 .bf16 := fun y =>
  HAT (AMAX fun j => x (ix2 (y 0) (⟨(y 1).val / 128 * 128 + j.val, by have : (y 1).val < 4096 := (y 1).isLt; omega⟩ : Fin 4096))) (x y)

/-- The tile against the first weight. -/
def GM (X18 : Vec Ideal S256x4096 .bf16) (X16 : Vec Ideal S4096x3072 .bf16) : Vec Ideal S256x3072 .f32 := fun y =>
  ∑ k : Fin 4096, HMul.hMul (α := EReal) (β := EReal) (X18 (ix2 (y 0) k)) (X16 (ix2 k (y 1)))

/-- The column of those products that holds half `g` of hidden unit `f`. -/
def gcol (g : ℕ) (hg : g < 2) (f : ℕ) (hf : f < 1536) : Fin 3072 := ⟨f / 256 * 512 + g * 256 + f % 256, by omega⟩

/-- The gated products of a tile, quantized in groups of 128 and scaled back. -/
def HM (G : Vec Ideal S256x3072 .f32) : Vec Ideal S256x1536 .bf16 := fun y =>
  HAT (AMAX fun j => GATE (G (ix2 (y 0) (gcol 0 (by decide) ((y 1).val / 128 * 128 + j.val) (by have : (y 1).val < 1536 := (y 1).isLt; omega))))
      (G (ix2 (y 0) (gcol 1 (by decide) ((y 1).val / 128 * 128 + j.val) (by have : (y 1).val < 1536 := (y 1).isLt; omega)))))
    (GATE (G (ix2 (y 0) (gcol 0 (by decide) (y 1).val (y 1).isLt))) (G (ix2 (y 0) (gcol 1 (by decide) (y 1).val (y 1).isLt))))

/-- Those against the second weight. -/
def YM (H : Vec Ideal S256x1536 .bf16) (X17 : Vec Ideal S1536x4096 .bf16) : Vec Ideal S256x4096 .bf16 := fun y =>
  ∑ f : Fin 1536, HMul.hMul (α := EReal) (β := EReal) (H (ix2 (y 0) f)) (X17 (ix2 f (y 1)))

theorem piece_x (v : Vec Ideal S256x4096 .bf16) (r o : ℕ)
    (inb : ∀ a : Fin S256x4096.rank, (![r, o] : Fin 2 → ℕ) a + (![128, 128] : Fin 2 → ℕ) a ≤ S256x4096.size a)
    (x : S128x128.Idx) (y : S256x4096.Idx) (h0 : (y 0).val = r + (x 0).val) (h1 : (y 1).val = o + (x 1).val) (ho : o % 128 = 0) :
    ROWHAT (View.ld (Val := Elt Ideal) (S := S256x4096) (e' := .bf16) v (Rect.unit ![r, o] ![128, 128] inb)) x = XM v y := by
  rw [row_apply]
  have l0 : (x 0).val < 128 := (x 0).isLt
  have l1 : (x 1).val < 128 := (x 1).isLt
  unfold XM View.ld
  congr 1
  · congr 1
    funext j
    congr 1
    funext a
    fin_cases a <;> apply Fin.ext
    · show r + 1 * (x 0).val = (y 0).val
      omega
    · show o + 1 * j.val = (y 1).val / 128 * 128 + j.val
      omega
  · congr 1
    funext a
    fin_cases a <;> apply Fin.ext
    · show r + 1 * (x 0).val = (y 0).val
      omega
    · show o + 1 * (x 1).val = (y 1).val
      omega

theorem piece_g (X18 : Vec Ideal S256x4096 .bf16) (X16 : Vec Ideal S4096x3072 .bf16) (o : ℕ)
    (inb : ∀ a : Fin S256x4096.rank, (![0, 0] : Fin 2 → ℕ) a + (![256, 4096] : Fin 2 → ℕ) a ≤ S256x4096.size a)
    (inb' : ∀ a : Fin S4096x3072.rank, (![0, o] : Fin 2 → ℕ) a + (![4096, 512] : Fin 2 → ℕ) a ≤ S4096x3072.size a)
    (x : S256x512.Idx) (y : S256x3072.Idx) (h0 : (y 0).val = 0 + (x 0).val) (h1 : (y 1).val = o + (x 1).val) :
    k0_pay959 (F := Ideal) (View.ld (Val := Elt Ideal) (S := S256x4096) (e' := .bf16) X18 (Rect.unit ![0, 0] ![256, 4096] inb))
      (View.ld (Val := Elt Ideal) (S := S4096x3072) (e' := .bf16) X16 (Rect.unit ![0, o] ![4096, 512] inb')) x = GM X18 X16 y := by
  rw [g_apply]
  unfold GM View.ld
  refine Finset.sum_congr rfl fun k _ => ?_
  congr 2
  · funext a
    fin_cases a <;> apply Fin.ext
    · show 0 + 1 * (x 0).val = (y 0).val
      omega
    · show 0 + 1 * k.val = k.val
      omega
  · funext a
    fin_cases a <;> apply Fin.ext
    · show 0 + 1 * k.val = k.val
      omega
    · show o + 1 * (x 1).val = (y 1).val
      omega

theorem piece_h (G : Vec Ideal S256x3072 .f32) (r oa ob f0 : ℕ)
    (inb : ∀ a : Fin S256x3072.rank, (![r, oa] : Fin 2 → ℕ) a + (![128, 128] : Fin 2 → ℕ) a ≤ S256x3072.size a)
    (inb' : ∀ a : Fin S256x3072.rank, (![r, ob] : Fin 2 → ℕ) a + (![128, 128] : Fin 2 → ℕ) a ≤ S256x3072.size a)
    (x : S128x128.Idx) (y : S256x1536.Idx) (h0 : (y 0).val = r + (x 0).val) (h1 : (y 1).val = f0 + (x 1).val)
    (hf : f0 % 128 = 0) (ha : oa = f0 / 256 * 512 + f0 % 256) (hb : ob = f0 / 256 * 512 + 256 + f0 % 256) :
    HROWHAT (View.ld (Val := Elt Ideal) (S := S256x3072) (e' := .f32) G (Rect.unit ![r, oa] ![128, 128] inb))
      (View.ld (Val := Elt Ideal) (S := S256x3072) (e' := .f32) G (Rect.unit ![r, ob] ![128, 128] inb')) x = HM G y := by
  rw [hrow_apply]
  have l0 : (x 0).val < 128 := (x 0).isLt
  have l1 : (x 1).val < 128 := (x 1).isLt
  unfold HM View.ld gcol
  have key : ∀ (o g : ℕ) (inb) (j : ℕ) (hj : j < 128) (hg : g < 2) (ho : o = f0 / 256 * 512 + g * 256 + f0 % 256) (z : S128x128.Idx) (f : ℕ) (hf' : f < 1536)
      (hz0 : (z 0).val = (x 0).val) (hz1 : (z 1).val = j) (hfj : f = f0 + j),
      G ((Rect.unit (s := S256x3072) ![r, o] ![128, 128] inb).emb z) = G (ix2 (y 0) (⟨f / 256 * 512 + g * 256 + f % 256, by omega⟩ : Fin 3072)) := by
    intro o g inb j hj hg ho z f hf' hz0 hz1 hfj
    congr 1
    funext a
    fin_cases a <;> apply Fin.ext
    · show r + 1 * (z 0).val = (y 0).val
      omega
    · show o + 1 * (z 1).val = f / 256 * 512 + g * 256 + f % 256
      omega
  congr 1
  · congr 1
    funext j
    congr 1
    · exact key oa 0 inb j.val j.isLt (by decide) (by omega) (ix2 (x 0) j) ((y 1).val / 128 * 128 + j.val) (by have := j.isLt; have : (y 1).val < 1536 := (y 1).isLt; omega) rfl rfl (by omega)
    · exact key ob 1 inb' j.val j.isLt (by decide) (by omega) (ix2 (x 0) j) ((y 1).val / 128 * 128 + j.val) (by have := j.isLt; have : (y 1).val < 1536 := (y 1).isLt; omega) rfl rfl (by omega)
  · congr 1
    · exact key oa 0 inb (x 1).val l1 (by decide) (by omega) x (y 1).val (y 1).isLt rfl rfl h1
    · exact key ob 1 inb' (x 1).val l1 (by decide) (by omega) x (y 1).val (y 1).isLt rfl rfl h1

theorem piece_h' (G : Vec Ideal S256x3072 .f32) (r oa ob f0 : ℕ)
    (inb : ∀ a : Fin S256x3072.rank, (![r, oa] : Fin 2 → ℕ) a + (![128, 128] : Fin 2 → ℕ) a ≤ S256x3072.size a)
    (inb' : ∀ a : Fin S256x3072.rank, (![r, ob] : Fin 2 → ℕ) a + (![128, 128] : Fin 2 → ℕ) a ≤ S256x3072.size a)
    (A B : Vec Ideal S128x128 .f32)
    (x : S128x128.Idx) (y : S256x1536.Idx)
    (hA : A = View.ld (Val := Elt Ideal) (S := S256x3072) (e' := .f32) G (Rect.unit ![r, oa] ![128, 128] inb))
    (hB : B = View.ld (Val := Elt Ideal) (S := S256x3072) (e' := .f32) G (Rect.unit ![r, ob] ![128, 128] inb'))
    (h0 : (y 0).val = r + (x 0).val) (h1 : (y 1).val = f0 + (x 1).val)
    (hf : f0 % 128 = 0) (ha : oa = f0 / 256 * 512 + f0 % 256) (hb : ob = f0 / 256 * 512 + 256 + f0 % 256) :
    HROWHAT A B x = HM G y := by
  subst hA hB
  exact piece_h G r oa ob f0 inb inb' x y h0 h1 hf ha hb

theorem piece_y (H : Vec Ideal S256x1536 .bf16) (X17 : Vec Ideal S1536x4096 .bf16) (o : ℕ)
    (inb : ∀ a : Fin S256x1536.rank, (![0, 0] : Fin 2 → ℕ) a + (![256, 1536] : Fin 2 → ℕ) a ≤ S256x1536.size a)
    (inb' : ∀ a : Fin S1536x4096.rank, (![0, o] : Fin 2 → ℕ) a + (![1536, 512] : Fin 2 → ℕ) a ≤ S1536x4096.size a)
    (x : S256x512.Idx) (y : S256x4096.Idx) (h0 : (y 0).val = 0 + (x 0).val) (h1 : (y 1).val = o + (x 1).val) :
    k0_pay1315 (F := Ideal) (View.ld (Val := Elt Ideal) (S := S256x1536) (e' := .bf16) H (Rect.unit ![0, 0] ![256, 1536] inb))
      (View.ld (Val := Elt Ideal) (S := S1536x4096) (e' := .bf16) X17 (Rect.unit ![0, o] ![1536, 512] inb')) x = YM H X17 y := by
  rw [y_apply]
  unfold YM View.ld
  refine Finset.sum_congr rfl fun k _ => ?_
  congr 2
  · funext a
    fin_cases a <;> apply Fin.ext
    · show 0 + 1 * (x 0).val = (y 0).val
      omega
    · show 0 + 1 * k.val = k.val
      omega
  · funext a
    fin_cases a <;> apply Fin.ext
    · show 0 + 1 * k.val = k.val
      omega
    · show o + 1 * (x 1).val = (y 1).val
      omega

theorem peelc {κ : Kind} {sp : Space} {S : Shape} {e : EltTy} (v : View sig κ sp S e) {off size : Fin S.rank → ℕ} (inb : ∀ a, off a + size a ≤ S.size a)
    (w : (Rect.unit off size inb).shape.Idx → Elt Ideal e) (L : List (View.Piece (Elt Ideal) S e)) (y : S.Idx) (u : Elt Ideal e)
    (h : ∀ x : (Rect.unit off size inb).shape.Idx, (∀ a, (y a).val = off a + (x a).val) → w x = u)
    (hL : (¬ ∀ a, off a ≤ (y a).val ∧ (y a).val < off a + size a) → View.canon L y = u) :
    View.canon (⟨Rect.unit off size inb, w⟩ :: L) y = u := by
  rw [← View.read_writes_junk_apply_eq_canon v]
  refine peelr v _ inb w L y u rfl h fun hn => ?_
  rw [View.read_writes_junk_apply_eq_canon]
  exact hL hn

end Cert.FwdHand
end
-- ==== Proof.FwdStepC.lean ====
module

public import proofs.«01_k».proof.Proof.FwdStep
public import proofs.«01_k».proof.Proof.FwdUnit

@[expose] public section
set_option maxRecDepth 16384
set_option maxHeartbeats 4000000
noncomputable section
namespace Cert.FwdHand
open Cert.FwdIdeal Cert.FwdIdeal.Gen Idealize.ShloMosaic Idealize.ShloMosaic.TcCoe Idealize.SL.Sem
variable (m : (ℓ : Loc nD τ sig) → Buf (Elt Ideal) ℓ)

theorem RC18 (c : Dev nD) (t : Fin cfg0.N) (hc1 : ¬ k0_cond1 (grid0.coords t) = 1#1) (hc2 : ¬ k0_cond2 (grid0.coords t) = 1#1) (hc3 : k0_cond3 (grid0.coords t) = 1#1) (hc4 : ¬ k0_cond4 (grid0.coords t) = 1#1) (X18 : Vec Ideal S256x4096 .bf16) (Y7 : Vec Ideal S256x4096 .fp8e4m3) (Y8 : Vec Ideal S1x32x256 .f32) (Y9 : Vec Ideal S256x4096 .fp8e4m3) (Y10 : Vec Ideal S1x4x4096 .f32) (Y12 : Vec Ideal S12x24x512 .f32) (d20 : Vec Ideal S256x128 .f32) (d21 : Vec Ideal S256x128 .f32) (d22 : Vec Ideal S4x4096 .f32) (d23 : Vec Ideal S4x4096 .f32) (d25 : Vec Ideal S4x1536 .f32) (y : S256x4096.Idx) :
    left scM0_2 (Memref.isWhole_whole _) X18 (RC (F := Ideal) m c t hc1 hc2 hc3 hc4 X18 Y7 Y8 Y9 Y10 Y12 d20 d21 d22 d23 d25).1 y = XM (iblk m c 2 t) y := by
  delta RC left
  frame_open
  simp only [View.readAt_eq_ld, Memref.IsWhole.read_unread]
  have l0 : (y 0).val < 256 := (y 0).isLt
  have l1 : (y 1).val < 4096 := (y 1).isLt
  generalize hP : (y 1).val / 128 * 2 + (y 0).val / 128 = P
  have hq : P < 64 := by omega
  refine peelr _ _ _ _ _ _ _ rfl (fun x hx => piece_x _ 128 3968 _ x y (hx 0) (hx 1) rfl) (fun hn => ?_)
  have hp63 : P < 63 := by have := not_in (y := fun a => (y a).val) hn; omega
  clear hn
  refine peelr _ _ _ _ _ _ _ rfl (fun x hx => piece_x _ 0 3968 _ x y (hx 0) (hx 1) rfl) (fun hn => ?_)
  have hp62 : P < 62 := by have := not_in (y := fun a => (y a).val) hn; omega
  clear hn
  refine peelr _ _ _ _ _ _ _ rfl (fun x hx => piece_x _ 128 3840 _ x y (hx 0) (hx 1) rfl) (fun hn => ?_)
  have hp61 : P < 61 := by have := not_in (y := fun a => (y a).val) hn; omega
  clear hn
  refine peelr _ _ _ _ _ _ _ rfl (fun x hx => piece_x _ 0 3840 _ x y (hx 0) (hx 1) rfl) (fun hn => ?_)
  have hp60 : P < 60 := by have := not_in (y := fun a => (y a).val) hn; omega
  clear hn
  refine peelr _ _ _ _ _ _ _ rfl (fun x hx => piece_x _ 128 3712 _ x y (hx 0) (hx 1) rfl) (fun hn => ?_)
  have hp59 : P < 59 := by have := not_in (y := fun a => (y a).val) hn; omega
  clear hn
  refine peelr _ _ _ _ _ _ _ rfl (fun x hx => piece_x _ 0 3712 _ x y (hx 0) (hx 1) rfl) (fun hn => ?_)
  have hp58 : P < 58 := by have := not_in (y := fun a => (y a).val) hn; omega
  clear hn
  refine peelr _ _ _ _ _ _ _ rfl (fun x hx => piece_x _ 128 3584 _ x y (hx 0) (hx 1) rfl) (fun hn => ?_)
  have hp57 : P < 57 := by have := not_in (y := fun a => (y a).val) hn; omega
  clear hn
  refine peelr _ _ _ _ _ _ _ rfl (fun x hx => piece_x _ 0 3584 _ x y (hx 0) (hx 1) rfl) (fun hn => ?_)
  have hp56 : P < 56 := by have := not_in (y := fun a => (y a).val) hn; omega
  clear hn
  refine peelr _ _ _ _ _ _ _ rfl (fun x hx => piece_x _ 128 3456 _ x y (hx 0) (hx 1) rfl) (fun hn => ?_)
  have hp55 : P < 55 := by have := not_in (y := fun a => (y a).val) hn; omega
  clear hn
  refine peelr _ _ _ _ _ _ _ rfl (fun x hx => piece_x _ 0 3456 _ x y (hx 0) (hx 1) rfl) (fun hn => ?_)
  have hp54 : P < 54 := by have := not_in (y := fun a => (y a).val) hn; omega
  clear hn
  refine peelr _ _ _ _ _ _ _ rfl (fun x hx => piece_x _ 128 3328 _ x y (hx 0) (hx 1) rfl) (fun hn => ?_)
  have hp53 : P < 53 := by have := not_in (y := fun a => (y a).val) hn; omega
  clear hn
  refine peelr _ _ _ _ _ _ _ rfl (fun x hx => piece_x _ 0 3328 _ x y (hx 0) (hx 1) rfl) (fun hn => ?_)
  have hp52 : P < 52 := by have := not_in (y := fun a => (y a).val) hn; omega
  clear hn
  refine peelr _ _ _ _ _ _ _ rfl (fun x hx => piece_x _ 128 3200 _ x y (hx 0) (hx 1) rfl) (fun hn => ?_)
  have hp51 : P < 51 := by have := not_in (y := fun a => (y a).val) hn; omega
  clear hn
  refine peelr _ _ _ _ _ _ _ rfl (fun x hx => piece_x _ 0 3200 _ x y (hx 0) (hx 1) rfl) (fun hn => ?_)
  have hp50 : P < 50 := by have := not_in (y := fun a => (y a).val) hn; omega
  clear hn
  refine peelr _ _ _ _ _ _ _ rfl (fun x hx => piece_x _ 128 3072 _ x y (hx 0) (hx 1) rfl) (fun hn => ?_)
  have hp49 : P < 49 := by have := not_in (y := fun a => (y a).val) hn; omega
  clear hn
  refine peelr _ _ _ _ _ _ _ rfl (fun x hx => piece_x _ 0 3072 _ x y (hx 0) (hx 1) rfl) (fun hn => ?_)
  have hp48 : P < 48 := by have := not_in (y := fun a => (y a).val) hn; omega
  clear hn
  refine peelr _ _ _ _ _ _ _ rfl (fun x hx => piece_x _ 128 2944 _ x y (hx 0) (hx 1) rfl) (fun hn => ?_)
  have hp47 : P < 47 := by have := not_in (y := fun a => (y a).val) hn; omega
  clear hn
  refine peelr _ _ _ _ _ _ _ rfl (fun x hx => piece_x _ 0 2944 _ x y (hx 0) (hx 1) rfl) (fun hn => ?_)
  have hp46 : P < 46 := by have := not_in (y := fun a => (y a).val) hn; omega
  clear hn
  refine peelr _ _ _ _ _ _ _ rfl (fun x hx => piece_x _ 128 2816 _ x y (hx 0) (hx 1) rfl) (fun hn => ?_)
  have hp45 : P < 45 := by have := not_in (y := fun a => (y a).val) hn; omega
  clear hn
  refine peelr _ _ _ _ _ _ _ rfl (fun x hx => piece_x _ 0 2816 _ x y (hx 0) (hx 1) rfl) (fun hn => ?_)
  have hp44 : P < 44 := by have := not_in (y := fun a => (y a).val) hn; omega
  clear hn
  refine peelr _ _ _ _ _ _ _ rfl (fun x hx => piece_x _ 128 2688 _ x y (hx 0) (hx 1) rfl) (fun hn => ?_)
  have hp43 : P < 43 := by have := not_in (y := fun a => (y a).val) hn; omega
  clear hn
  refine peelr _ _ _ _ _ _ _ rfl (fun x hx => piece_x _ 0 2688 _ x y (hx 0) (hx 1) rfl) (fun hn => ?_)
  have hp42 : P < 42 := by have := not_in (y := fun a => (y a).val) hn; omega
  clear hn
  refine peelr _ _ _ _ _ _ _ rfl (fun x hx => piece_x _ 128 2560 _ x y (hx 0) (hx 1) rfl) (fun hn => ?_)
  have hp41 : P < 41 := by have := not_in (y := fun a => (y a).val) hn; omega
  clear hn
  refine peelr _ _ _ _ _ _ _ rfl (fun x hx => piece_x _ 0 2560 _ x y (hx 0) (hx 1) rfl) (fun hn => ?_)
  have hp40 : P < 40 := by have := not_in (y := fun a => (y a).val) hn; omega
  clear hn
  refine peelr _ _ _ _ _ _ _ rfl (fun x hx => piece_x _ 128 2432 _ x y (hx 0) (hx 1) rfl) (fun hn => ?_)
  have hp39 : P < 39 := by have := not_in (y := fun a => (y a).val) hn; omega
  clear hn
  refine peelr _ _ _ _ _ _ _ rfl (fun x hx => piece_x _ 0 2432 _ x y (hx 0) (hx 1) rfl) (fun hn => ?_)
  have hp38 : P < 38 := by have := not_in (y := fun a => (y a).val) hn; omega
  clear hn
  refine peelr _ _ _ _ _ _ _ rfl (fun x hx => piece_x _ 128 2304 _ x y (hx 0) (hx 1) rfl) (fun hn => ?_)
  have hp37 : P < 37 := by have := not_in (y := fun a => (y a).val) hn; omega
  clear hn
  refine peelr _ _ _ _ _ _ _ rfl (fun x hx => piece_x _ 0 2304 _ x y (hx 0) (hx 1) rfl) (fun hn => ?_)
  have hp36 : P < 36 := by have := not_in (y := fun a => (y a).val) hn; omega
  clear hn
  refine peelr _ _ _ _ _ _ _ rfl (fun x hx => piece_x _ 128 2176 _ x y (hx 0) (hx 1) rfl) (fun hn => ?_)
  have hp35 : P < 35 := by have := not_in (y := fun a => (y a).val) hn; omega
  clear hn
  refine peelr _ _ _ _ _ _ _ rfl (fun x hx => piece_x _ 0 2176 _ x y (hx 0) (hx 1) rfl) (fun hn => ?_)
  have hp34 : P < 34 := by have := not_in (y := fun a => (y a).val) hn; omega
  clear hn
  refine peelr _ _ _ _ _ _ _ rfl (fun x hx => piece_x _ 128 2048 _ x y (hx 0) (hx 1) rfl) (fun hn => ?_)
  have hp33 : P < 33 := by have := not_in (y := fun a => (y a).val) hn; omega
  clear hn
  refine peelr _ _ _ _ _ _ _ rfl (fun x hx => piece_x _ 0 2048 _ x y (hx 0) (hx 1) rfl) (fun hn => ?_)
  have hp32 : P < 32 := by have := not_in (y := fun a => (y a).val) hn; omega
  clear hn
  refine peelr _ _ _ _ _ _ _ rfl (fun x hx => piece_x _ 128 1920 _ x y (hx 0) (hx 1) rfl) (fun hn => ?_)
  have hp31 : P < 31 := by have := not_in (y := fun a => (y a).val) hn; omega
  clear hn
  refine peelr _ _ _ _ _ _ _ rfl (fun x hx => piece_x _ 0 1920 _ x y (hx 0) (hx 1) rfl) (fun hn => ?_)
  have hp30 : P < 30 := by have := not_in (y := fun a => (y a).val) hn; omega
  clear hn
  refine peelr _ _ _ _ _ _ _ rfl (fun x hx => piece_x _ 128 1792 _ x y (hx 0) (hx 1) rfl) (fun hn => ?_)
  have hp29 : P < 29 := by have := not_in (y := fun a => (y a).val) hn; omega
  clear hn
  refine peelr _ _ _ _ _ _ _ rfl (fun x hx => piece_x _ 0 1792 _ x y (hx 0) (hx 1) rfl) (fun hn => ?_)
  have hp28 : P < 28 := by have := not_in (y := fun a => (y a).val) hn; omega
  clear hn
  refine peelr _ _ _ _ _ _ _ rfl (fun x hx => piece_x _ 128 1664 _ x y (hx 0) (hx 1) rfl) (fun hn => ?_)
  have hp27 : P < 27 := by have := not_in (y := fun a => (y a).val) hn; omega
  clear hn
  refine peelr _ _ _ _ _ _ _ rfl (fun x hx => piece_x _ 0 1664 _ x y (hx 0) (hx 1) rfl) (fun hn => ?_)
  have hp26 : P < 26 := by have := not_in (y := fun a => (y a).val) hn; omega
  clear hn
  refine peelr _ _ _ _ _ _ _ rfl (fun x hx => piece_x _ 128 1536 _ x y (hx 0) (hx 1) rfl) (fun hn => ?_)
  have hp25 : P < 25 := by have := not_in (y := fun a => (y a).val) hn; omega
  clear hn
  refine peelr _ _ _ _ _ _ _ rfl (fun x hx => piece_x _ 0 1536 _ x y (hx 0) (hx 1) rfl) (fun hn => ?_)
  have hp24 : P < 24 := by have := not_in (y := fun a => (y a).val) hn; omega
  clear hn
  refine peelr _ _ _ _ _ _ _ rfl (fun x hx => piece_x _ 128 1408 _ x y (hx 0) (hx 1) rfl) (fun hn => ?_)
  have hp23 : P < 23 := by have := not_in (y := fun a => (y a).val) hn; omega
  clear hn
  refine peelr _ _ _ _ _ _ _ rfl (fun x hx => piece_x _ 0 1408 _ x y (hx 0) (hx 1) rfl) (fun hn => ?_)
  have hp22 : P < 22 := by have := not_in (y := fun a => (y a).val) hn; omega
  clear hn
  refine peelr _ _ _ _ _ _ _ rfl (fun x hx => piece_x _ 128 1280 _ x y (hx 0) (hx 1) rfl) (fun hn => ?_)
  have hp21 : P < 21 := by have := not_in (y := fun a => (y a).val) hn; omega
  clear hn
  refine peelr _ _ _ _ _ _ _ rfl (fun x hx => piece_x _ 0 1280 _ x y (hx 0) (hx 1) rfl) (fun hn => ?_)
  have hp20 : P < 20 := by have := not_in (y := fun a => (y a).val) hn; omega
  clear hn
  refine peelr _ _ _ _ _ _ _ rfl (fun x hx => piece_x _ 128 1152 _ x y (hx 0) (hx 1) rfl) (fun hn => ?_)
  have hp19 : P < 19 := by have := not_in (y := fun a => (y a).val) hn; omega
  clear hn
  refine peelr _ _ _ _ _ _ _ rfl (fun x hx => piece_x _ 0 1152 _ x y (hx 0) (hx 1) rfl) (fun hn => ?_)
  have hp18 : P < 18 := by have := not_in (y := fun a => (y a).val) hn; omega
  clear hn
  refine peelr _ _ _ _ _ _ _ rfl (fun x hx => piece_x _ 128 1024 _ x y (hx 0) (hx 1) rfl) (fun hn => ?_)
  have hp17 : P < 17 := by have := not_in (y := fun a => (y a).val) hn; omega
  clear hn
  refine peelr _ _ _ _ _ _ _ rfl (fun x hx => piece_x _ 0 1024 _ x y (hx 0) (hx 1) rfl) (fun hn => ?_)
  have hp16 : P < 16 := by have := not_in (y := fun a => (y a).val) hn; omega
  clear hn
  refine peelr _ _ _ _ _ _ _ rfl (fun x hx => piece_x _ 128 896 _ x y (hx 0) (hx 1) rfl) (fun hn => ?_)
  have hp15 : P < 15 := by have := not_in (y := fun a => (y a).val) hn; omega
  clear hn
  refine peelr _ _ _ _ _ _ _ rfl (fun x hx => piece_x _ 0 896 _ x y (hx 0) (hx 1) rfl) (fun hn => ?_)
  have hp14 : P < 14 := by have := not_in (y := fun a => (y a).val) hn; omega
  clear hn
  refine peelr _ _ _ _ _ _ _ rfl (fun x hx => piece_x _ 128 768 _ x y (hx 0) (hx 1) rfl) (fun hn => ?_)
  have hp13 : P < 13 := by have := not_in (y := fun a => (y a).val) hn; omega
  clear hn
  refine peelr _ _ _ _ _ _ _ rfl (fun x hx => piece_x _ 0 768 _ x y (hx 0) (hx 1) rfl) (fun hn => ?_)
  have hp12 : P < 12 := by have := not_in (y := fun a => (y a).val) hn; omega
  clear hn
  refine peelr _ _ _ _ _ _ _ rfl (fun x hx => piece_x _ 128 640 _ x y (hx 0) (hx 1) rfl) (fun hn => ?_)
  have hp11 : P < 11 := by have := not_in (y := fun a => (y a).val) hn; omega
  clear hn
  refine peelr _ _ _ _ _ _ _ rfl (fun x hx => piece_x _ 0 640 _ x y (hx 0) (hx 1) rfl) (fun hn => ?_)
  have hp10 : P < 10 := by have := not_in (y := fun a => (y a).val) hn; omega
  clear hn
  refine peelr _ _ _ _ _ _ _ rfl (fun x hx => piece_x _ 128 512 _ x y (hx 0) (hx 1) rfl) (fun hn => ?_)
  have hp9 : P < 9 := by have := not_in (y := fun a => (y a).val) hn; omega
  clear hn
  refine peelr _ _ _ _ _ _ _ rfl (fun x hx => piece_x _ 0 512 _ x y (hx 0) (hx 1) rfl) (fun hn => ?_)
  have hp8 : P < 8 := by have := not_in (y := fun a => (y a).val) hn; omega
  clear hn
  refine peelr _ _ _ _ _ _ _ rfl (fun x hx => piece_x _ 128 384 _ x y (hx 0) (hx 1) rfl) (fun hn => ?_)
  have hp7 : P < 7 := by have := not_in (y := fun a => (y a).val) hn; omega
  clear hn
  refine peelr _ _ _ _ _ _ _ rfl (fun x hx => piece_x _ 0 384 _ x y (hx 0) (hx 1) rfl) (fun hn => ?_)
  have hp6 : P < 6 := by have := not_in (y := fun a => (y a).val) hn; omega
  clear hn
  refine peelr _ _ _ _ _ _ _ rfl (fun x hx => piece_x _ 128 256 _ x y (hx 0) (hx 1) rfl) (fun hn => ?_)
  have hp5 : P < 5 := by have := not_in (y := fun a => (y a).val) hn; omega
  clear hn
  refine peelr _ _ _ _ _ _ _ rfl (fun x hx => piece_x _ 0 256 _ x y (hx 0) (hx 1) rfl) (fun hn => ?_)
  have hp4 : P < 4 := by have := not_in (y := fun a => (y a).val) hn; omega
  clear hn
  refine peelr _ _ _ _ _ _ _ rfl (fun x hx => piece_x _ 128 128 _ x y (hx 0) (hx 1) rfl) (fun hn => ?_)
  have hp3 : P < 3 := by have := not_in (y := fun a => (y a).val) hn; omega
  clear hn
  refine peelr _ _ _ _ _ _ _ rfl (fun x hx => piece_x _ 0 128 _ x y (hx 0) (hx 1) rfl) (fun hn => ?_)
  have hp2 : P < 2 := by have := not_in (y := fun a => (y a).val) hn; omega
  clear hn
  refine peelr _ _ _ _ _ _ _ rfl (fun x hx => piece_x _ 128 0 _ x y (hx 0) (hx 1) rfl) (fun hn => ?_)
  have hp1 : P < 1 := by have := not_in (y := fun a => (y a).val) hn; omega
  clear hn
  refine peelr _ _ _ _ _ _ _ rfl (fun x hx => piece_x _ 0 0 _ x y (hx 0) (hx 1) rfl) (fun hn => ?_)
  have hp0 : P < 0 := by have := not_in (y := fun a => (y a).val) hn; omega
  clear hn
  omega

end Cert.FwdHand
end
-- ==== Proof.FwdStepD.lean ====
module

public import proofs.«01_k».proof.Proof.FwdStep
public import proofs.«01_k».proof.Proof.FwdUnit

@[expose] public section
set_option maxRecDepth 16384
set_option maxHeartbeats 4000000
noncomputable section
namespace Cert.FwdHand
open Cert.FwdIdeal Cert.FwdIdeal.Gen Idealize.ShloMosaic Idealize.ShloMosaic.TcCoe Idealize.SL.Sem
variable (m : (ℓ : Loc nD τ sig) → Buf (Elt Ideal) ℓ)

theorem RD18 (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec Ideal S4096x3072 .bf16) (X17 : Vec Ideal S1536x4096 .bf16) (Y5 : Vec Ideal S256x4096 .bf16) (X18 : Vec Ideal S256x4096 .bf16) (Y6 : Vec Ideal S256x3072 .f32) (Y7 : Vec Ideal S256x4096 .fp8e4m3) (Y8 : Vec Ideal S1x32x256 .f32) (Y9 : Vec Ideal S256x4096 .fp8e4m3) (Y10 : Vec Ideal S1x4x4096 .f32) (Y11 : Vec Ideal S256x1536 .fp8e4m3) (Y12 : Vec Ideal S12x24x512 .f32) (Y13 : Vec Ideal S256x1536 .fp8e4m3) (Y14 : Vec Ideal S1x4x1536 .f32) (d19 : Vec Ideal S256x1536 .bf16) (d20 : Vec Ideal S256x128 .f32) (d21 : Vec Ideal S256x128 .f32) (d22 : Vec Ideal S4x4096 .f32) (d23 : Vec Ideal S4x4096 .f32) (d24 : Vec Ideal S4x1536 .f32) (d25 : Vec Ideal S4x1536 .f32) (y : S256x4096.Idx) :
    left scM0_2 (Memref.isWhole_whole _) X18 (RD (F := Ideal) m c t hc1 hc2 hc3 hc4 X16 X17 Y5 X18 Y6 Y7 Y8 Y9 Y10 Y11 Y12 Y13 Y14 d19 d20 d21 d22 d23 d24 d25).2.1 y = XM (iblk m c 2 t) y := by
  delta RD left
  frame_open
  simp only [View.readAt_eq_ld, Memref.IsWhole.read_unread]
  have l0 : (y 0).val < 256 := (y 0).isLt
  have l1 : (y 1).val < 4096 := (y 1).isLt
  generalize hP : (y 1).val / 128 * 2 + (y 0).val / 128 = P
  have hq : P < 64 := by omega
  refine peelr _ _ _ _ _ _ _ rfl (fun x hx => piece_x _ 128 3968 _ x y (hx 0) (hx 1) rfl) (fun hn => ?_)
  have hp63 : P < 63 := by have := not_in (y := fun a => (y a).val) hn; omega
  clear hn
  refine peelr _ _ _ _ _ _ _ rfl (fun x hx => piece_x _ 0 3968 _ x y (hx 0) (hx 1) rfl) (fun hn => ?_)
  have hp62 : P < 62 := by have := not_in (y := fun a => (y a).val) hn; omega
  clear hn
  refine peelr _ _ _ _ _ _ _ rfl (fun x hx => piece_x _ 128 3840 _ x y (hx 0) (hx 1) rfl) (fun hn => ?_)
  have hp61 : P < 61 := by have := not_in (y := fun a => (y a).val) hn; omega
  clear hn
  refine peelr _ _ _ _ _ _ _ rfl (fun x hx => piece_x _ 0 3840 _ x y (hx 0) (hx 1) rfl) (fun hn => ?_)
  have hp60 : P < 60 := by have := not_in (y := fun a => (y a).val) hn; omega
  clear hn
  refine peelr _ _ _ _ _ _ _ rfl (fun x hx => piece_x _ 128 3712 _ x y (hx 0) (hx 1) rfl) (fun hn => ?_)
  have hp59 : P < 59 := by have := not_in (y := fun a => (y a).val) hn; omega
  clear hn
  refine peelr _ _ _ _ _ _ _ rfl (fun x hx => piece_x _ 0 3712 _ x y (hx 0) (hx 1) rfl) (fun hn => ?_)
  have hp58 : P < 58 := by have := not_in (y := fun a => (y a).val) hn; omega
  clear hn
  refine peelr _ _ _ _ _ _ _ rfl (fun x hx => piece_x _ 128 3584 _ x y (hx 0) (hx 1) rfl) (fun hn => ?_)
  have hp57 : P < 57 := by have := not_in (y := fun a => (y a).val) hn; omega
  clear hn
  refine peelr _ _ _ _ _ _ _ rfl (fun x hx => piece_x _ 0 3584 _ x y (hx 0) (hx 1) rfl) (fun hn => ?_)
  have hp56 : P < 56 := by have := not_in (y := fun a => (y a).val) hn; omega
  clear hn
  refine peelr _ _ _ _ _ _ _ rfl (fun x hx => piece_x _ 128 3456 _ x y (hx 0) (hx 1) rfl) (fun hn => ?_)
  have hp55 : P < 55 := by have := not_in (y := fun a => (y a).val) hn; omega
  clear hn
  refine peelr _ _ _ _ _ _ _ rfl (fun x hx => piece_x _ 0 3456 _ x y (hx 0) (hx 1) rfl) (fun hn => ?_)
  have hp54 : P < 54 := by have := not_in (y := fun a => (y a).val) hn; omega
  clear hn
  refine peelr _ _ _ _ _ _ _ rfl (fun x hx => piece_x _ 128 3328 _ x y (hx 0) (hx 1) rfl) (fun hn => ?_)
  have hp53 : P < 53 := by have := not_in (y := fun a => (y a).val) hn; omega
  clear hn
  refine peelr _ _ _ _ _ _ _ rfl (fun x hx => piece_x _ 0 3328 _ x y (hx 0) (hx 1) rfl) (fun hn => ?_)
  have hp52 : P < 52 := by have := not_in (y := fun a => (y a).val) hn; omega
  clear hn
  refine peelr _ _ _ _ _ _ _ rfl (fun x hx => piece_x _ 128 3200 _ x y (hx 0) (hx 1) rfl) (fun hn => ?_)
  have hp51 : P < 51 := by have := not_in (y := fun a => (y a).val) hn; omega
  clear hn
  refine peelr _ _ _ _ _ _ _ rfl (fun x hx => piece_x _ 0 3200 _ x y (hx 0) (hx 1) rfl) (fun hn => ?_)
  have hp50 : P < 50 := by have := not_in (y := fun a => (y a).val) hn; omega
  clear hn
  refine peelr _ _ _ _ _ _ _ rfl (fun x hx => piece_x _ 128 3072 _ x y (hx 0) (hx 1) rfl) (fun hn => ?_)
  have hp49 : P < 49 := by have := not_in (y := fun a => (y a).val) hn; omega
  clear hn
  refine peelr _ _ _ _ _ _ _ rfl (fun x hx => piece_x _ 0 3072 _ x y (hx 0) (hx 1) rfl) (fun hn => ?_)
  have hp48 : P < 48 := by have := not_in (y := fun a => (y a).val) hn; omega
  clear hn
  refine peelr _ _ _ _ _ _ _ rfl (fun x hx => piece_x _ 128 2944 _ x y (hx 0) (hx 1) rfl) (fun hn => ?_)
  have hp47 : P < 47 := by have := not_in (y := fun a => (y a).val) hn; omega
  clear hn
  refine peelr _ _ _ _ _ _ _ rfl (fun x hx => piece_x _ 0 2944 _ x y (hx 0) (hx 1) rfl) (fun hn => ?_)
  have hp46 : P < 46 := by have := not_in (y := fun a => (y a).val) hn; omega
  clear hn
  refine peelr _ _ _ _ _ _ _ rfl (fun x hx => piece_x _ 128 2816 _ x y (hx 0) (hx 1) rfl) (fun hn => ?_)
  have hp45 : P < 45 := by have := not_in (y := fun a => (y a).val) hn; omega
  clear hn
  refine peelr _ _ _ _ _ _ _ rfl (fun x hx => piece_x _ 0 2816 _ x y (hx 0) (hx 1) rfl) (fun hn => ?_)
  have hp44 : P < 44 := by have := not_in (y := fun a => (y a).val) hn; omega
  clear hn
  refine peelr _ _ _ _ _ _ _ rfl (fun x hx => piece_x _ 128 2688 _ x y (hx 0) (hx 1) rfl) (fun hn => ?_)
  have hp43 : P < 43 := by have := not_in (y := fun a => (y a).val) hn; omega
  clear hn
  refine peelr _ _ _ _ _ _ _ rfl (fun x hx => piece_x _ 0 2688 _ x y (hx 0) (hx 1) rfl) (fun hn => ?_)
  have hp42 : P < 42 := by have := not_in (y := fun a => (y a).val) hn; omega
  clear hn
  refine peelr _ _ _ _ _ _ _ rfl (fun x hx => piece_x _ 128 2560 _ x y (hx 0) (hx 1) rfl) (fun hn => ?_)
  have hp41 : P < 41 := by have := not_in (y := fun a => (y a).val) hn; omega
  clear hn
  refine peelr _ _ _ _ _ _ _ rfl (fun x hx => piece_x _ 0 2560 _ x y (hx 0) (hx 1) rfl) (fun hn => ?_)
  have hp40 : P < 40 := by have := not_in (y := fun a => (y a).val) hn; omega
  clear hn
  refine peelr _ _ _ _ _ _ _ rfl (fun x hx => piece_x _ 128 2432 _ x y (hx 0) (hx 1) rfl) (fun hn => ?_)
  have hp39 : P < 39 := by have := not_in (y := fun a => (y a).val) hn; omega
  clear hn
  refine peelr _ _ _ _ _ _ _ rfl (fun x hx => piece_x _ 0 2432 _ x y (hx 0) (hx 1) rfl) (fun hn => ?_)
  have hp38 : P < 38 := by have := not_in (y := fun a => (y a).val) hn; omega
  clear hn
  refine peelr _ _ _ _ _ _ _ rfl (fun x hx => piece_x _ 128 2304 _ x y (hx 0) (hx 1) rfl) (fun hn => ?_)
  have hp37 : P < 37 := by have := not_in (y := fun a => (y a).val) hn; omega
  clear hn
  refine peelr _ _ _ _ _ _ _ rfl (fun x hx => piece_x _ 0 2304 _ x y (hx 0) (hx 1) rfl) (fun hn => ?_)
  have hp36 : P < 36 := by have := not_in (y := fun a => (y a).val) hn; omega
  clear hn
  refine peelr _ _ _ _ _ _ _ rfl (fun x hx => piece_x _ 128 2176 _ x y (hx 0) (hx 1) rfl) (fun hn => ?_)
  have hp35 : P < 35 := by have := not_in (y := fun a => (y a).val) hn; omega
  clear hn
  refine peelr _ _ _ _ _ _ _ rfl (fun x hx => piece_x _ 0 2176 _ x y (hx 0) (hx 1) rfl) (fun hn => ?_)
  have hp34 : P < 34 := by have := not_in (y := fun a => (y a).val) hn; omega
  clear hn
  refine peelr _ _ _ _ _ _ _ rfl (fun x hx => piece_x _ 128 2048 _ x y (hx 0) (hx 1) rfl) (fun hn => ?_)
  have hp33 : P < 33 := by have := not_in (y := fun a => (y a).val) hn; omega
  clear hn
  refine peelr _ _ _ _ _ _ _ rfl (fun x hx => piece_x _ 0 2048 _ x y (hx 0) (hx 1) rfl) (fun hn => ?_)
  have hp32 : P < 32 := by have := not_in (y := fun a => (y a).val) hn; omega
  clear hn
  refine peelr _ _ _ _ _ _ _ rfl (fun x hx => piece_x _ 128 1920 _ x y (hx 0) (hx 1) rfl) (fun hn => ?_)
  have hp31 : P < 31 := by have := not_in (y := fun a => (y a).val) hn; omega
  clear hn
  refine peelr _ _ _ _ _ _ _ rfl (fun x hx => piece_x _ 0 1920 _ x y (hx 0) (hx 1) rfl) (fun hn => ?_)
  have hp30 : P < 30 := by have := not_in (y := fun a => (y a).val) hn; omega
  clear hn
  refine peelr _ _ _ _ _ _ _ rfl (fun x hx => piece_x _ 128 1792 _ x y (hx 0) (hx 1) rfl) (fun hn => ?_)
  have hp29 : P < 29 := by have := not_in (y := fun a => (y a).val) hn; omega
  clear hn
  refine peelr _ _ _ _ _ _ _ rfl (fun x hx => piece_x _ 0 1792 _ x y (hx 0) (hx 1) rfl) (fun hn => ?_)
  have hp28 : P < 28 := by have := not_in (y := fun a => (y a).val) hn; omega
  clear hn
  refine peelr _ _ _ _ _ _ _ rfl (fun x hx => piece_x _ 128 1664 _ x y (hx 0) (hx 1) rfl) (fun hn => ?_)
  have hp27 : P < 27 := by have := not_in (y := fun a => (y a).val) hn; omega
  clear hn
  refine peelr _ _ _ _ _ _ _ rfl (fun x hx => piece_x _ 0 1664 _ x y (hx 0) (hx 1) rfl) (fun hn => ?_)
  have hp26 : P < 26 := by have := not_in (y := fun a => (y a).val) hn; omega
  clear hn
  refine peelr _ _ _ _ _ _ _ rfl (fun x hx => piece_x _ 128 1536 _ x y (hx 0) (hx 1) rfl) (fun hn => ?_)
  have hp25 : P < 25 := by have := not_in (y := fun a => (y a).val) hn; omega
  clear hn
  refine peelr _ _ _ _ _ _ _ rfl (fun x hx => piece_x _ 0 1536 _ x y (hx 0) (hx 1) rfl) (fun hn => ?_)
  have hp24 : P < 24 := by have := not_in (y := fun a => (y a).val) hn; omega
  clear hn
  refine peelr _ _ _ _ _ _ _ rfl (fun x hx => piece_x _ 128 1408 _ x y (hx 0) (hx 1) rfl) (fun hn => ?_)
  have hp23 : P < 23 := by have := not_in (y := fun a => (y a).val) hn; omega
  clear hn
  refine peelr _ _ _ _ _ _ _ rfl (fun x hx => piece_x _ 0 1408 _ x y (hx 0) (hx 1) rfl) (fun hn => ?_)
  have hp22 : P < 22 := by have := not_in (y := fun a => (y a).val) hn; omega
  clear hn
  refine peelr _ _ _ _ _ _ _ rfl (fun x hx => piece_x _ 128 1280 _ x y (hx 0) (hx 1) rfl) (fun hn => ?_)
  have hp21 : P < 21 := by have := not_in (y := fun a => (y a).val) hn; omega
  clear hn
  refine peelr _ _ _ _ _ _ _ rfl (fun x hx => piece_x _ 0 1280 _ x y (hx 0) (hx 1) rfl) (fun hn => ?_)
  have hp20 : P < 20 := by have := not_in (y := fun a => (y a).val) hn; omega
  clear hn
  refine peelr _ _ _ _ _ _ _ rfl (fun x hx => piece_x _ 128 1152 _ x y (hx 0) (hx 1) rfl) (fun hn => ?_)
  have hp19 : P < 19 := by have := not_in (y := fun a => (y a).val) hn; omega
  clear hn
  refine peelr _ _ _ _ _ _ _ rfl (fun x hx => piece_x _ 0 1152 _ x y (hx 0) (hx 1) rfl) (fun hn => ?_)
  have hp18 : P < 18 := by have := not_in (y := fun a => (y a).val) hn; omega
  clear hn
  refine peelr _ _ _ _ _ _ _ rfl (fun x hx => piece_x _ 128 1024 _ x y (hx 0) (hx 1) rfl) (fun hn => ?_)
  have hp17 : P < 17 := by have := not_in (y := fun a => (y a).val) hn; omega
  clear hn
  refine peelr _ _ _ _ _ _ _ rfl (fun x hx => piece_x _ 0 1024 _ x y (hx 0) (hx 1) rfl) (fun hn => ?_)
  have hp16 : P < 16 := by have := not_in (y := fun a => (y a).val) hn; omega
  clear hn
  refine peelr _ _ _ _ _ _ _ rfl (fun x hx => piece_x _ 128 896 _ x y (hx 0) (hx 1) rfl) (fun hn => ?_)
  have hp15 : P < 15 := by have := not_in (y := fun a => (y a).val) hn; omega
  clear hn
  refine peelr _ _ _ _ _ _ _ rfl (fun x hx => piece_x _ 0 896 _ x y (hx 0) (hx 1) rfl) (fun hn => ?_)
  have hp14 : P < 14 := by have := not_in (y := fun a => (y a).val) hn; omega
  clear hn
  refine peelr _ _ _ _ _ _ _ rfl (fun x hx => piece_x _ 128 768 _ x y (hx 0) (hx 1) rfl) (fun hn => ?_)
  have hp13 : P < 13 := by have := not_in (y := fun a => (y a).val) hn; omega
  clear hn
  refine peelr _ _ _ _ _ _ _ rfl (fun x hx => piece_x _ 0 768 _ x y (hx 0) (hx 1) rfl) (fun hn => ?_)
  have hp12 : P < 12 := by have := not_in (y := fun a => (y a).val) hn; omega
  clear hn
  refine peelr _ _ _ _ _ _ _ rfl (fun x hx => piece_x _ 128 640 _ x y (hx 0) (hx 1) rfl) (fun hn => ?_)
  have hp11 : P < 11 := by have := not_in (y := fun a => (y a).val) hn; omega
  clear hn
  refine peelr _ _ _ _ _ _ _ rfl (fun x hx => piece_x _ 0 640 _ x y (hx 0) (hx 1) rfl) (fun hn => ?_)
  have hp10 : P < 10 := by have := not_in (y := fun a => (y a).val) hn; omega
  clear hn
  refine peelr _ _ _ _ _ _ _ rfl (fun x hx => piece_x _ 128 512 _ x y (hx 0) (hx 1) rfl) (fun hn => ?_)
  have hp9 : P < 9 := by have := not_in (y := fun a => (y a).val) hn; omega
  clear hn
  refine peelr _ _ _ _ _ _ _ rfl (fun x hx => piece_x _ 0 512 _ x y (hx 0) (hx 1) rfl) (fun hn => ?_)
  have hp8 : P < 8 := by have := not_in (y := fun a => (y a).val) hn; omega
  clear hn
  refine peelr _ _ _ _ _ _ _ rfl (fun x hx => piece_x _ 128 384 _ x y (hx 0) (hx 1) rfl) (fun hn => ?_)
  have hp7 : P < 7 := by have := not_in (y := fun a => (y a).val) hn; omega
  clear hn
  refine peelr _ _ _ _ _ _ _ rfl (fun x hx => piece_x _ 0 384 _ x y (hx 0) (hx 1) rfl) (fun hn => ?_)
  have hp6 : P < 6 := by have := not_in (y := fun a => (y a).val) hn; omega
  clear hn
  refine peelr _ _ _ _ _ _ _ rfl (fun x hx => piece_x _ 128 256 _ x y (hx 0) (hx 1) rfl) (fun hn => ?_)
  have hp5 : P < 5 := by have := not_in (y := fun a => (y a).val) hn; omega
  clear hn
  refine peelr _ _ _ _ _ _ _ rfl (fun x hx => piece_x _ 0 256 _ x y (hx 0) (hx 1) rfl) (fun hn => ?_)
  have hp4 : P < 4 := by have := not_in (y := fun a => (y a).val) hn; omega
  clear hn
  refine peelr _ _ _ _ _ _ _ rfl (fun x hx => piece_x _ 128 128 _ x y (hx 0) (hx 1) rfl) (fun hn => ?_)
  have hp3 : P < 3 := by have := not_in (y := fun a => (y a).val) hn; omega
  clear hn
  refine peelr _ _ _ _ _ _ _ rfl (fun x hx => piece_x _ 0 128 _ x y (hx 0) (hx 1) rfl) (fun hn => ?_)
  have hp2 : P < 2 := by have := not_in (y := fun a => (y a).val) hn; omega
  clear hn
  refine peelr _ _ _ _ _ _ _ rfl (fun x hx => piece_x _ 128 0 _ x y (hx 0) (hx 1) rfl) (fun hn => ?_)
  have hp1 : P < 1 := by have := not_in (y := fun a => (y a).val) hn; omega
  clear hn
  refine peelr _ _ _ _ _ _ _ rfl (fun x hx => piece_x _ 0 0 _ x y (hx 0) (hx 1) rfl) (fun hn => ?_)
  have hp0 : P < 0 := by have := not_in (y := fun a => (y a).val) hn; omega
  clear hn
  omega

end Cert.FwdHand
end
-- ==== Proof.FwdStepY.lean ====
module

public import proofs.«01_k».proof.Proof.FwdStep
public import proofs.«01_k».proof.Proof.FwdUnit

@[expose] public section
set_option maxRecDepth 16384
set_option maxHeartbeats 4000000
noncomputable section
namespace Cert.FwdHand
open Cert.FwdIdeal Cert.FwdIdeal.Gen Idealize.ShloMosaic Idealize.ShloMosaic.TcCoe Idealize.SL.Sem
variable (m : (ℓ : Loc nD τ sig) → Buf (Elt Ideal) ℓ)

/-- A block of gated activations read from contents that agree with `G` on the columns written so far. -/
theorem piece_hc (G C : Vec Ideal S256x3072 .f32) (n : ℕ) (hC : ∀ z : S256x3072.Idx, (z 1).val < n → C z = G z) (r oa ob f0 : ℕ)
    (inb : ∀ a : Fin S256x3072.rank, (![r, oa] : Fin 2 → ℕ) a + (![128, 128] : Fin 2 → ℕ) a ≤ S256x3072.size a)
    (inb' : ∀ a : Fin S256x3072.rank, (![r, ob] : Fin 2 → ℕ) a + (![128, 128] : Fin 2 → ℕ) a ≤ S256x3072.size a)
    (A B : Vec Ideal S128x128 .f32)
    (x : S128x128.Idx) (y : S256x1536.Idx)
    (hA : (fun j => C ((Rect.unit (s := S256x3072) ![r, oa] ![128, 128] inb).idx j)) = A)
    (hB : (fun j => C ((Rect.unit (s := S256x3072) ![r, ob] ![128, 128] inb').idx j)) = B)
    (h0 : (y 0).val = r + (x 0).val) (h1 : (y 1).val = f0 + (x 1).val)
    (hf : f0 % 128 = 0) (ha : oa = f0 / 256 * 512 + f0 % 256) (hb : ob = f0 / 256 * 512 + 256 + f0 % 256) (hna : oa + 128 ≤ n) (hnb : ob + 128 ≤ n) :
    HROWHAT A B x = HM G y := by
  refine piece_h' G r oa ob f0 inb inb' A B x y ?_ ?_ h0 h1 hf ha hb
  · rw [← hA]
    funext j
    refine hC _ ?_
    have l1 : (j 1).val < 128 := (j 1).isLt
    show oa + 1 * (j 1).val < n
    omega
  · rw [← hB]
    funext j
    refine hC _ ?_
    have l1 : (j 1).val < 128 := (j 1).isLt
    show ob + 1 * (j 1).val < n
    omega

theorem RD6 (c : Dev nD) (t : Fin cfg0.N) (hc1 : ¬ k0_cond1 (grid0.coords t) = 1#1) (hc2 : ¬ k0_cond2 (grid0.coords t) = 1#1) (hc3 : ¬ k0_cond3 (grid0.coords t) = 1#1) (hc4 : k0_cond4 (grid0.coords t) = 1#1) (X16 : Vec Ideal S4096x3072 .bf16) (X17 : Vec Ideal S1536x4096 .bf16) (Y5 : Vec Ideal S256x4096 .bf16) (X18 : Vec Ideal S256x4096 .bf16) (Y6 : Vec Ideal S256x3072 .f32) (Y7 : Vec Ideal S256x4096 .fp8e4m3) (Y8 : Vec Ideal S1x32x256 .f32) (Y9 : Vec Ideal S256x4096 .fp8e4m3) (Y10 : Vec Ideal S1x4x4096 .f32) (Y11 : Vec Ideal S256x1536 .fp8e4m3) (Y12 : Vec Ideal S12x24x512 .f32) (Y13 : Vec Ideal S256x1536 .fp8e4m3) (Y14 : Vec Ideal S1x4x1536 .f32) (d19 : Vec Ideal S256x1536 .bf16) (d20 : Vec Ideal S256x128 .f32) (d21 : Vec Ideal S256x128 .f32) (d22 : Vec Ideal S4x4096 .f32) (d23 : Vec Ideal S4x4096 .f32) (d24 : Vec Ideal S4x1536 .f32) (d25 : Vec Ideal S4x1536 .f32) (y : S256x4096.Idx) :
    left (ms0_5 t) (hs0_5 t) Y5 (RD (F := Ideal) m c t hc1 hc2 hc3 hc4 X16 X17 Y5 X18 Y6 Y7 Y8 Y9 Y10 Y11 Y12 Y13 Y14 d19 d20 d21 d22 d23 d24 d25).1 y = YM (HM (GM X18 X16)) X17 y := by
  delta RD left
  frame_open
  simp only [View.readAt_eq_ld, Memref.IsWhole.read_unread, read_unread_whole, View.readCov_eq_canon']
  generalize hC6 : View.canon (Val := Elt Ideal) (s := S256x3072) (e := .f32) (⟨Rect.unit ![0, 2560] ![256, 512] inb_S256x3072_S256x512_0_2560, _⟩ :: _) = C6
  generalize hC5 : View.canon (Val := Elt Ideal) (s := S256x3072) (e := .f32) (⟨Rect.unit ![0, 2048] ![256, 512] inb_S256x3072_S256x512_0_2048, _⟩ :: _) = C5
  generalize hC4 : View.canon (Val := Elt Ideal) (s := S256x3072) (e := .f32) (⟨Rect.unit ![0, 1536] ![256, 512] inb_S256x3072_S256x512_0_1536, _⟩ :: _) = C4
  generalize hC3 : View.canon (Val := Elt Ideal) (s := S256x3072) (e := .f32) (⟨Rect.unit ![0, 1024] ![256, 512] inb_S256x3072_S256x512_0_1024, _⟩ :: _) = C3
  generalize hC2 : View.canon (Val := Elt Ideal) (s := S256x3072) (e := .f32) (⟨Rect.unit ![0, 512] ![256, 512] inb_S256x3072_S256x512_0_512, _⟩ :: _) = C2
  have k6 : ∀ z : S256x3072.Idx, (z 1).val < 3072 → C6 z = GM X18 X16 z := by
    rw [← hC6]
    intro z hz
    have l0 : (z 0).val < 256 := (z 0).isLt
    refine peelc (ms0_6 t).view _ _ _ _ _ (fun x hx => piece_g X18 X16 2560 _ _ x z (hx 0) (hx 1)) (fun hn => ?_)
    have hp5 : (z 1).val < 2560 := by have := not_in (y := fun a => (z a).val) hn; omega
    clear hn
    refine peelc (ms0_6 t).view _ _ _ _ _ (fun x hx => piece_g X18 X16 2048 _ _ x z (hx 0) (hx 1)) (fun hn => ?_)
    have hp4 : (z 1).val < 2048 := by have := not_in (y := fun a => (z a).val) hn; omega
    clear hn
    refine peelc (ms0_6 t).view _ _ _ _ _ (fun x hx => piece_g X18 X16 1536 _ _ x z (hx 0) (hx 1)) (fun hn => ?_)
    have hp3 : (z 1).val < 1536 := by have := not_in (y := fun a => (z a).val) hn; omega
    clear hn
    refine peelc (ms0_6 t).view _ _ _ _ _ (fun x hx => piece_g X18 X16 1024 _ _ x z (hx 0) (hx 1)) (fun hn => ?_)
    have hp2 : (z 1).val < 1024 := by have := not_in (y := fun a => (z a).val) hn; omega
    clear hn
    refine peelc (ms0_6 t).view _ _ _ _ _ (fun x hx => piece_g X18 X16 512 _ _ x z (hx 0) (hx 1)) (fun hn => ?_)
    have hp1 : (z 1).val < 512 := by have := not_in (y := fun a => (z a).val) hn; omega
    clear hn
    refine peelc (ms0_6 t).view _ _ _ _ _ (fun x hx => piece_g X18 X16 0 _ _ x z (hx 0) (hx 1)) (fun hn => ?_)
    have hp0 : (z 1).val < 0 := by have := not_in (y := fun a => (z a).val) hn; omega
    clear hn
    omega
  clear hC6
  have k5 : ∀ z : S256x3072.Idx, (z 1).val < 2560 → C5 z = GM X18 X16 z := by
    rw [← hC5]
    intro z hz
    have l0 : (z 0).val < 256 := (z 0).isLt
    refine peelc (ms0_6 t).view _ _ _ _ _ (fun x hx => piece_g X18 X16 2048 _ _ x z (hx 0) (hx 1)) (fun hn => ?_)
    have hp4 : (z 1).val < 2048 := by have := not_in (y := fun a => (z a).val) hn; omega
    clear hn
    refine peelc (ms0_6 t).view _ _ _ _ _ (fun x hx => piece_g X18 X16 1536 _ _ x z (hx 0) (hx 1)) (fun hn => ?_)
    have hp3 : (z 1).val < 1536 := by have := not_in (y := fun a => (z a).val) hn; omega
    clear hn
    refine peelc (ms0_6 t).view _ _ _ _ _ (fun x hx => piece_g X18 X16 1024 _ _ x z (hx 0) (hx 1)) (fun hn => ?_)
    have hp2 : (z 1).val < 1024 := by have := not_in (y := fun a => (z a).val) hn; omega
    clear hn
    refine peelc (ms0_6 t).view _ _ _ _ _ (fun x hx => piece_g X18 X16 512 _ _ x z (hx 0) (hx 1)) (fun hn => ?_)
    have hp1 : (z 1).val < 512 := by have := not_in (y := fun a => (z a).val) hn; omega
    clear hn
    refine peelc (ms0_6 t).view _ _ _ _ _ (fun x hx => piece_g X18 X16 0 _ _ x z (hx 0) (hx 1)) (fun hn => ?_)
    have hp0 : (z 1).val < 0 := by have := not_in (y := fun a => (z a).val) hn; omega
    clear hn
    omega
  clear hC5
  have k4 : ∀ z : S256x3072.Idx, (z 1).val < 2048 → C4 z = GM X18 X16 z := by
    rw [← hC4]
    intro z hz
    have l0 : (z 0).val < 256 := (z 0).isLt
    refine peelc (ms0_6 t).view _ _ _ _ _ (fun x hx => piece_g X18 X16 1536 _ _ x z (hx 0) (hx 1)) (fun hn => ?_)
    have hp3 : (z 1).val < 1536 := by have := not_in (y := fun a => (z a).val) hn; omega
    clear hn
    refine peelc (ms0_6 t).view _ _ _ _ _ (fun x hx => piece_g X18 X16 1024 _ _ x z (hx 0) (hx 1)) (fun hn => ?_)
    have hp2 : (z 1).val < 1024 := by have := not_in (y := fun a => (z a).val) hn; omega
    clear hn
    refine peelc (ms0_6 t).view _ _ _ _ _ (fun x hx => piece_g X18 X16 512 _ _ x z (hx 0) (hx 1)) (fun hn => ?_)
    have hp1 : (z 1).val < 512 := by have := not_in (y := fun a => (z a).val) hn; omega
    clear hn
    refine peelc (ms0_6 t).view _ _ _ _ _ (fun x hx => piece_g X18 X16 0 _ _ x z (hx 0) (hx 1)) (fun hn => ?_)
    have hp0 : (z 1).val < 0 := by have := not_in (y := fun a => (z a).val) hn; omega
    clear hn
    omega
  clear hC4
  have k3 : ∀ z : S256x3072.Idx, (z 1).val < 1536 → C3 z = GM X18 X16 z := by
    rw [← hC3]
    intro z hz
    have l0 : (z 0).val < 256 := (z 0).isLt
    refine peelc (ms0_6 t).view _ _ _ _ _ (fun x hx => piece_g X18 X16 1024 _ _ x z (hx 0) (hx 1)) (fun hn => ?_)
    have hp2 : (z 1).val < 1024 := by have := not_in (y := fun a => (z a).val) hn; omega
    clear hn
    refine peelc (ms0_6 t).view _ _ _ _ _ (fun x hx => piece_g X18 X16 512 _ _ x z (hx 0) (hx 1)) (fun hn => ?_)
    have hp1 : (z 1).val < 512 := by have := not_in (y := fun a => (z a).val) hn; omega
    clear hn
    refine peelc (ms0_6 t).view _ _ _ _ _ (fun x hx => piece_g X18 X16 0 _ _ x z (hx 0) (hx 1)) (fun hn => ?_)
    have hp0 : (z 1).val < 0 := by have := not_in (y := fun a => (z a).val) hn; omega
    clear hn
    omega
  clear hC3
  have k2 : ∀ z : S256x3072.Idx, (z 1).val < 1024 → C2 z = GM X18 X16 z := by
    rw [← hC2]
    intro z hz
    have l0 : (z 0).val < 256 := (z 0).isLt
    refine peelc (ms0_6 t).view _ _ _ _ _ (fun x hx => piece_g X18 X16 512 _ _ x z (hx 0) (hx 1)) (fun hn => ?_)
    have hp1 : (z 1).val < 512 := by have := not_in (y := fun a => (z a).val) hn; omega
    clear hn
    refine peelc (ms0_6 t).view _ _ _ _ _ (fun x hx => piece_g X18 X16 0 _ _ x z (hx 0) (hx 1)) (fun hn => ?_)
    have hp0 : (z 1).val < 0 := by have := not_in (y := fun a => (z a).val) hn; omega
    clear hn
    omega
  clear hC2
  generalize GM X18 X16 = G at k2 k3 k4 k5 k6 ⊢
  generalize hH : View.canon (Val := Elt Ideal) (s := S256x1536) (e := .bf16) _ = H
  obtain rfl : H = HM G := by
    rw [← hH]
    clear hH
    funext z
    have l1 : (z 1).val < 1536 := (z 1).isLt
    have l0 : (z 0).val < 256 := (z 0).isLt
    generalize hP : (z 1).val / 256 * 4 + (z 0).val / 128 * 2 + (z 1).val % 256 / 128 = P
    have hq : P < 24 := by omega
    refine peelc (View.whole cc0_scratch3) _ _ _ _ _ (fun x hx => ?_) (fun hn => ?_)
    · generalize hA : (fun j => C6 ((Rect.unit (s := S256x3072) ![128, 2688] ![128, 128] inb_S256x3072_S128x128_128_2688).idx j)) = A
      generalize hB : (fun j => C6 ((Rect.unit (s := S256x3072) ![128, 2944] ![128, 128] inb_S256x3072_S128x128_128_2944).idx j)) = B
      exact piece_hc G C6 3072 k6 128 2688 2944 1408 inb_S256x3072_S128x128_128_2688 inb_S256x3072_S128x128_128_2944 A B x z hA hB (hx 0) (hx 1) rfl rfl rfl (by decide) (by decide)
    have hp23 : P < 23 := by have := not_in (y := fun a => (z a).val) hn; omega
    clear hn
    refine peelc (View.whole cc0_scratch3) _ _ _ _ _ (fun x hx => ?_) (fun hn => ?_)
    · generalize hA : (fun j => C6 ((Rect.unit (s := S256x3072) ![128, 2560] ![128, 128] inb_S256x3072_S128x128_128_2560).idx j)) = A
      generalize hB : (fun j => C6 ((Rect.unit (s := S256x3072) ![128, 2816] ![128, 128] inb_S256x3072_S128x128_128_2816).idx j)) = B
      exact piece_hc G C6 3072 k6 128 2560 2816 1280 inb_S256x3072_S128x128_128_2560 inb_S256x3072_S128x128_128_2816 A B x z hA hB (hx 0) (hx 1) rfl rfl rfl (by decide) (by decide)
    have hp22 : P < 22 := by have := not_in (y := fun a => (z a).val) hn; omega
    clear hn
    refine peelc (View.whole cc0_scratch3) _ _ _ _ _ (fun x hx => ?_) (fun hn => ?_)
    · generalize hA : (fun j => C6 ((Rect.unit (s := S256x3072) ![0, 2688] ![128, 128] inb_S256x3072_S128x128_0_2688).idx j)) = A
      generalize hB : (fun j => C6 ((Rect.unit (s := S256x3072) ![0, 2944] ![128, 128] inb_S256x3072_S128x128_0_2944).idx j)) = B
      exact piece_hc G C6 3072 k6 0 2688 2944 1408 inb_S256x3072_S128x128_0_2688 inb_S256x3072_S128x128_0_2944 A B x z hA hB (hx 0) (hx 1) rfl rfl rfl (by decide) (by decide)
    have hp21 : P < 21 := by have := not_in (y := fun a => (z a).val) hn; omega
    clear hn
    refine peelc (View.whole cc0_scratch3) _ _ _ _ _ (fun x hx => ?_) (fun hn => ?_)
    · generalize hA : (fun j => C6 ((Rect.unit (s := S256x3072) ![0, 2560] ![128, 128] inb_S256x3072_S128x128_0_2560).idx j)) = A
      generalize hB : (fun j => C6 ((Rect.unit (s := S256x3072) ![0, 2816] ![128, 128] inb_S256x3072_S128x128_0_2816).idx j)) = B
      exact piece_hc G C6 3072 k6 0 2560 2816 1280 inb_S256x3072_S128x128_0_2560 inb_S256x3072_S128x128_0_2816 A B x z hA hB (hx 0) (hx 1) rfl rfl rfl (by decide) (by decide)
    have hp20 : P < 20 := by have := not_in (y := fun a => (z a).val) hn; omega
    clear hn
    refine peelc (View.whole cc0_scratch3) _ _ _ _ _ (fun x hx => ?_) (fun hn => ?_)
    · generalize hA : (fun j => C6 ((Rect.unit (s := S256x3072) ![128, 2176] ![128, 128] inb_S256x3072_S128x128_128_2176).idx j)) = A
      generalize hB : (fun j => C6 ((Rect.unit (s := S256x3072) ![128, 2432] ![128, 128] inb_S256x3072_S128x128_128_2432).idx j)) = B
      exact piece_hc G C6 3072 k6 128 2176 2432 1152 inb_S256x3072_S128x128_128_2176 inb_S256x3072_S128x128_128_2432 A B x z hA hB (hx 0) (hx 1) rfl rfl rfl (by decide) (by decide)
    have hp19 : P < 19 := by have := not_in (y := fun a => (z a).val) hn; omega
    clear hn
    refine peelc (View.whole cc0_scratch3) _ _ _ _ _ (fun x hx => ?_) (fun hn => ?_)
    · generalize hA : (fun j => C6 ((Rect.unit (s := S256x3072) ![128, 2048] ![128, 128] inb_S256x3072_S128x128_128_2048).idx j)) = A
      generalize hB : (fun j => C6 ((Rect.unit (s := S256x3072) ![128, 2304] ![128, 128] inb_S256x3072_S128x128_128_2304).idx j)) = B
      exact piece_hc G C6 3072 k6 128 2048 2304 1024 inb_S256x3072_S128x128_128_2048 inb_S256x3072_S128x128_128_2304 A B x z hA hB (hx 0) (hx 1) rfl rfl rfl (by decide) (by decide)
    have hp18 : P < 18 := by have := not_in (y := fun a => (z a).val) hn; omega
    clear hn
    refine peelc (View.whole cc0_scratch3) _ _ _ _ _ (fun x hx => ?_) (fun hn => ?_)
    · generalize hA : (fun j => C6 ((Rect.unit (s := S256x3072) ![0, 2176] ![128, 128] inb_S256x3072_S128x128_0_2176).idx j)) = A
      generalize hB : (fun j => C6 ((Rect.unit (s := S256x3072) ![0, 2432] ![128, 128] inb_S256x3072_S128x128_0_2432).idx j)) = B
      exact piece_hc G C6 3072 k6 0 2176 2432 1152 inb_S256x3072_S128x128_0_2176 inb_S256x3072_S128x128_0_2432 A B x z hA hB (hx 0) (hx 1) rfl rfl rfl (by decide) (by decide)
    have hp17 : P < 17 := by have := not_in (y := fun a => (z a).val) hn; omega
    clear hn
    refine peelc (View.whole cc0_scratch3) _ _ _ _ _ (fun x hx => ?_) (fun hn => ?_)
    · generalize hA : (fun j => C6 ((Rect.unit (s := S256x3072) ![0, 2048] ![128, 128] inb_S256x3072_S128x128_0_2048).idx j)) = A
      generalize hB : (fun j => C6 ((Rect.unit (s := S256x3072) ![0, 2304] ![128, 128] inb_S256x3072_S128x128_0_2304).idx j)) = B
      exact piece_hc G C6 3072 k6 0 2048 2304 1024 inb_S256x3072_S128x128_0_2048 inb_S256x3072_S128x128_0_2304 A B x z hA hB (hx 0) (hx 1) rfl rfl rfl (by decide) (by decide)
    have hp16 : P < 16 := by have := not_in (y := fun a => (z a).val) hn; omega
    clear hn
    refine peelc (View.whole cc0_scratch3) _ _ _ _ _ (fun x hx => ?_) (fun hn => ?_)
    · generalize hA : (fun j => C5 ((Rect.unit (s := S256x3072) ![128, 1664] ![128, 128] inb_S256x3072_S128x128_128_1664).idx j)) = A
      generalize hB : (fun j => C5 ((Rect.unit (s := S256x3072) ![128, 1920] ![128, 128] inb_S256x3072_S128x128_128_1920).idx j)) = B
      exact piece_hc G C5 2560 k5 128 1664 1920 896 inb_S256x3072_S128x128_128_1664 inb_S256x3072_S128x128_128_1920 A B x z hA hB (hx 0) (hx 1) rfl rfl rfl (by decide) (by decide)
    have hp15 : P < 15 := by have := not_in (y := fun a => (z a).val) hn; omega
    clear hn
    refine peelc (View.whole cc0_scratch3) _ _ _ _ _ (fun x hx => ?_) (fun hn => ?_)
    · generalize hA : (fun j => C5 ((Rect.unit (s := S256x3072) ![128, 1536] ![128, 128] inb_S256x3072_S128x128_128_1536).idx j)) = A
      generalize hB : (fun j => C5 ((Rect.unit (s := S256x3072) ![128, 1792] ![128, 128] inb_S256x3072_S128x128_128_1792).idx j)) = B
      exact piece_hc G C5 2560 k5 128 1536 1792 768 inb_S256x3072_S128x128_128_1536 inb_S256x3072_S128x128_128_1792 A B x z hA hB (hx 0) (hx 1) rfl rfl rfl (by decide) (by decide)
    have hp14 : P < 14 := by have := not_in (y := fun a => (z a).val) hn; omega
    clear hn
    refine peelc (View.whole cc0_scratch3) _ _ _ _ _ (fun x hx => ?_) (fun hn => ?_)
    · generalize hA : (fun j => C5 ((Rect.unit (s := S256x3072) ![0, 1664] ![128, 128] inb_S256x3072_S128x128_0_1664).idx j)) = A
      generalize hB : (fun j => C5 ((Rect.unit (s := S256x3072) ![0, 1920] ![128, 128] inb_S256x3072_S128x128_0_1920).idx j)) = B
      exact piece_hc G C5 2560 k5 0 1664 1920 896 inb_S256x3072_S128x128_0_1664 inb_S256x3072_S128x128_0_1920 A B x z hA hB (hx 0) (hx 1) rfl rfl rfl (by decide) (by decide)
    have hp13 : P < 13 := by have := not_in (y := fun a => (z a).val) hn; omega
    clear hn
    refine peelc (View.whole cc0_scratch3) _ _ _ _ _ (fun x hx => ?_) (fun hn => ?_)
    · generalize hA : (fun j => C5 ((Rect.unit (s := S256x3072) ![0, 1536] ![128, 128] inb_S256x3072_S128x128_0_1536).idx j)) = A
      generalize hB : (fun j => C5 ((Rect.unit (s := S256x3072) ![0, 1792] ![128, 128] inb_S256x3072_S128x128_0_1792).idx j)) = B
      exact piece_hc G C5 2560 k5 0 1536 1792 768 inb_S256x3072_S128x128_0_1536 inb_S256x3072_S128x128_0_1792 A B x z hA hB (hx 0) (hx 1) rfl rfl rfl (by decide) (by decide)
    have hp12 : P < 12 := by have := not_in (y := fun a => (z a).val) hn; omega
    clear hn
    refine peelc (View.whole cc0_scratch3) _ _ _ _ _ (fun x hx => ?_) (fun hn => ?_)
    · generalize hA : (fun j => C4 ((Rect.unit (s := S256x3072) ![128, 1152] ![128, 128] inb_S256x3072_S128x128_128_1152).idx j)) = A
      generalize hB : (fun j => C4 ((Rect.unit (s := S256x3072) ![128, 1408] ![128, 128] inb_S256x3072_S128x128_128_1408).idx j)) = B
      exact piece_hc G C4 2048 k4 128 1152 1408 640 inb_S256x3072_S128x128_128_1152 inb_S256x3072_S128x128_128_1408 A B x z hA hB (hx 0) (hx 1) rfl rfl rfl (by decide) (by decide)
    have hp11 : P < 11 := by have := not_in (y := fun a => (z a).val) hn; omega
    clear hn
    refine peelc (View.whole cc0_scratch3) _ _ _ _ _ (fun x hx => ?_) (fun hn => ?_)
    · generalize hA : (fun j => C4 ((Rect.unit (s := S256x3072) ![128, 1024] ![128, 128] inb_S256x3072_S128x128_128_1024).idx j)) = A
      generalize hB : (fun j => C4 ((Rect.unit (s := S256x3072) ![128, 1280] ![128, 128] inb_S256x3072_S128x128_128_1280).idx j)) = B
      exact piece_hc G C4 2048 k4 128 1024 1280 512 inb_S256x3072_S128x128_128_1024 inb_S256x3072_S128x128_128_1280 A B x z hA hB (hx 0) (hx 1) rfl rfl rfl (by decide) (by decide)
    have hp10 : P < 10 := by have := not_in (y := fun a => (z a).val) hn; omega
    clear hn
    refine peelc (View.whole cc0_scratch3) _ _ _ _ _ (fun x hx => ?_) (fun hn => ?_)
    · generalize hA : (fun j => C4 ((Rect.unit (s := S256x3072) ![0, 1152] ![128, 128] inb_S256x3072_S128x128_0_1152).idx j)) = A
      generalize hB : (fun j => C4 ((Rect.unit (s := S256x3072) ![0, 1408] ![128, 128] inb_S256x3072_S128x128_0_1408).idx j)) = B
      exact piece_hc G C4 2048 k4 0 1152 1408 640 inb_S256x3072_S128x128_0_1152 inb_S256x3072_S128x128_0_1408 A B x z hA hB (hx 0) (hx 1) rfl rfl rfl (by decide) (by decide)
    have hp9 : P < 9 := by have := not_in (y := fun a => (z a).val) hn; omega
    clear hn
    refine peelc (View.whole cc0_scratch3) _ _ _ _ _ (fun x hx => ?_) (fun hn => ?_)
    · generalize hA : (fun j => C4 ((Rect.unit (s := S256x3072) ![0, 1024] ![128, 128] inb_S256x3072_S128x128_0_1024).idx j)) = A
      generalize hB : (fun j => C4 ((Rect.unit (s := S256x3072) ![0, 1280] ![128, 128] inb_S256x3072_S128x128_0_1280).idx j)) = B
      exact piece_hc G C4 2048 k4 0 1024 1280 512 inb_S256x3072_S128x128_0_1024 inb_S256x3072_S128x128_0_1280 A B x z hA hB (hx 0) (hx 1) rfl rfl rfl (by decide) (by decide)
    have hp8 : P < 8 := by have := not_in (y := fun a => (z a).val) hn; omega
    clear hn
    refine peelc (View.whole cc0_scratch3) _ _ _ _ _ (fun x hx => ?_) (fun hn => ?_)
    · generalize hA : (fun j => C3 ((Rect.unit (s := S256x3072) ![128, 640] ![128, 128] inb_S256x3072_S128x128_128_640).idx j)) = A
      generalize hB : (fun j => C3 ((Rect.unit (s := S256x3072) ![128, 896] ![128, 128] inb_S256x3072_S128x128_128_896).idx j)) = B
      exact piece_hc G C3 1536 k3 128 640 896 384 inb_S256x3072_S128x128_128_640 inb_S256x3072_S128x128_128_896 A B x z hA hB (hx 0) (hx 1) rfl rfl rfl (by decide) (by decide)
    have hp7 : P < 7 := by have := not_in (y := fun a => (z a).val) hn; omega
    clear hn
    refine peelc (View.whole cc0_scratch3) _ _ _ _ _ (fun x hx => ?_) (fun hn => ?_)
    · generalize hA : (fun j => C3 ((Rect.unit (s := S256x3072) ![128, 512] ![128, 128] inb_S256x3072_S128x128_128_512).idx j)) = A
      generalize hB : (fun j => C3 ((Rect.unit (s := S256x3072) ![128, 768] ![128, 128] inb_S256x3072_S128x128_128_768).idx j)) = B
      exact piece_hc G C3 1536 k3 128 512 768 256 inb_S256x3072_S128x128_128_512 inb_S256x3072_S128x128_128_768 A B x z hA hB (hx 0) (hx 1) rfl rfl rfl (by decide) (by decide)
    have hp6 : P < 6 := by have := not_in (y := fun a => (z a).val) hn; omega
    clear hn
    refine peelc (View.whole cc0_scratch3) _ _ _ _ _ (fun x hx => ?_) (fun hn => ?_)
    · generalize hA : (fun j => C3 ((Rect.unit (s := S256x3072) ![0, 640] ![128, 128] inb_S256x3072_S128x128_0_640).idx j)) = A
      generalize hB : (fun j => C3 ((Rect.unit (s := S256x3072) ![0, 896] ![128, 128] inb_S256x3072_S128x128_0_896).idx j)) = B
      exact piece_hc G C3 1536 k3 0 640 896 384 inb_S256x3072_S128x128_0_640 inb_S256x3072_S128x128_0_896 A B x z hA hB (hx 0) (hx 1) rfl rfl rfl (by decide) (by decide)
    have hp5 : P < 5 := by have := not_in (y := fun a => (z a).val) hn; omega
    clear hn
    refine peelc (View.whole cc0_scratch3) _ _ _ _ _ (fun x hx => ?_) (fun hn => ?_)
    · generalize hA : (fun j => C3 ((Rect.unit (s := S256x3072) ![0, 512] ![128, 128] inb_S256x3072_S128x128_0_512).idx j)) = A
      generalize hB : (fun j => C3 ((Rect.unit (s := S256x3072) ![0, 768] ![128, 128] inb_S256x3072_S128x128_0_768).idx j)) = B
      exact piece_hc G C3 1536 k3 0 512 768 256 inb_S256x3072_S128x128_0_512 inb_S256x3072_S128x128_0_768 A B x z hA hB (hx 0) (hx 1) rfl rfl rfl (by decide) (by decide)
    have hp4 : P < 4 := by have := not_in (y := fun a => (z a).val) hn; omega
    clear hn
    refine peelc (View.whole cc0_scratch3) _ _ _ _ _ (fun x hx => ?_) (fun hn => ?_)
    · generalize hA : (fun j => C2 ((Rect.unit (s := S256x3072) ![128, 128] ![128, 128] inb_S256x3072_S128x128_128_128).idx j)) = A
      generalize hB : (fun j => C2 ((Rect.unit (s := S256x3072) ![128, 384] ![128, 128] inb_S256x3072_S128x128_128_384).idx j)) = B
      exact piece_hc G C2 1024 k2 128 128 384 128 inb_S256x3072_S128x128_128_128 inb_S256x3072_S128x128_128_384 A B x z hA hB (hx 0) (hx 1) rfl rfl rfl (by decide) (by decide)
    have hp3 : P < 3 := by have := not_in (y := fun a => (z a).val) hn; omega
    clear hn
    refine peelc (View.whole cc0_scratch3) _ _ _ _ _ (fun x hx => ?_) (fun hn => ?_)
    · generalize hA : (fun j => C2 ((Rect.unit (s := S256x3072) ![128, 0] ![128, 128] inb_S256x3072_S128x128_128_0).idx j)) = A
      generalize hB : (fun j => C2 ((Rect.unit (s := S256x3072) ![128, 256] ![128, 128] inb_S256x3072_S128x128_128_256).idx j)) = B
      exact piece_hc G C2 1024 k2 128 0 256 0 inb_S256x3072_S128x128_128_0 inb_S256x3072_S128x128_128_256 A B x z hA hB (hx 0) (hx 1) rfl rfl rfl (by decide) (by decide)
    have hp2 : P < 2 := by have := not_in (y := fun a => (z a).val) hn; omega
    clear hn
    refine peelc (View.whole cc0_scratch3) _ _ _ _ _ (fun x hx => ?_) (fun hn => ?_)
    · generalize hA : (fun j => C2 ((Rect.unit (s := S256x3072) ![0, 128] ![128, 128] inb_S256x3072_S128x128_0_128).idx j)) = A
      generalize hB : (fun j => C2 ((Rect.unit (s := S256x3072) ![0, 384] ![128, 128] inb_S256x3072_S128x128_0_384).idx j)) = B
      exact piece_hc G C2 1024 k2 0 128 384 128 inb_S256x3072_S128x128_0_128 inb_S256x3072_S128x128_0_384 A B x z hA hB (hx 0) (hx 1) rfl rfl rfl (by decide) (by decide)
    have hp1 : P < 1 := by have := not_in (y := fun a => (z a).val) hn; omega
    clear hn
    refine peelc (View.whole cc0_scratch3) _ _ _ _ _ (fun x hx => ?_) (fun hn => ?_)
    · generalize hA : (fun j => C2 ((Rect.unit (s := S256x3072) ![0, 0] ![128, 128] inb_S256x3072_S128x128_0_0).idx j)) = A
      generalize hB : (fun j => C2 ((Rect.unit (s := S256x3072) ![0, 256] ![128, 128] inb_S256x3072_S128x128_0_256).idx j)) = B
      exact piece_hc G C2 1024 k2 0 0 256 0 inb_S256x3072_S128x128_0_0 inb_S256x3072_S128x128_0_256 A B x z hA hB (hx 0) (hx 1) rfl rfl rfl (by decide) (by decide)
    have hp0 : P < 0 := by have := not_in (y := fun a => (z a).val) hn; omega
    clear hn
    omega
  clear hH k2 k3 k4 k5 k6
  generalize HM G = H
  have l1 : (y 1).val < 4096 := (y 1).isLt
  have l0 : (y 0).val < 256 := (y 0).isLt
  refine peelr _ _ _ _ _ _ _ rfl (fun x hx => piece_y H X17 3584 _ _ x y (hx 0) (hx 1)) (fun hn => ?_)
  have hp7 : (y 1).val < 3584 := by have := not_in (y := fun a => (y a).val) hn; omega
  clear hn
  refine peelr _ _ _ _ _ _ _ rfl (fun x hx => piece_y H X17 3072 _ _ x y (hx 0) (hx 1)) (fun hn => ?_)
  have hp6 : (y 1).val < 3072 := by have := not_in (y := fun a => (y a).val) hn; omega
  clear hn
  refine peelr _ _ _ _ _ _ _ rfl (fun x hx => piece_y H X17 2560 _ _ x y (hx 0) (hx 1)) (fun hn => ?_)
  have hp5 : (y 1).val < 2560 := by have := not_in (y := fun a => (y a).val) hn; omega
  clear hn
  refine peelr _ _ _ _ _ _ _ rfl (fun x hx => piece_y H X17 2048 _ _ x y (hx 0) (hx 1)) (fun hn => ?_)
  have hp4 : (y 1).val < 2048 := by have := not_in (y := fun a => (y a).val) hn; omega
  clear hn
  refine peelr _ _ _ _ _ _ _ rfl (fun x hx => piece_y H X17 1536 _ _ x y (hx 0) (hx 1)) (fun hn => ?_)
  have hp3 : (y 1).val < 1536 := by have := not_in (y := fun a => (y a).val) hn; omega
  clear hn
  refine peelr _ _ _ _ _ _ _ rfl (fun x hx => piece_y H X17 1024 _ _ x y (hx 0) (hx 1)) (fun hn => ?_)
  have hp2 : (y 1).val < 1024 := by have := not_in (y := fun a => (y a).val) hn; omega
  clear hn
  refine peelr _ _ _ _ _ _ _ rfl (fun x hx => piece_y H X17 512 _ _ x y (hx 0) (hx 1)) (fun hn => ?_)
  have hp1 : (y 1).val < 512 := by have := not_in (y := fun a => (y a).val) hn; omega
  clear hn
  refine peelr _ _ _ _ _ _ _ rfl (fun x hx => piece_y H X17 0 _ _ x y (hx 0) (hx 1)) (fun hn => ?_)
  have hp0 : (y 1).val < 0 := by have := not_in (y := fun a => (y a).val) hn; omega
  clear hn
  omega

end Cert.FwdHand
end
-- ==== Proof.FwdSpec.lean ====
module

public import proofs.«01_k».proof.Proof.FwdUnit

@[expose] public section
noncomputable section
namespace Cert.FwdHand

/-! ## The forward pass of one row -/

/-- A row of activations, quantized in groups of 128 and scaled back. -/
def xh (x : Fin 4096 → EReal) (k : Fin 4096) : EReal :=
  HAT (AMAX fun j => x ⟨k.val / 128 * 128 + j.val, by omega⟩) (x k)

/-- The row against the two halves of the first weight. -/
def gg (x : Fin 4096 → EReal) (W : Fin 4096 → Fin 2 → Fin 1536 → EReal) (g : Fin 2) (f : Fin 1536) : EReal :=
  ∑ k : Fin 4096, xh x k * W k g f

/-- The gated products of the row. -/
def hid (x : Fin 4096 → EReal) (W : Fin 4096 → Fin 2 → Fin 1536 → EReal) (f : Fin 1536) : EReal :=
  GATE (gg x W 0 f) (gg x W 1 f)

/-- The gated products, quantized in groups of 128 and scaled back. -/
def hh (x : Fin 4096 → EReal) (W : Fin 4096 → Fin 2 → Fin 1536 → EReal) (f : Fin 1536) : EReal :=
  HAT (AMAX fun j => hid x W ⟨f.val / 128 * 128 + j.val, by omega⟩) (hid x W f)

/-- The row's result: those against the second weight. -/
def yy (x : Fin 4096 → EReal) (W : Fin 4096 → Fin 2 → Fin 1536 → EReal) (U : Fin 1536 → Fin 4096 → EReal) (d : Fin 4096) : EReal :=
  ∑ f : Fin 1536, hh x W f * U f d

end Cert.FwdHand
end
-- ==== Proof.FwdValue.lean ====
module

public import proofs.«01_k».proof.Proof.FwdStepC
public import proofs.«01_k».proof.Proof.FwdStepD
public import proofs.«01_k».proof.Proof.FwdStepY
public import proofs.«01_k».proof.Proof.FwdSpec
public import Idealize.ShloMosaic.Lib.Pipeline.ArrRel

@[expose] public section
set_option maxRecDepth 16384
set_option maxHeartbeats 1000000
noncomputable section
namespace Cert.FwdHand
open Cert.FwdIdeal Cert.FwdIdeal.Gen Idealize.ShloMosaic Idealize.ShloMosaic.TcCoe Idealize.SL.Sem
open Idealize.ShloMosaic.Pipeline (RDat)
variable (m : (ℓ : Loc nD τ sig) → Buf (Elt Ideal) ℓ)

/-! ## The result of the whole run -/

/-- The first weight, scaled, where the kernel keeps it. -/
def W13V (A1 : S2x4096x1536.Idx → EReal) (A2 : S768.Idx → EReal) (y : S4096x3072.Idx) : EReal :=
  A1 (ix3 (⟨(y 1).val % 512 / 256, by omega⟩ : Fin 2) (y 0)
      (⟨(y 1).val / 512 * 256 + (y 1).val % 256, by have : (y 1).val < 3072 := (y 1).isLt; omega⟩ : Fin 1536))
    * A2 (ix1 (⟨(((y 1).val / 512 * 2 + (y 1).val % 256 / 128) * 2 + (y 1).val % 512 / 256) * 32 + (y 0).val / 128, by
        have : (y 1).val < 3072 := (y 1).isLt; have : (y 0).val < 4096 := (y 0).isLt; omega⟩ : Fin 768))

/-- The second weight, scaled, where the kernel keeps it. -/
def U2V (A3 : S1536x4096.Idx → EReal) (A4 : S384.Idx → EReal) (y : S1536x4096.Idx) : EReal :=
  A3 y * A4 (ix1 (⟨(y 0).val / 128 * 32 + (y 1).val / 128, by
      have : (y 1).val < 4096 := (y 1).isLt; have : (y 0).val < 1536 := (y 0).isLt; omega⟩ : Fin 384))

/-- Tile `i` of the activations. -/
def TILE (A0 : S12288x4096.Idx → EReal) (i : ℕ) (hi : i < 48) : Vec Ideal S256x4096 .bf16 := fun z =>
  A0 (ix2 (⟨256 * i + (z 0).val, by have : (z 0).val < 256 := (z 0).isLt; omega⟩ : Fin 12288) (z 1))

theorem idxs : ∀ t : Fin cfg0.N, win0_0.index t = ![0] ∧ win0_1.index t = ![0] ∧ (32 ≤ t.val → win0_2.index t = ![min (t.val - 32) 47, 0])
    ∧ (t.val < 32 → win0_3.index t = ![0, t.val, 0]) ∧ (t.val < 12 → win0_4.index t = ![t.val, 0])
    ∧ (33 ≤ t.val → win0_5.index t = ![t.val - 33, 0]) :=
  (by decide +kernel : ∀ t : Fin grid0.N, _)

theorem flush5 : ∀ t : Fin cfg0.N, (cfg0.win 5).flush t = true → 32 < t.val :=
  (by decide +kernel : ∀ t : Fin grid0.N, _)

theorem b13_eq (c : Dev nD) (t : Fin cfg0.N) (ht : t.val < 32) (y : S4096x3072.Idx) (h0 : 128 * t.val ≤ (y 0).val) (h1 : (y 0).val < 128 * t.val + 128) :
    B13 (iblk m c 0 t) (iblk m c 3 t) y = W13V (m ((c : Thread nD τ).loc main_arg1)) (m ((c : Thread nD τ).loc main_arg2)) y := by
  obtain ⟨e0, -, -, e3, -, -⟩ := idxs t
  have e3 := e3 ht
  unfold B13 W13V
  congr 1
  · blk_ext [iblk, V, e3]
    all_goals omega
  · blk_ext [iblk, V, e0]

theorem b2_eq (c : Dev nD) (t : Fin cfg0.N) (ht : t.val < 12) (y : S1536x4096.Idx) (h0 : 128 * t.val ≤ (y 0).val) (h1 : (y 0).val < 128 * t.val + 128) :
    B2 (iblk m c 1 t) (iblk m c 4 t) y = U2V (m ((c : Thread nD τ).loc main_arg3)) (m ((c : Thread nD τ).loc main_arg4)) y := by
  obtain ⟨-, e1, -, -, e4, -⟩ := idxs t
  have e4 := e4 ht
  unfold B2 U2V
  congr 1
  · blk_ext [iblk, V, e4]
    all_goals omega
  · blk_ext [iblk, V, e1]

theorem tile_eq (c : Dev nD) (t : Fin cfg0.N) (ht : 32 ≤ t.val) (i : ℕ) (hi : i < 48) (hit : i = min (t.val - 32) 47) :
    iblk m c 2 t = TILE (m ((c : Thread nD τ).loc main_arg0)) i hi := by
  obtain ⟨-, -, e2, -, -, -⟩ := idxs t
  have e2 := e2 ht
  rw [← hit] at e2
  funext z
  unfold TILE
  blk_ext [iblk, V, e2]
  all_goals omega

/-- What the scratch buffers hold before point `n`: the weights prepared so far, and the tile the point works on. -/
def INV (c : Dev nD) (n : ℕ) (X16 : Vec Ideal S4096x3072 .bf16) (X17 : Vec Ideal S1536x4096 .bf16) (X18 : Vec Ideal S256x4096 .bf16) : Prop :=
  (∀ y : S4096x3072.Idx, (y 0).val < 128 * min n 32 → X16 y = W13V (m ((c : Thread nD τ).loc main_arg1)) (m ((c : Thread nD τ).loc main_arg2)) y)
    ∧ (∀ y : S1536x4096.Idx, (y 0).val < 128 * min n 12 → X17 y = U2V (m ((c : Thread nD τ).loc main_arg3)) (m ((c : Thread nD τ).loc main_arg4)) y)
    ∧ (33 ≤ n → X18 = XM (TILE (m ((c : Thread nD τ).loc main_arg0)) (min (n - 33) 47) (by omega)))

/-- Tile `i` of the result. -/
def YT (c : Dev nD) (i : ℕ) (hi : i < 48) : Vec Ideal S256x4096 .bf16 :=
  YM (HM (GM (XM (TILE (m ((c : Thread nD τ).loc main_arg0)) i hi)) (W13V (m ((c : Thread nD τ).loc main_arg1)) (m ((c : Thread nD τ).loc main_arg2))))) (U2V (m ((c : Thread nD τ).loc main_arg3)) (m ((c : Thread nD τ).loc main_arg4)))

theorem YT_congr (c : Dev nD) (i j : ℕ) (hi : i < 48) (hj : j < 48) (e : i = j) (x y : S256x4096.Idx) (h : x = y) : YT m c i hi x = YT m c j hj y := by
  subst e h
  rfl

/-- What a point leaves of the result. -/
def YP (c : Dev nD) (t : Fin cfg0.N) (X : Vec Ideal S256x4096 .bf16) : Prop :=
  X = YT m c (min (t.val - 33) 47) (by omega)

theorem stepA : StepA (F := Ideal) m (INV m) := by
  intro c t hc1 hc2 hc3 hc4 X16 X17 X18 h
  have ht := (cond2 t).mp hc2
  obtain ⟨i16, i17, i18⟩ := h
  refine ⟨fun y hy => ?_, fun y hy => ?_, fun hn => by omega⟩
  · by_cases h0 : (y 0).val < 128 * t.val
    · rw [RA16_old m c t hc1 hc2 hc3 hc4 X16 X17 y h0]
      exact i16 y (by omega)
    · rw [RA16_new m c t hc1 hc2 hc3 hc4 X16 X17 y (by omega) (by omega) (by omega)]
      exact b13_eq m c t (by omega) y (by omega) (by omega)
  · by_cases h0 : (y 0).val < 128 * t.val
    · rw [RA17_old m c t hc1 hc2 hc3 hc4 X16 X17 y h0]
      exact i17 y (by omega)
    · rw [RA17_new m c t hc1 hc2 hc3 hc4 X16 X17 y (by omega) (by omega) (by omega)]
      exact b2_eq m c t (by omega) y (by omega) (by omega)

theorem stepB : StepB (F := Ideal) m (INV m) := by
  intro c t hc1 hc2 hc3 hc4 X16 X17 X18 h
  have ht := (cond1 t).mp hc1
  have ht' : ¬ t.val < 12 := fun h => hc2 ((cond2 t).mpr h)
  obtain ⟨i16, i17, i18⟩ := h
  refine ⟨fun y hy => ?_, fun y hy => i17 y (by omega), fun hn => by omega⟩
  by_cases h0 : (y 0).val < 128 * t.val
  · rw [RB16_old m c t hc1 hc2 hc3 hc4 X16 y h0]
    exact i16 y (by omega)
  · rw [RB16_new m c t hc1 hc2 hc3 hc4 X16 y (by omega) (by omega) (by omega)]
    exact b13_eq m c t (by omega) y (by omega) (by omega)

theorem stepC : StepC (F := Ideal) m (INV m) := by
  intro c t hc1 hc2 hc3 hc4 X18 Y7 Y8 Y9 Y10 Y12 d20 d21 d22 d23 d25 X16 X17 h
  have ht := (cond3 t).mp hc3
  obtain ⟨i16, i17, i18⟩ := h
  refine ⟨fun y hy => i16 y (by omega), fun y hy => i17 y (by omega), fun hn => ?_⟩
  funext y
  rw [RC18 m c t hc1 hc2 hc3 hc4 X18 Y7 Y8 Y9 Y10 Y12 d20 d21 d22 d23 d25 y, tile_eq m c t (by omega) (min (t.val + 1 - 33) 47) (by omega) (by omega)]

theorem stepD : StepD (F := Ideal) m (INV m) (YP m) := by
  intro c t hc1 hc2 hc3 hc4 X16 X17 Y5 X18 Y6 Y7 Y8 Y9 Y10 Y11 Y12 Y13 Y14 d19 d20 d21 d22 d23 d24 d25 h
  have ht := (cond4 t).mp hc4
  obtain ⟨i16, i17, i18⟩ := h
  have e18 := i18 (by omega)
  refine ⟨⟨fun y hy => i16 y (by omega), fun y hy => i17 y (by omega), fun hn => ?_⟩, ?_⟩
  · funext y
    rw [RD18 m c t hc1 hc2 hc3 hc4 X16 X17 Y5 X18 Y6 Y7 Y8 Y9 Y10 Y11 Y12 Y13 Y14 d19 d20 d21 d22 d23 d24 d25 y, tile_eq m c t (by omega) (min (t.val + 1 - 33) 47) (by omega) (by omega)]
  · unfold YP
    funext y
    rw [RD6 m c t hc1 hc2 hc3 hc4 X16 X17 Y5 X18 Y6 Y7 Y8 Y9 Y10 Y11 Y12 Y13 Y14 d19 d20 d21 d22 d23 d24 d25 y]
    have e16 : X16 = W13V (m ((c : Thread nD τ).loc main_arg1)) (m ((c : Thread nD τ).loc main_arg2)) := funext fun z => i16 z (by have : (z 0).val < 4096 := (z 0).isLt; omega)
    have e17 : X17 = U2V (m ((c : Thread nD τ).loc main_arg3)) (m ((c : Thread nD τ).loc main_arg4)) := funext fun z => i17 z (by have : (z 0).val < 1536 := (z 0).isLt; omega)
    rw [e16, e17, e18]
    rfl

/-- The run of the whole program, with what it leaves in the result. -/
theorem run_value (ρ) : θ_run defs (onTc (τ := τ) (main (F := Ideal))) (s₀ m ρ) (fun r => RDat.FramePost cfg0 (rdat m (INV m) (YP m)) (V m) r ∧ r.2.sem = fun _ => 0) :=
  run_main_quiescent m ρ (INV m) (YP m)
    (fun c X16 X17 X18 => ⟨fun y hy => by simp at hy, fun y hy => by simp at hy, fun hn => by omega⟩)
    (stepA m) (stepB m) (stepC m) (stepD m)

/-- The result's element at row `i 0`. -/
def YV (c : Dev nD) (i : S12288x4096.Idx) : EReal :=
  YT m c ((i 0).val / 256) (by have : (i 0).val < 12288 := (i 0).isLt; omega) (ix2 (⟨(i 0).val % 256, by omega⟩ : Fin 256) (i 1))

theorem kernel_value (c : Dev nD) (r) (h : RDat.FramePost cfg0 (rdat m (INV m) (YP m)) (V m) r) :
    r.2.mem ((cfg0.spec 5).arr.view.loc (c.tc : Thread nD τ)) = YV m c := by
  obtain ⟨after, hL, hA⟩ := RDat.FramePost.exists_exact h c
  rw [hA 5]
  refine ((rdat m (INV m) (YP m) c).withAfter after).arrAt_eq_of_covers 5 _ (by decide +kernel) fun t hf y => ?_
  have h33 := flush5 t hf
  obtain ⟨Y, -, ha⟩ := hL 5 t hf
  have ha' : after 5 t = YT m c (min (t.val - 33) 47) (by omega) := ha h33
  have key : after 5 t y = _ := congrFun ha' y
  have tlt : t.val < 81 := t.isLt
  obtain ⟨-, -, -, -, -, e5⟩ := idxs t
  have e5 := e5 (by omega)
  blk_simp
  refine key.trans ?_
  clear key ha ha' hL hA hf
  have hi : ((win0_5.blk t).view.emb y 0).val = 256 * (t.val - 33) + (y 0).val ∧ ((win0_5.blk t).view.emb y 1).val = (y 1).val := by
    refine ⟨?_, ?_⟩ <;> blk_simp [e5] <;> omega
  generalize (win0_5.blk t).view.emb y = i at hi ⊢
  obtain ⟨hi0, hi1⟩ := hi
  have l0 : (y 0).val < 256 := (y 0).isLt
  unfold YV
  have hq : min (t.val - 33) 47 = (i 0).val / 256 := by omega
  have hy : y = ix2 (⟨(i 0).val % 256, by omega⟩ : Fin 256) (i 1) := by
    funext a
    fin_cases a <;> apply Fin.ext
    · show (y 0).val = (i 0).val % 256
      omega
    · exact hi1.symm
  exact YT_congr m c _ _ _ _ hq y _ hy

end Cert.FwdHand
end
-- ==== Proof.FwdRefPay.lean ====
module

public import proofs.«01_k».proof.Proof.Gen.FwdRefIdeal.Skeleton
public import proofs.«01_k».proof.Proof.FwdSpec

@[expose] public section

set_option maxRecDepth 16384
set_option maxHeartbeats 1000000

noncomputable section

namespace Cert.FwdRefHand

open Cert.FwdRefIdeal Cert.FwdRefIdeal.Gen Idealize.ShloMosaic Idealize.ShloMosaic.TcCoe Idealize.SL.Sem
open Cert.FwdHand (AMAX EXPO HAT GATE xh gg hid hh yy)

/-! ## The reference's body at an index -/

theorem pay2_apply (v0 : Vec Ideal S4096x2x1536 .fp8e4m3) (v2 : Vec Ideal S32x2x12 .f32) (k : Fin 4096) (g : Fin 2) (f : Fin 1536) :
    k0_pay2 (F := Ideal) v0 v2 (ix3 k g f) = HMul.hMul (α := EReal) (β := EReal) (v0 (ix3 k g f))
      (v2 (ix3 (⟨k.val / 128, by omega⟩ : Fin 32) g (⟨f.val / 128, by omega⟩ : Fin 12))) := by
  unfold k0_pay2
  pointwise

theorem pay3_apply (v11 : Vec Ideal S1536x4096 .fp8e4m3) (v12 : Vec Ideal S12x32 .f32) (f : Fin 1536) (d : Fin 4096) :
    k0_pay3 (F := Ideal) v11 v12 (ix2 f d) = HMul.hMul (α := EReal) (β := EReal) (v11 (ix2 f d))
      (v12 (ix2 (⟨f.val / 128, by omega⟩ : Fin 12) (⟨d.val / 128, by omega⟩ : Fin 32))) := by
  unfold k0_pay3
  pointwise

theorem pay4_apply (v21 : Vec Ideal S24x512x4096 .bf16) (b : Fin 24) (s : Fin 512) (q : Fin 32) (j : Fin 128) :
    k0_pay4 (F := Ideal) v21 (ix4 b s q j) = v21 (ix3 b s (⟨q.val * 128 + j.val, by omega⟩ : Fin 4096)) := by
  unfold k0_pay4
  pointwise

theorem red32 (src : FVec Ideal S24x512x32x128 .f32) (acc : BitVec 32) (hφ) (hacc) (b : Fin 24) (s : Fin 512) (q : Fin 32) :
    multiReduction (F := Ideal) .maximumf [3] S24x512x32 src acc reduces_S24x512x32x128_S24x512x32 hφ hacc (ix3 b s q)
      = Finset.fold max (FloatOps.ofBits (F := Ideal) .f32 acc) (fun j : Fin 128 => src (ix4 b s q j)) Finset.univ := by
  rw [Ideal.multiReduction_maximumf_single]
  congr 1
  funext j
  show src _ = src _
  congr 1
  funext a
  fin_cases a <;> rfl

theorem red12 (src : FVec Ideal S24x512x12x128 .f32) (acc : BitVec 32) (hφ) (hacc) (b : Fin 24) (s : Fin 512) (q : Fin 12) :
    multiReduction (F := Ideal) .maximumf [3] S24x512x12 src acc reduces_S24x512x12x128_S24x512x12 hφ hacc (ix3 b s q)
      = Finset.fold max (FloatOps.ofBits (F := Ideal) .f32 acc) (fun j : Fin 128 => src (ix4 b s q j)) Finset.univ := by
  rw [Ideal.multiReduction_maximumf_single]
  congr 1
  funext j
  show src _ = src _
  congr 1
  funext a
  fin_cases a <;> rfl

/-- The exponents of a vector of largest magnitudes. -/
theorem expo_apply {s : Shape} (T : FVec Ideal s .f32) (y : s.Idx) :
    select (cmpf .oeq T (broadcast s (FloatOps.ofBits (F := Ideal) FTy.f32 0#32))) (broadcast s (FloatOps.ofBits (F := Ideal) FTy.f32 0#32))
      (addf (floor (divf (log (mulf T (broadcast s (FloatOps.ofBits (F := Ideal) FTy.f32 991054117#32)))) (log (broadcast s (FloatOps.ofBits (F := Ideal) FTy.f32 1073741824#32)))))
        (broadcast s (FloatOps.ofBits (F := Ideal) FTy.f32 1065353216#32))) y = EXPO (T y) := by
  unfold EXPO
  pointwise

theorem sc32 (R : FVec Ideal S24x512x32 .f32) (b : Fin 24) (s : Fin 512) (q : Fin 32) :
    shapeCast S24x512x32x1 R shapeCasts_S24x512x32_S24x512x32x1 (ix4 b s q 0) = R (ix3 b s q) := by
  pointwise

theorem sc12 (R : FVec Ideal S24x512x12 .f32) (b : Fin 24) (s : Fin 512) (q : Fin 12) :
    shapeCast S24x512x12x1 R shapeCasts_S24x512x12_S24x512x12x1 (ix4 b s q 0) = R (ix3 b s q) := by
  pointwise

theorem amax32 (v21 : Vec Ideal S24x512x4096 .bf16) (b : Fin 24) (s : Fin 512) (q : Fin 32) :
    multiReduction (F := Ideal) .maximumf [3] S24x512x32 (absf (k0_pay4 v21)) 0xFF800000#32 reduces_S24x512x32x128_S24x512x32 (.inl rfl) rfl (ix3 b s q)
      = AMAX fun j => v21 (ix3 b s (⟨q.val * 128 + j.val, by omega⟩ : Fin 4096)) := by
  refine (red32 _ _ _ _ b s q).trans ?_
  unfold AMAX
  refine Finset.fold_congr fun j _ => ?_
  exact congrArg (FloatOps.absf (F := Ideal) (φ := .f32)) (pay4_apply v21 b s q j)

theorem pay5_apply (v21 : Vec Ideal S24x512x4096 .bf16) (b : Fin 24) (s : Fin 512) (q : Fin 32) :
    k0_pay5 (F := Ideal) v21 (ix4 b s q 0) = EXPO (AMAX fun j => v21 (ix3 b s (⟨q.val * 128 + j.val, by omega⟩ : Fin 4096))) := by
  rw [← amax32]
  unfold k0_pay5
  dsimp only
  generalize multiReduction (F := Ideal) .maximumf [3] S24x512x32 (absf (k0_pay4 v21)) 0xFF800000#32 reduces_S24x512x32x128_S24x512x32 (.inl rfl) rfl = R
  exact (expo_apply _ _).trans (congrArg EXPO (sc32 R b s q))

theorem amax12 (v : FVec Ideal S24x512x12x128 .f32) (b : Fin 24) (s : Fin 512) (q : Fin 12) :
    multiReduction (F := Ideal) .maximumf [3] S24x512x12 (absf v) 0xFF800000#32 reduces_S24x512x12x128_S24x512x12 (.inl rfl) rfl (ix3 b s q)
      = AMAX fun j => v (ix4 b s q j) := by
  refine (red12 _ _ _ _ b s q).trans ?_
  unfold AMAX
  exact Finset.fold_congr fun j _ => rfl

theorem pay7_apply (v10 : FVec Ideal S4096x2x1536 .bf16) (v24 : FVec Ideal S24x512x32x128 .f32) (v40 : FVec Ideal S24x512x32x1 .f32)
    (b : Fin 24) (s : Fin 512) (q : Fin 12) :
    k0_pay7 (F := Ideal) v10 v24 v40 (ix4 b s q 0) = EXPO (AMAX fun j => k0_pay6 (F := Ideal) v10 v24 v40 (ix4 b s q j)) := by
  rw [← amax12]
  unfold k0_pay7
  dsimp only
  generalize multiReduction (F := Ideal) .maximumf [3] S24x512x12 (absf (k0_pay6 v10 v24 v40)) 0xFF800000#32 reduces_S24x512x12x128_S24x512x12 (.inl rfl) rfl = R
  exact (expo_apply _ _).trans (congrArg EXPO (sc12 R b s q))

/-- A number scaled by the power of `-e`, clipped, scaled by the power of `e`. -/
def HATE (e x : EReal) : EReal :=
  min (Ideal.ofBits FTy.f32 1138753536#32) (max (Ideal.ofBits FTy.f32 3286237184#32) (x * FloatOps.exp2 (F := Ideal) (φ := .f32) (0 - e)))
    * FloatOps.exp2 (F := Ideal) (φ := .f32) e

theorem pay6_raw (v10 : FVec Ideal S4096x2x1536 .bf16) (v24 : FVec Ideal S24x512x32x128 .f32) (v40 : FVec Ideal S24x512x32x1 .f32)
    (b : Fin 24) (s : Fin 512) (q : Fin 12) (j : Fin 128) :
    k0_pay6 (F := Ideal) v10 v24 v40 (ix4 b s q j)
      = GATE (∑ x : Fin 4096, HATE (v40 (ix4 b s (⟨x.val / 128, by omega⟩ : Fin 32) 0)) (v24 (ix4 b s (⟨x.val / 128, by omega⟩ : Fin 32) (⟨x.val % 128, by omega⟩ : Fin 128))) * v10 (ix3 x 0 (⟨q.val * 128 + j.val, by omega⟩ : Fin 1536)))
        (∑ x : Fin 4096, HATE (v40 (ix4 b s (⟨x.val / 128, by omega⟩ : Fin 32) 0)) (v24 (ix4 b s (⟨x.val / 128, by omega⟩ : Fin 32) (⟨x.val % 128, by omega⟩ : Fin 128))) * v10 (ix3 x 1 (⟨q.val * 128 + j.val, by omega⟩ : Fin 1536))) := by
  unfold k0_pay6 GATE HATE
  pointwise

/-- A gated product of the reference at an index. -/
theorem pay6_apply (v10 : FVec Ideal S4096x2x1536 .bf16) (v21 : Vec Ideal S24x512x4096 .bf16)
    (b : Fin 24) (s : Fin 512) (q : Fin 12) (j : Fin 128) :
    k0_pay6 (F := Ideal) v10 (k0_pay4 v21) (k0_pay5 v21) (ix4 b s q j)
      = hid (fun k => v21 (ix3 b s k)) (fun k g f => v10 (ix3 k g f)) ⟨q.val * 128 + j.val, by omega⟩ := by
  rw [pay6_raw]
  have e : ∀ k : Fin 4096, HATE (k0_pay5 (F := Ideal) v21 (ix4 b s (⟨k.val / 128, by omega⟩ : Fin 32) 0)) (k0_pay4 (F := Ideal) v21 (ix4 b s (⟨k.val / 128, by omega⟩ : Fin 32) (⟨k.val % 128, by omega⟩ : Fin 128)))
      = xh (fun k => v21 (ix3 b s k)) k := fun k => by
    have hk : (⟨k.val / 128 * 128 + k.val % 128, by omega⟩ : Fin 4096) = k := Fin.ext (by show k.val / 128 * 128 + k.val % 128 = k.val; omega)
    rw [pay5_apply, pay4_apply]
    unfold HATE xh HAT
    rw [hk]
  unfold hid gg
  simp only [e]

theorem pay1_raw (v20 : FVec Ideal S1536x4096 .bf16) (v69 : FVec Ideal S24x512x12x128 .f32) (v86 v89 : FVec Ideal S24x512x12x1 .f32)
    (r : Fin 12288) (d : Fin 4096) :
    k0_pay1 (F := Ideal) v20 v69 v86 v89 (ix2 r d)
      = ∑ f : Fin 1536, (min (Ideal.ofBits FTy.f32 1138753536#32) (max (Ideal.ofBits FTy.f32 3286237184#32) (v69 (ix4 (⟨r.val / 512, by omega⟩ : Fin 24) (⟨r.val % 512, by omega⟩ : Fin 512) (⟨f.val / 128, by omega⟩ : Fin 12) (⟨f.val % 128, by omega⟩ : Fin 128)) * v89 (ix4 (⟨r.val / 512, by omega⟩ : Fin 24) (⟨r.val % 512, by omega⟩ : Fin 512) (⟨f.val / 128, by omega⟩ : Fin 12) 0)))
          * v86 (ix4 (⟨r.val / 512, by omega⟩ : Fin 24) (⟨r.val % 512, by omega⟩ : Fin 512) (⟨f.val / 128, by omega⟩ : Fin 12) 0)) * v20 (ix2 f d) := by
  unfold k0_pay1
  pointwise

theorem neg_apply {s : Shape} (T : FVec Ideal s .f32) (y : s.Idx) :
    exp2 (subf (broadcast s (FloatOps.ofBits (F := Ideal) FTy.f32 0#32)) T) y
      = FloatOps.exp2 (F := Ideal) (φ := .f32) (HSub.hSub (α := EReal) (β := EReal) 0 (T y)) := by
  pointwise

theorem exp2_apply {s : Shape} (T : FVec Ideal s .f32) (y : s.Idx) : exp2 T y = FloatOps.exp2 (F := Ideal) (φ := .f32) (T y) := rfl

theorem pay8_apply (v10 : FVec Ideal S4096x2x1536 .bf16) (v24 : FVec Ideal S24x512x32x128 .f32) (v40 : FVec Ideal S24x512x32x1 .f32) (y : S24x512x12x1.Idx) :
    k0_pay8 (F := Ideal) v10 v24 v40 y = FloatOps.exp2 (F := Ideal) (φ := .f32) (k0_pay7 (F := Ideal) v10 v24 v40 y) := by
  unfold k0_pay8
  generalize k0_pay7 (F := Ideal) v10 v24 v40 = R
  exact exp2_apply R y

theorem pay9_apply (v10 : FVec Ideal S4096x2x1536 .bf16) (v24 : FVec Ideal S24x512x32x128 .f32) (v40 : FVec Ideal S24x512x32x1 .f32) (y : S24x512x12x1.Idx) :
    k0_pay9 (F := Ideal) v10 v24 v40 y = FloatOps.exp2 (F := Ideal) (φ := .f32) (HSub.hSub (α := EReal) (β := EReal) 0 (k0_pay7 (F := Ideal) v10 v24 v40 y)) := by
  unfold k0_pay9
  generalize k0_pay7 (F := Ideal) v10 v24 v40 = R
  exact neg_apply R y

/-- The reference's result at an index. -/
theorem pay1_apply (v20 : FVec Ideal S1536x4096 .bf16) (v10 : FVec Ideal S4096x2x1536 .bf16) (v21 : Vec Ideal S24x512x4096 .bf16)
    (r : Fin 12288) (d : Fin 4096) :
    k0_pay1 (F := Ideal) v20 (k0_pay6 v10 (k0_pay4 v21) (k0_pay5 v21)) (k0_pay8 v10 (k0_pay4 v21) (k0_pay5 v21)) (k0_pay9 v10 (k0_pay4 v21) (k0_pay5 v21)) (ix2 r d)
      = yy (fun k => v21 (ix3 (⟨r.val / 512, by omega⟩ : Fin 24) (⟨r.val % 512, by omega⟩ : Fin 512) k)) (fun k g f => v10 (ix3 k g f)) (fun f d => v20 (ix2 f d)) d := by
  rw [pay1_raw]
  unfold yy
  refine Finset.sum_congr rfl fun f _ => ?_
  have hf : (⟨f.val / 128 * 128 + f.val % 128, by omega⟩ : Fin 1536) = f := Fin.ext (by show f.val / 128 * 128 + f.val % 128 = f.val; omega)
  rw [pay8_apply, pay9_apply, pay7_apply]
  simp only [pay6_apply]
  unfold hh HAT
  rw [hf]

end Cert.FwdRefHand
end
-- ==== Proof.FwdRef.lean ====
module

public import proofs.«01_k».proof.Proof.Gen.FwdRefIdeal.Value
public import proofs.«01_k».proof.Proof.FwdRefPay
public import Idealize.ShloMosaic.Lib.Pipeline.ValueKit

@[expose] public section
set_option maxRecDepth 16384
set_option maxHeartbeats 1000000
noncomputable section
namespace Cert.FwdRefHand
open Cert.FwdRefIdeal Cert.FwdRefIdeal.Gen Idealize.ShloMosaic Idealize.ShloMosaic.TcCoe Idealize.SL.Sem
open Cert.FwdHand (yy)

variable (m : (ℓ : Loc nD τ sig) → Buf (Elt Ideal) ℓ)

/-- The first weight, scaled. -/
def WREF (A1 : S2x4096x1536.Idx → EReal) (A2 : S768.Idx → EReal) (k : Fin 4096) (g : Fin 2) (f : Fin 1536) : EReal :=
  A1 (ix3 g k f) * A2 (ix1 (⟨(f.val / 128 * 2 + g.val) * 32 + k.val / 128, by omega⟩ : Fin 768))

/-- The second weight, scaled. -/
def UREF (A3 : S1536x4096.Idx → EReal) (A4 : S384.Idx → EReal) (f : Fin 1536) (d : Fin 4096) : EReal :=
  A3 (ix2 f d) * A4 (ix1 (⟨f.val / 128 * 32 + d.val / 128, by omega⟩ : Fin 384))

/-- The array the reference leaves. -/
theorem ref_value (c : Dev nD) (i : S12288x4096.Idx) :
    (dats m 0 c).arrAt 5 cfg0.N i = k0_pay1 (F := Ideal) (k0_pay3 (iblk m c 3 t0_0) (iblk m c 4 t0_0))
      (k0_pay6 (k0_pay2 (iblk m c 1 t0_0) (iblk m c 2 t0_0)) (k0_pay4 (iblk m c 0 t0_0)) (k0_pay5 (iblk m c 0 t0_0)))
      (k0_pay8 (k0_pay2 (iblk m c 1 t0_0) (iblk m c 2 t0_0)) (k0_pay4 (iblk m c 0 t0_0)) (k0_pay5 (iblk m c 0 t0_0)))
      (k0_pay9 (k0_pay2 (iblk m c 1 t0_0) (iblk m c 2 t0_0)) (k0_pay4 (iblk m c 0 t0_0)) (k0_pay5 (iblk m c 0 t0_0))) i := by
  refine congrFun ((dats m 0 c).arrAt_eq_of_after_last 5 t0_0 (by decide +kernel) _ fun j => ?_) i
  blk_simp
  rw [after0_5]
  frame_out
  simp only [k0_pay10, k0_pay11, k0_pay12]
  frame_out

theorem idxs : win0_0.index t0_0 = ![0, 0, 0] ∧ win0_1.index t0_0 = ![0, 0, 0] ∧ win0_2.index t0_0 = ![0, 0, 0] ∧ win0_3.index t0_0 = ![0, 0] ∧ win0_4.index t0_0 = ![0, 0] := by
  decide +kernel

theorem in0 (c : Dev nD) (b : Fin 24) (s : Fin 512) (d : Fin 4096) (h : b.val * 512 + s.val < 12288) :
    iblk m c 0 t0_0 (ix3 b s d) = m ((c : Thread nD τ).loc main_arg0) (ix2 ⟨b.val * 512 + s.val, h⟩ d) := by
  have e := idxs.1
  have h1 : iblk m c 0 t0_0 (ix3 b s d) = V m c main_v0 (ix3 b s d) := by
    unfold iblk
    blk_ext [e]
  rw [h1]
  entry_read
  pointwise

theorem in1 (c : Dev nD) (k : Fin 4096) (g : Fin 2) (f : Fin 1536) :
    iblk m c 1 t0_0 (ix3 k g f) = m ((c : Thread nD τ).loc main_arg1) (ix3 g k f) := by
  have e := idxs.2.1
  have h1 : iblk m c 1 t0_0 (ix3 k g f) = V m c main_v1 (ix3 k g f) := by
    unfold iblk
    blk_ext [e]
  rw [h1]
  entry_read
  pointwise

theorem in2 (c : Dev nD) (kb : Fin 32) (g : Fin 2) (fb : Fin 12) :
    iblk m c 2 t0_0 (ix3 kb g fb) = m ((c : Thread nD τ).loc main_arg2) (ix1 (⟨(fb.val * 2 + g.val) * 32 + kb.val, by omega⟩ : Fin 768)) := by
  have e := idxs.2.2.1
  have h1 : iblk m c 2 t0_0 (ix3 kb g fb) = V m c main_v3 (ix3 kb g fb) := by
    unfold iblk
    blk_ext [e]
  rw [h1]
  entry_read
  pointwise
  exact congrArg (m ((c : Thread nD τ).loc main_arg2)) (congrArg ix1 (Fin.ext (by show fb.val * 64 + g.val * 32 + kb.val = (fb.val * 2 + g.val) * 32 + kb.val; omega)))

theorem in3 (c : Dev nD) (y : S1536x4096.Idx) : iblk m c 3 t0_0 y = m ((c : Thread nD τ).loc main_arg3) y := by
  have e := idxs.2.2.2.1
  blk_ext [iblk, e]

theorem in4 (c : Dev nD) (fb : Fin 12) (db : Fin 32) :
    iblk m c 4 t0_0 (ix2 fb db) = m ((c : Thread nD τ).loc main_arg4) (ix1 (⟨fb.val * 32 + db.val, by omega⟩ : Fin 384)) := by
  have e := idxs.2.2.2.2
  have h1 : iblk m c 4 t0_0 (ix2 fb db) = V m c main_v4 (ix2 fb db) := by
    unfold iblk
    blk_ext [e]
  rw [h1]
  entry_read
  pointwise

/-- The reference's result at row `r`, column `d`. -/
theorem ref_apply (c : Dev nD) (r : Fin 12288) (d : Fin 4096) :
    (dats m 0 c).arrAt 5 cfg0.N (ix2 r d) = yy (fun k => m ((c : Thread nD τ).loc main_arg0) (ix2 r k))
      (WREF (m ((c : Thread nD τ).loc main_arg1)) (m ((c : Thread nD τ).loc main_arg2))) (UREF (m ((c : Thread nD τ).loc main_arg3)) (m ((c : Thread nD τ).loc main_arg4))) d := by
  rw [ref_value, pay1_apply]
  congr 1
  · funext k
    rw [in0 m c _ _ _ (by show r.val / 512 * 512 + r.val % 512 < 12288; omega)]
    congr 2
    exact Fin.ext (by show r.val / 512 * 512 + r.val % 512 = r.val; omega)
  · funext k g f
    rw [pay2_apply, in1, in2]
    rfl
  · funext f d
    rw [pay3_apply, in3, in4]
    rfl

end Cert.FwdRefHand
end
-- ==== Proof.FwdTie.lean ====
module

public import proofs.«01_k».proof.Defs
public import proofs.«01_k».proof.Proof.FwdValue
public import proofs.«01_k».proof.Proof.FwdRef

@[expose] public section
set_option maxRecDepth 16384
set_option maxHeartbeats 1000000
noncomputable section
namespace Cert.FwdTie
open Idealize.ShloMosaic Idealize.ShloMosaic.TcCoe Idealize.SL.Sem
open Cert.FwdHand

theorem ix3_congr (k : Fin 4096) (a a' : Fin 2) (b b' : Fin 1536) (ha : a = a') (hb : b = b') :
    (ix3 a k b : FwdIdeal.S2x4096x1536.Idx) = ix3 a' k b' := by
  subst ha hb
  rfl

/-- The kernel's weight, at the column that holds half `g` of hidden unit `f`, is the reference's. -/
theorem w_eq (A1 : FwdIdeal.S2x4096x1536.Idx → EReal) (A2 : FwdIdeal.S768.Idx → EReal) (k : Fin 4096) (g : ℕ) (hg : g < 2) (f : ℕ) (hf : f < 1536) :
    W13V A1 A2 (ix2 k (gcol g hg f hf)) = FwdRefHand.WREF A1 A2 k ⟨g, hg⟩ ⟨f, hf⟩ := by
  unfold W13V FwdRefHand.WREF gcol
  congr 1
  · congr 1
    refine ix3_congr k _ _ _ _ ?_ ?_
    · exact Fin.ext (by show (f / 256 * 512 + g * 256 + f % 256) % 512 / 256 = g; omega)
    · exact Fin.ext (by show (f / 256 * 512 + g * 256 + f % 256) / 512 * 256 + (f / 256 * 512 + g * 256 + f % 256) % 256 = f; omega)
  · congr 1
    refine congrArg _ (Fin.ext ?_)
    show (((f / 256 * 512 + g * 256 + f % 256) / 512 * 2 + (f / 256 * 512 + g * 256 + f % 256) % 256 / 128) * 2 + (f / 256 * 512 + g * 256 + f % 256) % 512 / 256) * 32 + k.val / 128
      = (f / 128 * 2 + g) * 32 + k.val / 128
    omega

theorem x_eq (A0 : FwdIdeal.S12288x4096.Idx → EReal) (i : ℕ) (hi : i < 48) (z : Fin 256) (k : Fin 4096) (h : 256 * i + z.val < 12288) :
    XM (TILE A0 i hi) (ix2 z k) = xh (fun k => A0 (ix2 ⟨256 * i + z.val, h⟩ k)) k := rfl

theorem g_eq (A0 : FwdIdeal.S12288x4096.Idx → EReal) (A1 : FwdIdeal.S2x4096x1536.Idx → EReal) (A2 : FwdIdeal.S768.Idx → EReal)
    (i : ℕ) (hi : i < 48) (z : Fin 256) (h : 256 * i + z.val < 12288) (g : ℕ) (hg : g < 2) (f : ℕ) (hf : f < 1536) :
    GM (XM (TILE A0 i hi)) (W13V A1 A2) (ix2 z (gcol g hg f hf))
      = gg (fun k => A0 (ix2 ⟨256 * i + z.val, h⟩ k)) (FwdRefHand.WREF A1 A2) ⟨g, hg⟩ ⟨f, hf⟩ := by
  unfold GM gg
  refine Finset.sum_congr rfl fun k _ => ?_
  refine congr (congrArg _ (x_eq A0 i hi z k h)) (w_eq A1 A2 k g hg f hf)

theorem h_eq (A0 : FwdIdeal.S12288x4096.Idx → EReal) (A1 : FwdIdeal.S2x4096x1536.Idx → EReal) (A2 : FwdIdeal.S768.Idx → EReal)
    (i : ℕ) (hi : i < 48) (z : Fin 256) (h : 256 * i + z.val < 12288) (f : Fin 1536) :
    HM (GM (XM (TILE A0 i hi)) (W13V A1 A2)) (ix2 z f)
      = hh (fun k => A0 (ix2 ⟨256 * i + z.val, h⟩ k)) (FwdRefHand.WREF A1 A2) f := by
  unfold HM hh hid
  refine congr (congrArg _ (congrArg _ (funext fun j => ?_))) ?_
  · exact congr (congrArg _ (g_eq A0 A1 A2 i hi z h 0 (by decide) (f.val / 128 * 128 + j.val) (by omega))) (g_eq A0 A1 A2 i hi z h 1 (by decide) (f.val / 128 * 128 + j.val) (by omega))
  · exact congr (congrArg _ (g_eq A0 A1 A2 i hi z h 0 (by decide) f.val f.isLt)) (g_eq A0 A1 A2 i hi z h 1 (by decide) f.val f.isLt)

theorem y_eq (A0 : FwdIdeal.S12288x4096.Idx → EReal) (A1 : FwdIdeal.S2x4096x1536.Idx → EReal) (A2 : FwdIdeal.S768.Idx → EReal)
    (A3 : FwdIdeal.S1536x4096.Idx → EReal) (A4 : FwdIdeal.S384.Idx → EReal)
    (i : ℕ) (hi : i < 48) (z : Fin 256) (h : 256 * i + z.val < 12288) (d : Fin 4096) :
    YM (HM (GM (XM (TILE A0 i hi)) (W13V A1 A2))) (U2V A3 A4) (ix2 z d)
      = yy (fun k => A0 (ix2 ⟨256 * i + z.val, h⟩ k)) (FwdRefHand.WREF A1 A2) (FwdRefHand.UREF A3 A4) d := by
  unfold YM yy
  refine Finset.sum_congr rfl fun f _ => ?_
  exact congr (congrArg _ (h_eq A0 A1 A2 i hi z h f)) rfl

/-- From memories that agree on the arguments, the reference leaves the kernel's array. -/
theorem tie (m : (ℓ : Loc FwdIdeal.nD FwdIdeal.τ FwdIdeal.sig) → Buf (Elt Ideal) ℓ)
    (m' : (ℓ : Loc FwdRefIdeal.nD FwdRefIdeal.τ FwdRefIdeal.sig) → Buf (Elt Ideal) ℓ) (c : Dev FwdIdeal.nD)
    (h0 : m' ((c.tc : Thread FwdRefIdeal.nD FwdRefIdeal.τ).loc FwdRefIdeal.main_arg0) = m ((c.tc : Thread FwdIdeal.nD FwdIdeal.τ).loc FwdIdeal.main_arg0))
    (h1 : m' ((c.tc : Thread FwdRefIdeal.nD FwdRefIdeal.τ).loc FwdRefIdeal.main_arg1) = m ((c.tc : Thread FwdIdeal.nD FwdIdeal.τ).loc FwdIdeal.main_arg1))
    (h2 : m' ((c.tc : Thread FwdRefIdeal.nD FwdRefIdeal.τ).loc FwdRefIdeal.main_arg2) = m ((c.tc : Thread FwdIdeal.nD FwdIdeal.τ).loc FwdIdeal.main_arg2))
    (h3 : m' ((c.tc : Thread FwdRefIdeal.nD FwdRefIdeal.τ).loc FwdRefIdeal.main_arg3) = m ((c.tc : Thread FwdIdeal.nD FwdIdeal.τ).loc FwdIdeal.main_arg3))
    (h4 : m' ((c.tc : Thread FwdRefIdeal.nD FwdRefIdeal.τ).loc FwdRefIdeal.main_arg4) = m ((c.tc : Thread FwdIdeal.nD FwdIdeal.τ).loc FwdIdeal.main_arg4)) :
    (FwdRefIdeal.Gen.dats m' 0 c).arrAt 5 FwdRefIdeal.cfg0.N = YV m c := by
  funext i
  have hi : i = ix2 (i 0) (i 1) := by
    funext a
    fin_cases a <;> rfl
  have l0 : (i 0).val < 12288 := (i 0).isLt
  rw [hi]
  refine (FwdRefHand.ref_apply m' c (i 0) (i 1)).trans ?_
  rw [h0, h1, h2, h3, h4]
  refine Eq.trans ?_ (y_eq (m ((c.tc : Thread FwdIdeal.nD FwdIdeal.τ).loc FwdIdeal.main_arg0)) (m ((c.tc : Thread FwdIdeal.nD FwdIdeal.τ).loc FwdIdeal.main_arg1)) (m ((c.tc : Thread FwdIdeal.nD FwdIdeal.τ).loc FwdIdeal.main_arg2)) (m ((c.tc : Thread FwdIdeal.nD FwdIdeal.τ).loc FwdIdeal.main_arg3)) (m ((c.tc : Thread FwdIdeal.nD FwdIdeal.τ).loc FwdIdeal.main_arg4)) ((i 0).val / 256) (by omega) (⟨(i 0).val % 256, by omega⟩ : Fin 256)
    (by show 256 * ((i 0).val / 256) + (i 0).val % 256 < 12288; omega) (i 1)).symm
  have e : (⟨256 * ((i 0).val / 256) + (i 0).val % 256, by omega⟩ : Fin 12288) = i 0 := Fin.ext (by show 256 * ((i 0).val / 256) + (i 0).val % 256 = (i 0).val; omega)
  rw [e]

theorem final (m : (ℓ : Loc FwdIdeal.nD FwdIdeal.τ FwdIdeal.sig) → Buf (Elt Ideal) ℓ) (g : Dev FwdIdeal.nD → PrngReg) :
    θ_run (FwdIdeal.defs (F := Ideal)) (onTc (τ := FwdIdeal.τ) (FwdIdeal.main (F := Ideal))) ⟨m, fun _ => 0, g⟩ (fun r => (∀ c : Dev FwdIdeal.nD,
      r.2.mem ((c.tc : Thread FwdIdeal.nD FwdIdeal.τ).loc FwdIdeal.main_v0_0) = YV m c
      ∧ r.2.mem ((c.tc : Thread FwdIdeal.nD FwdIdeal.τ).loc FwdIdeal.main_arg0) = m ((c.tc : Thread FwdIdeal.nD FwdIdeal.τ).loc FwdIdeal.main_arg0)
      ∧ r.2.mem ((c.tc : Thread FwdIdeal.nD FwdIdeal.τ).loc FwdIdeal.main_arg1) = m ((c.tc : Thread FwdIdeal.nD FwdIdeal.τ).loc FwdIdeal.main_arg1)
      ∧ r.2.mem ((c.tc : Thread FwdIdeal.nD FwdIdeal.τ).loc FwdIdeal.main_arg2) = m ((c.tc : Thread FwdIdeal.nD FwdIdeal.τ).loc FwdIdeal.main_arg2)
      ∧ r.2.mem ((c.tc : Thread FwdIdeal.nD FwdIdeal.τ).loc FwdIdeal.main_arg3) = m ((c.tc : Thread FwdIdeal.nD FwdIdeal.τ).loc FwdIdeal.main_arg3)
      ∧ r.2.mem ((c.tc : Thread FwdIdeal.nD FwdIdeal.τ).loc FwdIdeal.main_arg4) = m ((c.tc : Thread FwdIdeal.nD FwdIdeal.τ).loc FwdIdeal.main_arg4))
      ∧ r.2.sem = fun _ => 0) := by
  refine (θ_run _ _ _).mono (fun r h => ⟨fun c => ⟨kernel_value m c r h.1, ?_, ?_, ?_, ?_, ?_⟩, h.2⟩) (run_value m g)
  · exact h.1.arr_in c 2 rfl
  · exact h.1.arr_in c 3 rfl
  · exact h.1.arr_in c 0 rfl
  · exact h.1.arr_in c 4 rfl
  · exact h.1.arr_in c 1 rfl

end Cert.FwdTie
end
-- ==== Proof.lean ====
/- The proof of the certificate's claims: the frames are the generated ones, the value claims are proved in Proof/. -/
module

public import proofs.«01_k».proof.Defs
public import proofs.«01_k».proof.Proof.Gen.Dw13
public import proofs.«01_k».proof.Proof.Gen.Dw13.Skeleton
public import proofs.«01_k».proof.Proof.Gen.Dw13.Launch
public import proofs.«01_k».proof.Proof.Gen.Dw13.Points
public import proofs.«01_k».proof.Proof.Gen.Dw13.Frame
public import proofs.«01_k».proof.Proof.Gen.Dw13Ideal
public import proofs.«01_k».proof.Proof.Gen.Dw13Ideal.Skeleton
public import proofs.«01_k».proof.Proof.Gen.Dw13Ideal.Launch
public import proofs.«01_k».proof.Proof.Gen.Dw13Ideal.Points
public import proofs.«01_k».proof.Proof.Gen.Dw13Ideal.Frame
public import proofs.«01_k».proof.Proof.Gen.Dw13RefIdeal
public import proofs.«01_k».proof.Proof.Gen.Dw13RefIdeal.Skeleton
public import proofs.«01_k».proof.Proof.Gen.Dw13RefIdeal.Launch
public import proofs.«01_k».proof.Proof.Gen.Dw13RefIdeal.Points
public import proofs.«01_k».proof.Proof.Gen.Dw13RefIdeal.Frame
public import proofs.«01_k».proof.Proof.Gen.Dw13Ideal.Value
public import proofs.«01_k».proof.Proof.Gen.Dw13RefIdeal.Value
public import proofs.«01_k».proof.Proof.Dw13Tie
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2RefIdeal
public import proofs.«01_k».proof.Proof.Gen.Dw2RefIdeal.Skeleton
public import proofs.«01_k».proof.Proof.Gen.Dw2RefIdeal.Launch
public import proofs.«01_k».proof.Proof.Gen.Dw2RefIdeal.Points
public import proofs.«01_k».proof.Proof.Gen.Dw2RefIdeal.Frame
public import proofs.«01_k».proof.Proof.Gen.Dw2Ideal.Value
public import proofs.«01_k».proof.Proof.Gen.Dw2RefIdeal.Value
public import proofs.«01_k».proof.Proof.Dw2Tie
public import proofs.«01_k».proof.Proof.Gen.Fwd
public import proofs.«01_k».proof.Proof.Gen.FwdIdeal
public import proofs.«01_k».proof.Proof.Gen.FwdRefIdeal
public import proofs.«01_k».proof.Proof.FwdBits
public import proofs.«01_k».proof.Proof.FwdTie
public import Idealize.ShloMosaic.Adequacy
public import Idealize.ShloMosaic.Init

@[expose] public section

noncomputable section

namespace Cert.Proof

open Idealize.ShloMosaic Idealize.SL.Sem

theorem algebraic_dw13 : @algebraic_Dw13Ideal_Dw13RefIdeal Cert.Dw13Ideal.Gen.facts Cert.Dw13RefIdeal.Gen.facts := by
  intro m g m' g' _ hagree
  refine ⟨fun c => (Cert.Dw13Ideal.Gen.dats m 0 c).arrAt 4 Cert.Dw13Ideal.cfg0.N, Cert.Dw13Ideal.Value.run_blocks m g, ?_⟩
  refine (θ_run _ _ _).mono (fun r h c => ?_) (Cert.Dw13RefIdeal.Value.run_blocks m' g')
  obtain ⟨h0, h1, h2, h3⟩ := hagree c
  exact ⟨(h c).1.trans (Cert.Dw13Tie.tie m m' c h0 h1 h2 h3), (h c).2⟩

theorem algebraic_dw2 : @algebraic_Dw2Ideal_Dw2RefIdeal Cert.Dw2Ideal.Gen.facts Cert.Dw2RefIdeal.Gen.facts := by
  intro m g m' g' _ hagree
  refine ⟨fun c => (Cert.Dw2Ideal.Gen.dats m 0 c).arrAt 4 Cert.Dw2Ideal.cfg0.N, Cert.Dw2Ideal.Value.run_blocks m g, ?_⟩
  refine (θ_run _ _ _).mono (fun r h c => ?_) (Cert.Dw2RefIdeal.Value.run_blocks m' g')
  obtain ⟨h0, h1, h2, h3⟩ := hagree c
  exact ⟨(h c).1.trans (Cert.Dw2Tie.tie m m' c h0 h1 h2 h3), (h c).2⟩

theorem algebraic_fwd : @algebraic_FwdIdeal_FwdRefIdeal Cert.FwdIdeal.Gen.facts Cert.FwdRefIdeal.Gen.facts := by
  intro m g m' g' _ hagree
  refine ⟨fun c => Cert.FwdHand.YV m c, (θ_run _ _ _).mono (fun r h => h.1) (Cert.FwdTie.final m g), ?_⟩
  refine (θ_run _ _ _).mono (fun r h c => ?_) (Cert.FwdRefIdeal.Value.run_blocks m' g')
  obtain ⟨h0, h1, h2, h3, h4⟩ := hagree c
  exact ⟨(h c).1.trans (Cert.FwdTie.tie m m' c h0 h1 h2 h3 h4), (h c).2⟩

theorem frame_fwd_ideal : @quiescent_FwdIdeal Cert.FwdIdeal.Gen.facts := by
  intro m g _
  exact (θ_run _ _ _).mono (fun r h => ⟨fun c => (h.1 c).2, h.2⟩) (Cert.FwdTie.final m g)

theorem claim : Cert.Claim := ⟨Cert.Dw13.Gen.facts, Cert.Dw13Ideal.Gen.facts, Cert.Dw13RefIdeal.Gen.facts,
  Cert.Dw2.Gen.facts, Cert.Dw2Ideal.Gen.facts, Cert.Dw2RefIdeal.Gen.facts,
  Cert.Fwd.Gen.facts, Cert.FwdIdeal.Gen.facts, Cert.FwdRefIdeal.Gen.facts,
  fun m g _ => Cert.Dw13.Gen.frame m g, fun m g _ => Cert.Dw13Ideal.Gen.frame m g, fun m g _ => Cert.Dw13RefIdeal.Gen.frame m g,
  fun m g _ => Cert.Dw2.Gen.frame m g, fun m g _ => Cert.Dw2Ideal.Gen.frame m g, fun m g _ => Cert.Dw2RefIdeal.Gen.frame m g,
  fun m g _ => Cert.FwdBitsHand.final m g, frame_fwd_ideal, fun m g _ => Cert.FwdRefIdeal.Gen.frame m g,
  trivial, algebraic_dw13, trivial, algebraic_dw2, trivial, algebraic_fwd⟩

end Cert.Proof

end
